-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_scores [hPre_finite_scores : Cert.Pre_finite_scores.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_scores.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_scores [hPre_finite_scores : Cert.Pre_finite_scores.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_scores.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite_scores [hKernel6Ideal : Cert.Kernel6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_scores m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite_scores [hReference6Ideal : Cert.Reference6Ideal.Facts] [hPre_finite_scores : Cert.Pre_finite_scores.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_scores m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_scores [hKernel6Ideal : Cert.Kernel6Ideal.Facts] [hReference6Ideal : Cert.Reference6Ideal.Facts] [hPre_finite_scores : Cert.Pre_finite_scores.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_scores m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_scores (hKernel6Ideal := hKernel6Ideal) (hPre_finite_scores := hPre_finite_scores)
    ∧ quiescent_Reference6Ideal (hReference6Ideal := hReference6Ideal)
    ∧ quiescent_Reference6Ideal_pre_finite_scores (hReference6Ideal := hReference6Ideal) (hPre_finite_scores := hPre_finite_scores)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_scores (hKernel6Ideal := hKernel6Ideal) (hReference6Ideal := hReference6Ideal) (hPre_finite_scores := hPre_finite_scores)
    ∧ preserves_Kernel7_Kernel7Ideal
    ∧ algebraic_Kernel7Ideal_Reference7Ideal (hKernel7Ideal := hKernel7Ideal) (hReference7Ideal := hReference7Ideal)
-- ==== Pre_finite_scores.lean ====
abbrev S2x4096x13312 : Shape := ⟨3, ![2, 4096, 13312]⟩
abbrev S512x2048 : Shape := ⟨2, ![512, 2048]⟩
abbrev S2x4096x1024 : Shape := ⟨3, ![2, 4096, 1024]⟩
abbrev S8192x1024 : Shape := ⟨2, ![8192, 1024]⟩
abbrev S512x1024 : Shape := ⟨2, ![512, 1024]⟩
abbrev S8704x1024 : Shape := ⟨2, ![8704, 1024]⟩
abbrev S_ : Shape := ⟨0, ![]⟩

class Facts : Prop where
  slices_S2x4096x13312_S2x4096x1024_0_0_12288 : S2x4096x13312.Slices ![0, 0, 12288] S2x4096x1024
  shapeCasts_S2x4096x1024_S8192x1024 : S2x4096x1024.ShapeCasts S8192x1024
  slices_S512x2048_S512x1024_0_0 : S512x2048.Slices ![0, 0] S512x1024
  concatenates_S8192x1024_S512x1024_S8704x1024_d0 : Shape.Concatenates [S8192x1024, S512x1024] S8704x1024 0
  bitsLt_bf16_f32 : FTy.bits .bf16 < FTy.bits .f32
  bcast_S_S8704x1024 : S_.BroadcastsInDim S8704x1024 (![] : Fin 0 → Fin S8704x1024.rank)

variable [Facts]

def fn {F : FTy → Type} [FloatOps F] (main_arg0 : FVec F S2x4096x13312 .bf16) (main_arg1 : FVec F S512x2048 .bf16) : IVec S8704x1024 1 :=
  let main_v0 : FVec F S2x4096x1024 .bf16 := (extractStridedSlice S2x4096x1024 ![0, 0, 12288] · slices_S2x4096x13312_S2x4096x1024_0_0_12288) main_arg0
  let main_v1 : FVec F S8192x1024 .bf16 := shapeCast S8192x1024 main_v0 shapeCasts_S2x4096x1024_S8192x1024
  let main_v2 : FVec F S512x1024 .bf16 := (extractStridedSlice S512x1024 ![0, 0] · slices_S512x2048_S512x1024_0_0) main_arg1
  let main_v3 : FVec F S8704x1024 .bf16 := (fun a b => concatenate S8704x1024 0 [⟨S8192x1024, a⟩, ⟨S512x1024, b⟩] concatenates_S8192x1024_S512x1024_S8704x1024_d0) main_v1 main_v2
  let main_v4 : FVec F S8704x1024 .f32 := (extf .f32 · bitsLt_bf16_f32) main_v3
  let main_v5 : FVec F S8704x1024 .f32 := Host.absf main_v4
  let main_cst : FVec F S_ .f32 := constant S_ .f32 0x7F800000#32
  let main_v6 : FVec F S8704x1024 .f32 := broadcastInDim S8704x1024 ![] bcast_S_S8704x1024 main_cst
  let main_v7 : IVec S8704x1024 1 := cmpf .olt main_v5 main_v6
  main_v7
-- ==== Kernel.lean ====
abbrev S2x4096x2048 : Shape := ⟨3, ![2, 4096, 2048]⟩
abbrev S2048x13320 : Shape := ⟨2, ![2048, 13320]⟩
abbrev S128 : Shape := ⟨1, ![128]⟩
abbrev S256 : Shape := ⟨1, ![256]⟩
abbrev S2048x8192 : Shape := ⟨2, ![2048, 8192]⟩
abbrev S8192x2048 : Shape := ⟨2, ![8192, 2048]⟩
abbrev S_ : Shape := ⟨0, ![]⟩
abbrev S13312 : Shape := ⟨1, ![13312]⟩
abbrev S1x128 : Shape := ⟨2, ![1, 128]⟩
abbrev S8x128 : Shape := ⟨2, ![8, 128]⟩
abbrev S1024 : Shape := ⟨1, ![1024]⟩
abbrev S1 : Shape := ⟨1, ![1]⟩
abbrev S1x256 : Shape := ⟨2, ![1, 256]⟩
abbrev S4x256 : Shape := ⟨2, ![4, 256]⟩
abbrev S13320x2048 : Shape := ⟨2, ![13320, 2048]⟩
abbrev S13x1024 : Shape := ⟨2, ![13, 1024]⟩
abbrev S13x1x1024 : Shape := ⟨3, ![13, 1, 1024]⟩
abbrev S8192x13312 : Shape := ⟨2, ![8192, 13312]⟩
abbrev S1024x2048 : Shape := ⟨2, ![1024, 2048]⟩
abbrev S1x1x1024 : Shape := ⟨3, ![1, 1, 1024]⟩
abbrev S32x8192 : Shape := ⟨2, ![32, 8192]⟩
abbrev S128x2048 : Shape := ⟨2, ![128, 2048]⟩
abbrev S1024x1024 : Shape := ⟨2, ![1024, 1024]⟩
abbrev S256x2048 : Shape := ⟨2, ![256, 2048]⟩
abbrev S1024x256 : Shape := ⟨2, ![1024, 256]⟩
abbrev S32x2048 : Shape := ⟨2, ![32, 2048]⟩
abbrev S1x1024 : Shape := ⟨2, ![1, 1024]⟩
abbrev S1024x128 : Shape := ⟨2, ![1024, 128]⟩
abbrev S1024x1 : Shape := ⟨2, ![1024, 1]⟩

abbrev nBuf : Space → Nat
  | .hbm => 40
  | .vmem => 17
  | .smem => 0
  | _ => 0

abbrev bufTy : (tb : Table) → Fin (tcTables nBuf tb) → BufTy
  | .hbm, ⟨0, _⟩ => ⟨S2x4096x2048, .bf16⟩
  | .hbm, ⟨1, _⟩ => ⟨S2048x13320, .f32⟩
  | .hbm, ⟨2, _⟩ => ⟨S128, .f32⟩
  | .hbm, ⟨3, _⟩ => ⟨S128, .f32⟩
  | .hbm, ⟨4, _⟩ => ⟨S256, .f32⟩
  | .hbm, ⟨5, _⟩ => ⟨S2048x8192, .f32⟩
  | .hbm, ⟨6, _⟩ => ⟨S8192x2048, .f32⟩
  | .hbm, ⟨7, _⟩ => ⟨S_, .f32⟩
  | .hbm, ⟨8, _⟩ => ⟨S13312, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S8x128, .f32⟩
  | .hbm, ⟨14, _⟩ => ⟨S1024, .f32⟩
  | .hbm, ⟨15, _⟩ => ⟨S_, .i32⟩
  | .hbm, ⟨16, _⟩ => ⟨S1, .i32⟩
  | .hbm, ⟨17, _⟩ => ⟨S13312, .f32⟩
  | .hbm, ⟨18, _⟩ => ⟨S1x128, .f32⟩
  | .hbm, ⟨19, _⟩ => ⟨S8x128, .f32⟩
  | .hbm, ⟨20, _⟩ => ⟨S1024, .f32⟩
  | .hbm, ⟨21, _⟩ => ⟨S_, .i32⟩
  | .hbm, ⟨22, _⟩ => ⟨S1, .i32⟩
  | .hbm, ⟨23, _⟩ => ⟨S13312, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S4x256, .f32⟩
  | .hbm, ⟨29, _⟩ => ⟨S1024, .f32⟩
  | .hbm, ⟨30, _⟩ => ⟨S_, .i32⟩
  | .hbm, ⟨31, _⟩ => ⟨S1, .i32⟩
  | .hbm, ⟨32, _⟩ => ⟨S13312, .f32⟩
  | .hbm, ⟨33, _⟩ => ⟨S13320x2048, .f32⟩
  | .hbm, ⟨34, _⟩ => ⟨S8192x2048, .bf16⟩
  | .hbm, ⟨35, _⟩ => ⟨S13x1024, .f32⟩
  | .hbm, ⟨36, _⟩ => ⟨S13x1x1024, .f32⟩
  | .hbm, ⟨37, _⟩ => ⟨S8192x13312, .bf16⟩
  | .hbm, ⟨38, _⟩ => ⟨S2048x8192, .bf16⟩
  | .hbm, ⟨39, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S32x8192, .f32⟩
  | .local _ .vmem, ⟨7, _⟩ => ⟨S32x8192, .f32⟩
  | .local _ .vmem, ⟨8, _⟩ => ⟨S128x2048, .f32⟩
  | .local _ .vmem, ⟨9, _⟩ => ⟨S128x2048, .f32⟩
  | .local _ .vmem, ⟨10, _⟩ => ⟨S1024x1024, .bf16⟩
  | .local _ .vmem, ⟨11, _⟩ => ⟨S1024x1024, .bf16⟩
  | .local _ .vmem, ⟨12, _⟩ => ⟨S32x8192, .bf16⟩
  | .local _ .vmem, ⟨13, _⟩ => ⟨S32x8192, .bf16⟩
  | .local _ .vmem, ⟨14, _⟩ => ⟨S128x2048, .bf16⟩
  | .local _ .vmem, ⟨15, _⟩ => ⟨S128x2048, .bf16⟩
  | .local _ .vmem, ⟨16, _⟩ => ⟨S1024x2048, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![13, 8], ![false, false]⟩

def k0_mult1 (i : grid0.Coords) : BitVec 32 :=
  let arg0 : BitVec 32 := BitVec.ofNat 32 (i 0).val
  let c12_i32 : BitVec 32 := 12#32
  let v22 : BitVec 1 := Scalar.cmpi .eq arg0 c12_i32
  let c6152_i32 : BitVec 32 := 6152#32
  let c11_i32 : BitVec 32 := 11#32
  let v20 : BitVec 1 := Scalar.cmpi .eq arg0 c11_i32
  let c5120_i32 : BitVec 32 := 5120#32
  let c10_i32 : BitVec 32 := 10#32
  let v18 : BitVec 1 := Scalar.cmpi .eq arg0 c10_i32
  let c4096_i32 : BitVec 32 := 4096#32
  let c9_i32 : BitVec 32 := 9#32
  let v16 : BitVec 1 := Scalar.cmpi .eq arg0 c9_i32
  let c3072_i32 : BitVec 32 := 3072#32
  let c8_i32 : BitVec 32 := 8#32
  let v14 : BitVec 1 := Scalar.cmpi .eq arg0 c8_i32
  let c2048_i32 : BitVec 32 := 2048#32
  let c7_i32 : BitVec 32 := 7#32
  let v12 : BitVec 1 := Scalar.cmpi .eq arg0 c7_i32
  let c1024_i32 : BitVec 32 := 1024#32
  let c6_i32 : BitVec 32 := 6#32
  let v10 : BitVec 1 := Scalar.cmpi .eq arg0 c6_i32
  let c0_i32 : BitVec 32 := 0#32
  let c5_i32 : BitVec 32 := 5#32
  let v8 : BitVec 1 := Scalar.cmpi .eq arg0 c5_i32
  let c12296_i32 : BitVec 32 := 12296#32
  let c4_i32 : BitVec 32 := 4#32
  let v6 : BitVec 1 := Scalar.cmpi .eq arg0 c4_i32
  let c10248_i32 : BitVec 32 := 10248#32
  let c3_i32 : BitVec 32 := 3#32
  let v4 : BitVec 1 := Scalar.cmpi .eq arg0 c3_i32
  let c8200_i32 : BitVec 32 := 8200#32
  let c2_i32 : BitVec 32 := 2#32
  let v2 : BitVec 1 := Scalar.cmpi .eq arg0 c2_i32
  let c11272_i32 : BitVec 32 := 11272#32
  let c1_i32 : BitVec 32 := 1#32
  let v0 : BitVec 1 := Scalar.cmpi .eq arg0 c1_i32
  let c9224_i32 : BitVec 32 := 9224#32
  let c7176_i32 : BitVec 32 := 7176#32
  let v1 : BitVec 32 := Scalar.select v0 c9224_i32 c7176_i32
  let v3 : BitVec 32 := Scalar.select v2 c11272_i32 v1
  let v5 : BitVec 32 := Scalar.select v4 c8200_i32 v3
  let v7 : BitVec 32 := Scalar.select v6 c10248_i32 v5
  let v9 : BitVec 32 := Scalar.select v8 c12296_i32 v7
  let v11 : BitVec 32 := Scalar.select v10 c0_i32 v9
  let v13 : BitVec 32 := Scalar.select v12 c1024_i32 v11
  let v15 : BitVec 32 := Scalar.select v14 c2048_i32 v13
  let v17 : BitVec 32 := Scalar.select v16 c3072_i32 v15
  let v19 : BitVec 32 := Scalar.select v18 c4096_i32 v17
  let v21 : BitVec 32 := Scalar.select v20 c5120_i32 v19
  let v23 : BitVec 32 := Scalar.select v22 c6152_i32 v21
  v23
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let c1_i32 : BitVec 32 := 1#32
  let v4 : BitVec 1 := Scalar.cmpi .eq arg0 c1_i32
  let v9 : BitVec 1 := Scalar.ori v3 v4
  let c2_i32 : BitVec 32 := 2#32
  let v5 : BitVec 1 := Scalar.cmpi .eq arg0 c2_i32
  let v10 : BitVec 1 := Scalar.ori v9 v5
  let c3_i32 : BitVec 32 := 3#32
  let v6 : BitVec 1 := Scalar.cmpi .eq arg0 c3_i32
  let v11 : BitVec 1 := Scalar.ori v10 v6
  let c4_i32 : BitVec 32 := 4#32
  let v7 : BitVec 1 := Scalar.cmpi .eq arg0 c4_i32
  let v12 : BitVec 1 := Scalar.ori v11 v7
  let c5_i32 : BitVec 32 := 5#32
  let v8 : BitVec 1 := Scalar.cmpi .eq arg0 c5_i32
  let v13 : BitVec 1 := Scalar.ori v12 v8
  let v14 : BitVec 32 := Scalar.extui v13
  let c0_i32_2 : BitVec 32 := 0#32
  let v15 : BitVec 1 := Scalar.cmpi .ne v14 c0_i32_2
  v15

def k0_cond3 (i : grid0.Coords) : BitVec 1 :=
  let arg0 : BitVec 32 := BitVec.ofNat 32 (i 0).val
  let c8_i32 : BitVec 32 := 8#32
  let v16 : BitVec 1 := Scalar.cmpi .eq arg0 c8_i32
  let c11_i32 : BitVec 32 := 11#32
  let v17 : BitVec 1 := Scalar.cmpi .eq arg0 c11_i32
  let v18 : BitVec 1 := Scalar.ori v16 v17
  let v19 : BitVec 32 := Scalar.extui v18
  let c0_i32_3 : BitVec 32 := 0#32
  let v20 : BitVec 1 := Scalar.cmpi .ne v19 c0_i32_3
  v20

def k0_cond4 (i : grid0.Coords) : BitVec 1 :=
  let arg0 : BitVec 32 := BitVec.ofNat 32 (i 0).val
  let c6_i32 : BitVec 32 := 6#32
  let v21 : BitVec 1 := Scalar.cmpi .eq arg0 c6_i32
  let c7_i32 : BitVec 32 := 7#32
  let v22 : BitVec 1 := Scalar.cmpi .eq arg0 c7_i32
  let v23 : BitVec 1 := Scalar.ori v21 v22
  let v24 : BitVec 32 := Scalar.extui v23
  let c0_i32_4 : BitVec 32 := 0#32
  let v25 : BitVec 1 := Scalar.cmpi .ne v24 c0_i32_4
  v25

def k0_cond5 (i : grid0.Coords) : BitVec 1 :=
  let arg0 : BitVec 32 := BitVec.ofNat 32 (i 0).val
  let c9_i32 : BitVec 32 := 9#32
  let v26 : BitVec 1 := Scalar.cmpi .eq arg0 c9_i32
  let c10_i32 : BitVec 32 := 10#32
  let v27 : BitVec 1 := Scalar.cmpi .eq arg0 c10_i32
  let v28 : BitVec 1 := Scalar.ori v26 v27
  let v29 : BitVec 32 := Scalar.extui v28
  let c0_i32_5 : BitVec 32 := 0#32
  let v30 : BitVec 1 := Scalar.cmpi .ne v29 c0_i32_5
  v30

def k0_cond6 (i : grid0.Coords) : BitVec 1 :=
  let arg0 : BitVec 32 := BitVec.ofNat 32 (i 0).val
  let c12_i32 : BitVec 32 := 12#32
  let v31 : BitVec 1 := Scalar.cmpi .eq arg0 c12_i32
  let v32 : BitVec 32 := Scalar.extui v31
  let c0_i32_6 : BitVec 32 := 0#32
  let v33 : BitVec 1 := Scalar.cmpi .ne v32 c0_i32_6
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c9224_i32 : BitVec 32 := 9224#32
  let c7176_i32 : BitVec 32 := 7176#32
  let v1 : BitVec 32 := Scalar.select v0 c9224_i32 c7176_i32
  let c2_i32 : BitVec 32 := 2#32
  let v2 : BitVec 1 := Scalar.cmpi .eq arg0 c2_i32
  let c11272_i32 : BitVec 32 := 11272#32
  let v3 : BitVec 32 := Scalar.select v2 c11272_i32 v1
  let c3_i32 : BitVec 32 := 3#32
  let v4 : BitVec 1 := Scalar.cmpi .eq arg0 c3_i32
  let c8200_i32 : BitVec 32 := 8200#32
  let v5 : BitVec 32 := Scalar.select v4 c8200_i32 v3
  let c4_i32 : BitVec 32 := 4#32
  let v6 : BitVec 1 := Scalar.cmpi .eq arg0 c4_i32
  let c10248_i32 : BitVec 32 := 10248#32
  let v7 : BitVec 32 := Scalar.select v6 c10248_i32 v5
  let c5_i32 : BitVec 32 := 5#32
  let v8 : BitVec 1 := Scalar.cmpi .eq arg0 c5_i32
  let c12296_i32 : BitVec 32 := 12296#32
  let v9 : BitVec 32 := Scalar.select v8 c12296_i32 v7
  let c6_i32 : BitVec 32 := 6#32
  let v10 : BitVec 1 := Scalar.cmpi .eq arg0 c6_i32
  let c0_i32 : BitVec 32 := 0#32
  let v11 : BitVec 32 := Scalar.select v10 c0_i32 v9
  let c7_i32 : BitVec 32 := 7#32
  let v12 : BitVec 1 := Scalar.cmpi .eq arg0 c7_i32
  let c1024_i32 : BitVec 32 := 1024#32
  let v13 : BitVec 32 := Scalar.select v12 c1024_i32 v11
  let c8_i32 : BitVec 32 := 8#32
  let v14 : BitVec 1 := Scalar.cmpi .eq arg0 c8_i32
  let c2048_i32 : BitVec 32 := 2048#32
  let v15 : BitVec 32 := Scalar.select v14 c2048_i32 v13
  let c9_i32 : BitVec 32 := 9#32
  let v16 : BitVec 1 := Scalar.cmpi .eq arg0 c9_i32
  let c3072_i32 : BitVec 32 := 3072#32
  let v17 : BitVec 32 := Scalar.select v16 c3072_i32 v15
  let c10_i32 : BitVec 32 := 10#32
  let v18 : BitVec 1 := Scalar.cmpi .eq arg0 c10_i32
  let c4096_i32 : BitVec 32 := 4096#32
  let v19 : BitVec 32 := Scalar.select v18 c4096_i32 v17
  let c11_i32 : BitVec 32 := 11#32
  let v20 : BitVec 1 := Scalar.cmpi .eq arg0 c11_i32
  let c5120_i32 : BitVec 32 := 5120#32
  let v21 : BitVec 32 := Scalar.select v20 c5120_i32 v19
  let c12_i32 : BitVec 32 := 12#32
  let v22 : BitVec 1 := Scalar.cmpi .eq arg0 c12_i32
  let c6152_i32 : BitVec 32 := 6152#32
  let v23 : BitVec 32 := Scalar.select v22 c6152_i32 v21
  let v24 : BitVec 32 := v23
  let c0_i32_0 : BitVec 32 := 0#32
  let c0_i32_1 : BitVec 32 := 0#32
  ![v24.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x4096x2048 : Shape := ⟨3, ![2, 4096, 2048]⟩
abbrev S2048x13320 : Shape := ⟨2, ![2048, 13320]⟩
abbrev S128 : Shape := ⟨1, ![128]⟩
abbrev S256 : Shape := ⟨1, ![256]⟩
abbrev S2048x8192 : Shape := ⟨2, ![2048, 8192]⟩
abbrev S8192x2048 : Shape := ⟨2, ![8192, 2048]⟩
abbrev S2x4096x13320 : Shape := ⟨3, ![2, 4096, 13320]⟩
abbrev S2x4096x3072 : Shape := ⟨3, ![2, 4096, 3072]⟩
abbrev S2x4096x1024 : Shape := ⟨3, ![2, 4096, 1024]⟩
abbrev S2x4096x8 : Shape := ⟨3, ![2, 4096, 8]⟩
abbrev S2x4096x6144 : Shape := ⟨3, ![2, 4096, 6144]⟩
abbrev S2x4096x8x128 : Shape := ⟨4, ![2, 4096, 8, 128]⟩
abbrev S_ : Shape := ⟨0, ![]⟩
abbrev S2x4096x8x1 : Shape := ⟨4, ![2, 4096, 8, 1]⟩
abbrev S1x1x1x128 : Shape := ⟨4, ![1, 1, 1, 128]⟩
abbrev S2x4096x4x256 : Shape := ⟨4, ![2, 4096, 4, 256]⟩
abbrev S2x4096x4 : Shape := ⟨3, ![2, 4096, 4]⟩
abbrev S2x4096x4x1 : Shape := ⟨4, ![2, 4096, 4, 1]⟩
abbrev S1x1x1x256 : Shape := ⟨4, ![1, 1, 1, 256]⟩
abbrev S2x4096x3x2x1024 : Shape := ⟨5, ![2, 4096, 3, 2, 1024]⟩
abbrev S2x4096x1x1x1024 : Shape := ⟨5, ![2, 4096, 1, 1, 1024]⟩
abbrev S8192x1024 : Shape := ⟨2, ![8192, 1024]⟩
abbrev S8192x3072 : Shape := ⟨2, ![8192, 3072]⟩
abbrev S8192x13312 : Shape := ⟨2, ![8192, 13312]⟩

abbrev nBuf : Space → Nat
  | .hbm => 109
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x13320, .f32⟩
  | .hbm, ⟨2, _⟩ => ⟨S128, .f32⟩
  | .hbm, ⟨3, _⟩ => ⟨S128, .f32⟩
  | .hbm, ⟨4, _⟩ => ⟨S256, .f32⟩
  | .hbm, ⟨5, _⟩ => ⟨S2048x8192, .f32⟩
  | .hbm, ⟨6, _⟩ => ⟨S8192x2048, .f32⟩
  | .hbm, ⟨7, _⟩ => ⟨S2x4096x2048, .f32⟩
  | .hbm, ⟨8, _⟩ => ⟨S2x4096x13320, .f32⟩
  | .hbm, ⟨9, _⟩ => ⟨S2x4096x3072, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x8, .f32⟩
  | .hbm, ⟨14, _⟩ => ⟨S2x4096x1024, .f32⟩
  | .hbm, ⟨15, _⟩ => ⟨S2x4096x6144, .f32⟩
  | .hbm, ⟨16, _⟩ => ⟨S2x4096x8x128, .f32⟩
  | .hbm, ⟨17, _⟩ => ⟨S2x4096x8x128, .f32⟩
  | .hbm, ⟨18, _⟩ => ⟨S_, .f32⟩
  | .hbm, ⟨19, _⟩ => ⟨S2x4096x8, .f32⟩
  | .hbm, ⟨20, _⟩ => ⟨S2x4096x8x1, .f32⟩
  | .hbm, ⟨21, _⟩ => ⟨S_, .f32⟩
  | .hbm, ⟨22, _⟩ => ⟨S2x4096x8x1, .f32⟩
  | .hbm, ⟨23, _⟩ => ⟨S2x4096x8x1, .f32⟩
  | .hbm, ⟨24, _⟩ => ⟨S_, .f32⟩
  | .hbm, ⟨25, _⟩ => ⟨S2x4096x8x1, .f32⟩
  | .hbm, ⟨26, _⟩ => ⟨S2x4096x8x1, .f32⟩
  | .hbm, ⟨27, _⟩ => ⟨S2x4096x8x1, .f32⟩
  | .hbm, ⟨28, _⟩ => ⟨S2x4096x8x128, .f32⟩
  | .hbm, ⟨29, _⟩ => ⟨S2x4096x8x128, .f32⟩
  | .hbm, ⟨30, _⟩ => ⟨S1x1x1x128, .f32⟩
  | .hbm, ⟨31, _⟩ => ⟨S2x4096x8x128, .f32⟩
  | .hbm, ⟨32, _⟩ => ⟨S2x4096x8x128, .f32⟩
  | .hbm, ⟨33, _⟩ => ⟨S2x4096x8x128, .f32⟩
  | .hbm, ⟨34, _⟩ => ⟨S2x4096x8x128, .f32⟩
  | .hbm, ⟨35, _⟩ => ⟨S_, .f32⟩
  | .hbm, ⟨36, _⟩ => ⟨S2x4096x8, .f32⟩
  | .hbm, ⟨37, _⟩ => ⟨S2x4096x8x1, .f32⟩
  | .hbm, ⟨38, _⟩ => ⟨S_, .f32⟩
  | .hbm, ⟨39, _⟩ => ⟨S2x4096x8x1, .f32⟩
  | .hbm, ⟨40, _⟩ => ⟨S2x4096x8x1, .f32⟩
  | .hbm, ⟨41, _⟩ => ⟨S_, .f32⟩
  | .hbm, ⟨42, _⟩ => ⟨S2x4096x8x1, .f32⟩
  | .hbm, ⟨43, _⟩ => ⟨S2x4096x8x1, .f32⟩
  | .hbm, ⟨44, _⟩ => ⟨S2x4096x8x1, .f32⟩
  | .hbm, ⟨45, _⟩ => ⟨S2x4096x8x128, .f32⟩
  | .hbm, ⟨46, _⟩ => ⟨S2x4096x8x128, .f32⟩
  | .hbm, ⟨47, _⟩ => ⟨S1x1x1x128, .f32⟩
  | .hbm, ⟨48, _⟩ => ⟨S2x4096x8x128, .f32⟩
  | .hbm, ⟨49, _⟩ => ⟨S2x4096x8x128, .f32⟩
  | .hbm, ⟨50, _⟩ => ⟨S2x4096x4x256, .f32⟩
  | .hbm, ⟨51, _⟩ => ⟨S2x4096x4x256, .f32⟩
  | .hbm, ⟨52, _⟩ => ⟨S_, .f32⟩
  | .hbm, ⟨53, _⟩ => ⟨S2x4096x4, .f32⟩
  | .hbm, ⟨54, _⟩ => ⟨S2x4096x4x1, .f32⟩
  | .hbm, ⟨55, _⟩ => ⟨S_, .f32⟩
  | .hbm, ⟨56, _⟩ => ⟨S2x4096x4x1, .f32⟩
  | .hbm, ⟨57, _⟩ => ⟨S2x4096x4x1, .f32⟩
  | .hbm, ⟨58, _⟩ => ⟨S_, .f32⟩
  | .hbm, ⟨59, _⟩ => ⟨S2x4096x4x1, .f32⟩
  | .hbm, ⟨60, _⟩ => ⟨S2x4096x4x1, .f32⟩
  | .hbm, ⟨61, _⟩ => ⟨S2x4096x4x1, .f32⟩
  | .hbm, ⟨62, _⟩ => ⟨S2x4096x4x256, .f32⟩
  | .hbm, ⟨63, _⟩ => ⟨S2x4096x4x256, .f32⟩
  | .hbm, ⟨64, _⟩ => ⟨S1x1x1x256, .f32⟩
  | .hbm, ⟨65, _⟩ => ⟨S2x4096x4x256, .f32⟩
  | .hbm, ⟨66, _⟩ => ⟨S2x4096x4x256, .f32⟩
  | .hbm, ⟨67, _⟩ => ⟨S_, .f32⟩
  | .hbm, ⟨68, _⟩ => ⟨S2x4096x8x128, .f32⟩
  | .hbm, ⟨69, _⟩ => ⟨S2x4096x8x128, .f32⟩
  | .hbm, ⟨70, _⟩ => ⟨S_, .f32⟩
  | .hbm, ⟨71, _⟩ => ⟨S2x4096x4x256, .f32⟩
  | .hbm, ⟨72, _⟩ => ⟨S2x4096x4x256, .f32⟩
  | .hbm, ⟨73, _⟩ => ⟨S2x4096x6144, .f32⟩
  | .hbm, ⟨74, _⟩ => ⟨S2x4096x6144, .f32⟩
  | .hbm, ⟨75, _⟩ => ⟨S_, .f32⟩
  | .hbm, ⟨76, _⟩ => ⟨S2x4096x6144, .f32⟩
  | .hbm, ⟨77, _⟩ => ⟨S2x4096x6144, .f32⟩
  | .hbm, ⟨78, _⟩ => ⟨S_, .f32⟩
  | .hbm, ⟨79, _⟩ => ⟨S2x4096x6144, .f32⟩
  | .hbm, ⟨80, _⟩ => ⟨S2x4096x6144, .f32⟩
  | .hbm, ⟨81, _⟩ => ⟨S2x4096x3x2x1024, .f32⟩
  | .hbm, ⟨82, _⟩ => ⟨S2x4096x1x1x1024, .f32⟩
  | .hbm, ⟨83, _⟩ => ⟨S2x4096x1024, .f32⟩
  | .hbm, ⟨84, _⟩ => ⟨S2x4096x1x1x1024, .f32⟩
  | .hbm, ⟨85, _⟩ => ⟨S2x4096x1024, .f32⟩
  | .hbm, ⟨86, _⟩ => ⟨S2x4096x1x1x1024, .f32⟩
  | .hbm, ⟨87, _⟩ => ⟨S2x4096x1024, .f32⟩
  | .hbm, ⟨88, _⟩ => ⟨S2x4096x1x1x1024, .f32⟩
  | .hbm, ⟨89, _⟩ => ⟨S2x4096x1024, .f32⟩
  | .hbm, ⟨90, _⟩ => ⟨S2x4096x1x1x1024, .f32⟩
  | .hbm, ⟨91, _⟩ => ⟨S2x4096x1024, .f32⟩
  | .hbm, ⟨92, _⟩ => ⟨S2x4096x1x1x1024, .f32⟩
  | .hbm, ⟨93, _⟩ => ⟨S2x4096x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x3072, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x13312, .f32⟩
  | .hbm, ⟨106, _⟩ => ⟨S8192x13312, .bf16⟩
  | .hbm, ⟨107, _⟩ => ⟨S2048x8192, .bf16⟩
  | .hbm, ⟨108, _⟩ => ⟨S8192x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S1024x2048 : Shape := ⟨2, ![1024, 2048]⟩
abbrev S2048x1024 : Shape := ⟨2, ![2048, 1024]⟩
abbrev S128x2048 : Shape := ⟨2, ![128, 2048]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S128x2048, .f32⟩
  | .local _ .vmem, ⟨7, _⟩ => ⟨S128x2048, .f32⟩
  | .local _ .vmem, ⟨8, _⟩ => ⟨S1024x2048, .f32⟩
  | .local _ .vmem, ⟨9, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c128_i32 : BitVec 32 := 128#32
  let v16 : BitVec 32 := Scalar.muli arg1 c128_i32
  v16
def k0_off1 (i : grid0.Coords) : Fin 2 → Nat :=
  let arg1 : BitVec 32 := BitVec.ofNat 32 (i 1).val
  let c128_i32 : BitVec 32 := 128#32
  let v16 : BitVec 32 := Scalar.muli arg1 c128_i32
  let v17 : BitVec 32 := v16
  let v18 : Index := Scalar.indexCast v17
  let c0_12 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2x4096x2048 : Shape := ⟨3, ![2, 4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2x4096x2048, .f32⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S2048x2048 : Shape := ⟨2, ![2048, 2048]⟩
abbrev S2x4096x2048 : Shape := ⟨3, ![2, 4096, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2x4096x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S8192x13312 : Shape := ⟨2, ![8192, 13312]⟩
abbrev S3x1024 : Shape := ⟨2, ![3, 1024]⟩
abbrev S2x4096x1024 : Shape := ⟨3, ![2, 4096, 1024]⟩
abbrev S1024x2048 : Shape := ⟨2, ![1024, 2048]⟩
abbrev S8192x1024 : Shape := ⟨2, ![8192, 1024]⟩
abbrev S8192x2048 : Shape := ⟨2, ![8192, 2048]⟩
abbrev S512x3072 : Shape := ⟨2, ![512, 3072]⟩
abbrev S512x1024 : Shape := ⟨2, ![512, 1024]⟩
abbrev S1024x1024 : Shape := ⟨2, ![1024, 1024]⟩
abbrev S8x1024 : Shape := ⟨2, ![8, 1024]⟩
abbrev S1x1024 : Shape := ⟨2, ![1, 1024]⟩
abbrev S8x1 : Shape := ⟨2, ![8, 1]⟩
abbrev S504x1024 : Shape := ⟨2, ![504, 1024]⟩
abbrev S2x1024 : Shape := ⟨2, ![2, 1024]⟩

abbrev nBuf : Space → Nat
  | .hbm => 10
  | .vmem => 21
  | .smem => 0
  | _ => 0

abbrev bufTy : (tb : Table) → Fin (tcTables nBuf tb) → BufTy
  | .hbm, ⟨0, _⟩ => ⟨S8192x13312, .bf16⟩
  | .hbm, ⟨1, _⟩ => ⟨S3x1024, .f32⟩
  | .hbm, ⟨2, _⟩ => ⟨S2x4096x1024, .bf16⟩
  | .hbm, ⟨3, _⟩ => ⟨S2x4096x1024, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8192x1024, .bf16⟩
  | .hbm, ⟨8, _⟩ => ⟨S8192x1024, .bf16⟩
  | .hbm, ⟨9, _⟩ => ⟨S8192x2048, .bf16⟩
  | .local _ .vmem, ⟨0, _⟩ => ⟨S512x3072, .bf16⟩
  | .local _ .vmem, ⟨1, _⟩ => ⟨S512x3072, .bf16⟩
  | .local _ .vmem, ⟨2, _⟩ => ⟨S3x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S512x3072, .bf16⟩
  | .local _ .vmem, ⟨14, _⟩ => ⟨S512x3072, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S8x1024, .f32⟩
  | _, _ => ⟨S8192x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8192x13312 : Shape := ⟨2, ![8192, 13312]⟩
abbrev S3x1024 : Shape := ⟨2, ![3, 1024]⟩
abbrev S2x4096x1024 : Shape := ⟨3, ![2, 4096, 1024]⟩
abbrev S1024x2048 : Shape := ⟨2, ![1024, 2048]⟩
abbrev S2x4096x13312 : Shape := ⟨3, ![2, 4096, 13312]⟩
abbrev S2x4096x6144 : Shape := ⟨3, ![2, 4096, 6144]⟩
abbrev S2x4096x2x3x1024 : Shape := ⟨5, ![2, 4096, 2, 3, 1024]⟩
abbrev S2x4096x3x2x1024 : Shape := ⟨5, ![2, 4096, 3, 2, 1024]⟩
abbrev S2x4096x3x2048 : Shape := ⟨4, ![2, 4096, 3, 2048]⟩
abbrev S2x4096x3072 : Shape := ⟨3, ![2, 4096, 3072]⟩
abbrev S_ : Shape := ⟨0, ![]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩
abbrev S2x4096x2048 : Shape := ⟨3, ![2, 4096, 2048]⟩
abbrev S2x4096x1x2048 : Shape := ⟨4, ![2, 4096, 1, 2048]⟩
abbrev S8192x2048 : Shape := ⟨2, ![8192, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x13312, .bf16⟩
  | .hbm, ⟨1, _⟩ => ⟨S3x1024, .f32⟩
  | .hbm, ⟨2, _⟩ => ⟨S2x4096x1024, .bf16⟩
  | .hbm, ⟨3, _⟩ => ⟨S2x4096x1024, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2x4096x13312, .bf16⟩
  | .hbm, ⟨8, _⟩ => ⟨S2x4096x13312, .f32⟩
  | .hbm, ⟨9, _⟩ => ⟨S2x4096x6144, .f32⟩
  | .hbm, ⟨10, _⟩ => ⟨S2x4096x2x3x1024, .f32⟩
  | .hbm, ⟨11, _⟩ => ⟨S2x4096x3x2x1024, .f32⟩
  | .hbm, ⟨12, _⟩ => ⟨S2x4096x3x2048, .f32⟩
  | .hbm, ⟨13, _⟩ => ⟨S2x4096x3072, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S_, .i32⟩
  | .hbm, ⟨19, _⟩ => ⟨S_, .f32⟩
  | .hbm, ⟨20, _⟩ => ⟨S2x4098x1024, .f32⟩
  | .hbm, ⟨21, _⟩ => ⟨S1x1024, .f32⟩
  | .hbm, ⟨22, _⟩ => ⟨S1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S1x1024, .f32⟩
  | .hbm, ⟨28, _⟩ => ⟨S1024, .f32⟩
  | .hbm, ⟨29, _⟩ => ⟨S2x4096x1024, .f32⟩
  | .hbm, ⟨30, _⟩ => ⟨S1x1x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S1x1024, .f32⟩
  | .hbm, ⟨35, _⟩ => ⟨S1024, .f32⟩
  | .hbm, ⟨36, _⟩ => ⟨S2x4096x1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x2048, .f32⟩
  | .hbm, ⟨43, _⟩ => ⟨S2x4096x1024, .f32⟩
  | .hbm, ⟨44, _⟩ => ⟨S2x4096x2048, .f32⟩
  | .hbm, ⟨45, _⟩ => ⟨S2x4096x1024, .f32⟩
  | .hbm, ⟨46, _⟩ => ⟨S2x4096x2048, .f32⟩
  | .hbm, ⟨47, _⟩ => ⟨S2x4096x1x2048, .f32⟩
  | .hbm, ⟨48, _⟩ => ⟨S2x4096x2048, .f32⟩
  | .hbm, ⟨49, _⟩ => ⟨S2x4096x2048, .f32⟩
  | .hbm, ⟨50, _⟩ => ⟨S2x4096x1x2048, .f32⟩
  | .hbm, ⟨51, _⟩ => ⟨S2x4096x2048, .f32⟩
  | .hbm, ⟨52, _⟩ => ⟨S2x4096x2048, .f32⟩
  | .hbm, ⟨53, _⟩ => ⟨S2x4096x2048, .f32⟩
  | .hbm, ⟨54, _⟩ => ⟨S2x4096x1x2048, .f32⟩
  | .hbm, ⟨55, _⟩ => ⟨S2x4096x2048, .f32⟩
  | .hbm, ⟨56, _⟩ => ⟨S2x4096x2048, .f32⟩
  | .hbm, ⟨57, _⟩ => ⟨S2x4096x2048, .f32⟩
  | .hbm, ⟨58, _⟩ => ⟨S8192x2048, .f32⟩
  | .hbm, ⟨59, _⟩ => ⟨S8192x2048, .bf16⟩
  | _, _ => ⟨S8192x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel5.lean ====
abbrev S2x256x2048 : Shape := ⟨3, ![2, 256, 2048]⟩
abbrev S2048 : Shape := ⟨1, ![2048]⟩
abbrev S2048x2048 : Shape := ⟨2, ![2048, 2048]⟩
abbrev S256 : Shape := ⟨1, ![256]⟩
abbrev S512x2048 : Shape := ⟨2, ![512, 2048]⟩
abbrev S1x2048 : Shape := ⟨2, ![1, 2048]⟩
abbrev S1x256 : Shape := ⟨2, ![1, 256]⟩
abbrev S4x256 : Shape := ⟨2, ![4, 256]⟩
abbrev S1024 : Shape := ⟨1, ![1024]⟩
abbrev S1x1024 : Shape := ⟨2, ![1, 1024]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S256, .f32⟩
  | .hbm, ⟨4, _⟩ => ⟨S512x2048, .f32⟩
  | .hbm, ⟨5, _⟩ => ⟨S1x2048, .f32⟩
  | .hbm, ⟨6, _⟩ => ⟨S1x256, .f32⟩
  | .hbm, ⟨7, _⟩ => ⟨S4x256, .f32⟩
  | .hbm, ⟨8, _⟩ => ⟨S1024, .f32⟩
  | .hbm, ⟨9, _⟩ => ⟨S1x1024, .f32⟩
  | .hbm, ⟨10, _⟩ => ⟨S512x2048, .bf16⟩
  | .local _ .vmem, ⟨0, _⟩ => ⟨S512x2048, .f32⟩
  | .local _ .vmem, ⟨1, _⟩ => ⟨S1x2048, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_8 : BitVec 32 := 0#32
  let v22 : BitVec 1 := Scalar.cmpi .ne v21 c0_i32_8
  v22

def k0_cond2 (i : grid0.Coords) : BitVec 1 :=
  let arg0 : BitVec 32 := BitVec.ofNat 32 (i 0).val
  let c1_i32 : BitVec 32 := 1#32
  let v23 : BitVec 1 := Scalar.cmpi .eq arg0 c1_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x256x2048 : Shape := ⟨3, ![2, 256, 2048]⟩
abbrev S2048 : Shape := ⟨1, ![2048]⟩
abbrev S2048x2048 : Shape := ⟨2, ![2048, 2048]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S2x256x4x256 : Shape := ⟨4, ![2, 256, 4, 256]⟩
abbrev S2x256x4 : Shape := ⟨3, ![2, 256, 4]⟩
abbrev S2x256x4x1 : Shape := ⟨4, ![2, 256, 4, 1]⟩
abbrev S1x1x1x256 : Shape := ⟨4, ![1, 1, 1, 256]⟩
abbrev S512x2048 : Shape := ⟨2, ![512, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S256, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S2x256x1024, .f32⟩
  | .hbm, ⟨22, _⟩ => ⟨S2x256x4x256, .f32⟩
  | .hbm, ⟨23, _⟩ => ⟨S2x256x4x256, .f32⟩
  | .hbm, ⟨24, _⟩ => ⟨S_, .f32⟩
  | .hbm, ⟨25, _⟩ => ⟨S2x256x4, .f32⟩
  | .hbm, ⟨26, _⟩ => ⟨S2x256x4x1, .f32⟩
  | .hbm, ⟨27, _⟩ => ⟨S_, .f32⟩
  | .hbm, ⟨28, _⟩ => ⟨S2x256x4x1, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S2x256x4x1, .f32⟩
  | .hbm, ⟨34, _⟩ => ⟨S2x256x4x256, .f32⟩
  | .hbm, ⟨35, _⟩ => ⟨S2x256x4x256, .f32⟩
  | .hbm, ⟨36, _⟩ => ⟨S1x1x1x256, .f32⟩
  | .hbm, ⟨37, _⟩ => ⟨S2x256x4x256, .f32⟩
  | .hbm, ⟨38, _⟩ => ⟨S2x256x4x256, .f32⟩
  | .hbm, ⟨39, _⟩ => ⟨S2x256x1024, .f32⟩
  | .hbm, ⟨40, _⟩ => ⟨S2x256x1024, .f32⟩
  | .hbm, ⟨41, _⟩ => ⟨S2x256x2048, .f32⟩
  | .hbm, ⟨42, _⟩ => ⟨S512x2048, .f32⟩
  | .hbm, ⟨43, _⟩ => ⟨S512x2048, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel6.lean ====
abbrev S2x4096x13312 : Shape := ⟨3, ![2, 4096, 13312]⟩
abbrev S512x2048 : Shape := ⟨2, ![512, 2048]⟩
abbrev S2x256x2048 : Shape := ⟨3, ![2, 256, 2048]⟩
abbrev S2x4096x1024 : Shape := ⟨3, ![2, 4096, 1024]⟩
abbrev S1x1024x1024 : Shape := ⟨3, ![1, 1024, 1024]⟩
abbrev S1x256x2048 : Shape := ⟨3, ![1, 256, 2048]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x13312, .bf16⟩
  | .hbm, ⟨1, _⟩ => ⟨S512x2048, .bf16⟩
  | .hbm, ⟨2, _⟩ => ⟨S2x256x2048, .bf16⟩
  | .hbm, ⟨3, _⟩ => ⟨S2x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x1024x1024, .bf16⟩
  | .local _ .vmem, ⟨5, _⟩ => ⟨S1x1024x1024, .bf16⟩
  | _, _ => ⟨S2x4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x4096x13312 : Shape := ⟨3, ![2, 4096, 13312]⟩
abbrev S512x2048 : Shape := ⟨2, ![512, 2048]⟩
abbrev S2x4096x1024 : Shape := ⟨3, ![2, 4096, 1024]⟩
abbrev S2x4096x4x256 : Shape := ⟨4, ![2, 4096, 4, 256]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x13312, .bf16⟩
  | .hbm, ⟨1, _⟩ => ⟨S512x2048, .bf16⟩
  | .hbm, ⟨2, _⟩ => ⟨S2x4096x1024, .bf16⟩
  | .hbm, ⟨3, _⟩ => ⟨S2x4096x1024, .f32⟩
  | .hbm, ⟨4, _⟩ => ⟨S2x4096x4x256, .f32⟩
  | .hbm, ⟨5, _⟩ => ⟨S512x2048, .f32⟩
  | .hbm, ⟨6, _⟩ => ⟨S2x256x2048, .f32⟩
  | .hbm, ⟨7, _⟩ => ⟨S2x256x1024, .f32⟩
  | .hbm, ⟨8, _⟩ => ⟨S2x256x4x256, .f32⟩
  | .hbm, ⟨9, _⟩ => ⟨S2x256x1024, .f32⟩
  | .hbm, ⟨10, _⟩ => ⟨S2x256x4x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x4x256x4096, .f32⟩
  | .hbm, ⟨27, _⟩ => ⟨S2x4096x4x256, .f32⟩
  | .hbm, ⟨28, _⟩ => ⟨S2x4096x1024, .f32⟩
  | .hbm, ⟨29, _⟩ => ⟨S2x4096x1024, .bf16⟩
  | _, _ => ⟨S2x4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel7.lean ====
abbrev S2x4096x2048 : Shape := ⟨3, ![2, 4096, 2048]⟩
abbrev S2048 : Shape := ⟨1, ![2048]⟩
abbrev S2048x13320 : Shape := ⟨2, ![2048, 13320]⟩
abbrev S8 : Shape := ⟨1, ![8]⟩
abbrev S128x1024 : Shape := ⟨2, ![128, 1024]⟩
abbrev S_ : Shape := ⟨0, ![]⟩
abbrev S128 : Shape := ⟨1, ![128]⟩
abbrev S1x128 : Shape := ⟨2, ![1, 128]⟩
abbrev S1x2048 : Shape := ⟨2, ![1, 2048]⟩
abbrev S13320x2048 : Shape := ⟨2, ![13320, 2048]⟩
abbrev S2x4096x128 : Shape := ⟨3, ![2, 4096, 128]⟩
abbrev S2x4096x1024 : Shape := ⟨3, ![2, 4096, 1024]⟩
abbrev S1x1024x2048 : Shape := ⟨3, ![1, 1024, 2048]⟩
abbrev S8x2048 : Shape := ⟨2, ![8, 2048]⟩
abbrev S1x1024x128 : Shape := ⟨3, ![1, 1024, 128]⟩
abbrev S1x1024x1024 : Shape := ⟨3, ![1, 1024, 1024]⟩
abbrev S8x128 : Shape := ⟨2, ![8, 128]⟩
abbrev S112x2048 : Shape := ⟨2, ![112, 2048]⟩
abbrev S128x2048 : Shape := ⟨2, ![128, 2048]⟩
abbrev S256x256 : Shape := ⟨2, ![256, 256]⟩
abbrev S256x128 : Shape := ⟨2, ![256, 128]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩
abbrev S256x1024 : Shape := ⟨2, ![256, 1024]⟩
abbrev S1x256x1024 : Shape := ⟨3, ![1, 256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x13320, .f32⟩
  | .hbm, ⟨3, _⟩ => ⟨S8, .f32⟩
  | .hbm, ⟨4, _⟩ => ⟨S128x1024, .bf16⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S1x2048, .f32⟩
  | .hbm, ⟨10, _⟩ => ⟨S13320x2048, .f32⟩
  | .hbm, ⟨11, _⟩ => ⟨S2x4096x2048, .bf16⟩
  | .hbm, ⟨12, _⟩ => ⟨S2x4096x128, .bf16⟩
  | .hbm, ⟨13, _⟩ => ⟨S2x4096x1024, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S8x2048, .f32⟩
  | .local _ .vmem, ⟨4, _⟩ => ⟨S1x128, .f32⟩
  | .local _ .vmem, ⟨5, _⟩ => ⟨S128x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S8x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c768_i32 : BitVec 32 := 768#32
  let c0_i32 : BitVec 32 := 0#32
  let c0_i32_0 : BitVec 32 := 0#32
  ![c768_i32.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2x4096x2048 : Shape := ⟨3, ![2, 4096, 2048]⟩
abbrev S2048 : Shape := ⟨1, ![2048]⟩
abbrev S2048x13320 : Shape := ⟨2, ![2048, 13320]⟩
abbrev S8 : Shape := ⟨1, ![8]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x13320, .f32⟩
  | .hbm, ⟨3, _⟩ => ⟨S8, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in its buffers -/

/-- A gate tile: four blocks of 256 columns, each half the tanh of half the product, plus one half. -/
def gateTile (x : Vec F S1024x2048 .bf16) (s : Vec F S1024x2048 .bf16) : Vec F S1024x1024 .bf16 :=
  View.canon [
    ⟨Rect.unit (s := S1024x1024) ![0, 768] S1024x256.size inb_S1024x1024_S1024x256_0_768, k0_pay5 x (View.ld s (Rect.unit (s := S1024x2048) ![768, 0] S256x2048.size inb_S1024x2048_S256x2048_768_0))⟩,
    ⟨Rect.unit (s := S1024x1024) ![0, 512] S1024x256.size inb_S1024x1024_S1024x256_0_512, k0_pay5 x (View.ld s (Rect.unit (s := S1024x2048) ![512, 0] S256x2048.size inb_S1024x2048_S256x2048_512_0))⟩,
    ⟨Rect.unit (s := S1024x1024) ![0, 256] S1024x256.size inb_S1024x1024_S1024x256_0_256, k0_pay5 x (View.ld s (Rect.unit (s := S1024x2048) ![256, 0] S256x2048.size inb_S1024x2048_S256x2048_256_0))⟩,
    ⟨Rect.unit (s := S1024x1024) ![0, 0] S1024x256.size inb_S1024x1024_S1024x256_0_0, k0_pay5 x (View.ld s (Rect.unit (s := S1024x2048) ![0, 0] S256x2048.size inb_S1024x2048_S256x2048_0_0))⟩]

/-- A plain tile in four blocks of 256 columns: the product, rounded. -/
def plainTile (x : Vec F S1024x2048 .bf16) (s : Vec F S1024x2048 .bf16) : Vec F S1024x1024 .bf16 :=
  View.canon [
    ⟨Rect.unit (s := S1024x1024) ![0, 768] S1024x256.size inb_S1024x1024_S1024x256_0_768, k0_pay15 x (View.ld s (Rect.unit (s := S1024x2048) ![768, 0] S256x2048.size inb_S1024x2048_S256x2048_768_0))⟩,
    ⟨Rect.unit (s := S1024x1024) ![0, 512] S1024x256.size inb_S1024x1024_S1024x256_0_512, k0_pay15 x (View.ld s (Rect.unit (s := S1024x2048) ![512, 0] S256x2048.size inb_S1024x2048_S256x2048_512_0))⟩,
    ⟨Rect.unit (s := S1024x1024) ![0, 256] S1024x256.size inb_S1024x1024_S1024x256_0_256, k0_pay15 x (View.ld s (Rect.unit (s := S1024x2048) ![256, 0] S256x2048.size inb_S1024x2048_S256x2048_256_0))⟩,
    ⟨Rect.unit (s := S1024x1024) ![0, 0] S1024x256.size inb_S1024x1024_S1024x256_0_0, k0_pay15 x (View.ld s (Rect.unit (s := S1024x2048) ![0, 0] S256x2048.size inb_S1024x2048_S256x2048_0_0))⟩]

/-- 128 columns of a tile from column `o` on, each row divided by the root of its mean square (plus the
    kernel's small constant) and scaled by the gains of those columns. -/
def norm128 (o : ℕ) (hs : S1024x1024.Slices ![0, o] S1024x128) (hg : S1x1024.Slices ![0, o] S1x128)
    (p : FVec F S1024x1024 .f32) (g : FVec F S1x1024 .f32) : FVec F S1024x128 .bf16 :=
  let x : FVec F S1024x128 .f32 := extractStridedSlice S1024x128 ![0, o] p hs
  let q : FVec F S1024x1 .f32 := shapeCast S1024x1
    (multiReduction .add [1] S1024 (mulf x x) 0x00000000#32 reduces_S1024x128_S1024 (.inl rfl) rfl : FVec F S1024 .f32) shapeCasts_S1024_S1024x1
  let a : FVec F S1024x1 .f32 := addf (divf q (broadcast S1024x1 (Scalar.ofBits .f32 0x43000000#32 : F .f32)))
    (broadcast S1024x1 (Scalar.ofBits .f32 0x358637BD#32 : F .f32))
  truncf .bf16 (mulf (mulf x (broadcastTo S1024x128 (rsqrt a) broadcasts_S1024x1_S1024x128))
    (broadcastTo S1024x128 (extractStridedSlice S1x128 ![0, o] g hg : FVec F S1x128 .f32) broadcasts_S1x128_S1024x128)) bitsLt_bf16_f32

/-- 256 columns of a tile from column `o` on, each row divided by the root of its mean square (plus the
    kernel's small constant) and scaled by the gains of those columns. -/
def norm256 (o : ℕ) (hs : S1024x1024.Slices ![0, o] S1024x256) (hg : S1x1024.Slices ![0, o] S1x256)
    (p : FVec F S1024x1024 .f32) (g : FVec F S1x1024 .f32) : FVec F S1024x256 .bf16 :=
  let x : FVec F S1024x256 .f32 := extractStridedSlice S1024x256 ![0, o] p hs
  let q : FVec F S1024x1 .f32 := shapeCast S1024x1
    (multiReduction .add [1] S1024 (mulf x x) 0x00000000#32 reduces_S1024x256_S1024 (.inl rfl) rfl : FVec F S1024 .f32) shapeCasts_S1024_S1024x1
  let a : FVec F S1024x1 .f32 := addf (divf q (broadcast S1024x1 (Scalar.ofBits .f32 0x43800000#32 : F .f32)))
    (broadcast S1024x1 (Scalar.ofBits .f32 0x358637BD#32 : F .f32))
  truncf .bf16 (mulf (mulf x (broadcastTo S1024x256 (rsqrt a) broadcasts_S1024x1_S1024x256))
    (broadcastTo S1024x256 (extractStridedSlice S1x256 ![0, o] g hg : FVec F S1x256 .f32) broadcasts_S1x256_S1024x256)) bitsLt_bf16_f32

/-- A tile normed in eight groups of 128 columns. -/
def normTile128 (x : Vec F S1024x2048 .bf16) (s : Vec F S1024x2048 .bf16) (g : Vec F S1x1x1024 .f32) : Vec F S1024x1024 .bf16 :=
  View.canon [
    ⟨Rect.unit (s := S1024x1024) ![0, 896] S1024x128.size inb_S1024x1024_S1024x128_0_896, norm128 896 slices_S1024x1024_o0_896_S1024x128 slices_S1x1024_o0_896_S1x128 (k0_pay25 x s) (k0_pay26 g)⟩,
    ⟨Rect.unit (s := S1024x1024) ![0, 768] S1024x128.size inb_S1024x1024_S1024x128_0_768, norm128 768 slices_S1024x1024_o0_768_S1024x128 slices_S1x1024_o0_768_S1x128 (k0_pay25 x s) (k0_pay26 g)⟩,
    ⟨Rect.unit (s := S1024x1024) ![0, 640] S1024x128.size inb_S1024x1024_S1024x128_0_640, norm128 640 slices_S1024x1024_o0_640_S1024x128 slices_S1x1024_o0_640_S1x128 (k0_pay25 x s) (k0_pay26 g)⟩,
    ⟨Rect.unit (s := S1024x1024) ![0, 512] S1024x128.size inb_S1024x1024_S1024x128_0_512, norm128 512 slices_S1024x1024_o0_512_S1024x128 slices_S1x1024_o0_512_S1x128 (k0_pay25 x s) (k0_pay26 g)⟩,
    ⟨Rect.unit (s := S1024x1024) ![0, 384] S1024x128.size inb_S1024x1024_S1024x128_0_384, norm128 384 slices_S1024x1024_o0_384_S1024x128 slices_S1x1024_o0_384_S1x128 (k0_pay25 x s) (k0_pay26 g)⟩,
    ⟨Rect.unit (s := S1024x1024) ![0, 256] S1024x128.size inb_S1024x1024_S1024x128_0_256, norm128 256 slices_S1024x1024_o0_256_S1024x128 slices_S1x1024_o0_256_S1x128 (k0_pay25 x s) (k0_pay26 g)⟩,
    ⟨Rect.unit (s := S1024x1024) ![0, 128] S1024x128.size inb_S1024x1024_S1024x128_0_128, norm128 128 slices_S1024x1024_o0_128_S1024x128 slices_S1x1024_o0_128_S1x128 (k0_pay25 x s) (k0_pay26 g)⟩,
    ⟨Rect.unit (s := S1024x1024) ![0, 0] S1024x128.size inb_S1024x1024_S1024x128_0_0, norm128 0 slices_S1024x1024_o0_0_S1024x128 slices_S1x1024_o0_0_S1x128 (k0_pay25 x s) (k0_pay26 g)⟩]

/-- A tile normed in four groups of 256 columns. -/
def normTile256 (x : Vec F S1024x2048 .bf16) (s : Vec F S1024x2048 .bf16) (g : Vec F S1x1x1024 .f32) : Vec F S1024x1024 .bf16 :=
  View.canon [
    ⟨Rect.unit (s := S1024x1024) ![0, 768] S1024x256.size inb_S1024x1024_S1024x256_0_768, norm256 768 slices_S1024x1024_o0_768_S1024x256 slices_S1x1024_o0_768_S1x256 (k0_pay38 x s) (k0_pay39 g)⟩,
    ⟨Rect.unit (s := S1024x1024) ![0, 512] S1024x256.size inb_S1024x1024_S1024x256_0_512, norm256 512 slices_S1024x1024_o0_512_S1024x256 slices_S1x1024_o0_512_S1x256 (k0_pay38 x s) (k0_pay39 g)⟩,
    ⟨Rect.unit (s := S1024x1024) ![0, 256] S1024x256.size inb_S1024x1024_S1024x256_0_256, norm256 256 slices_S1024x1024_o0_256_S1024x256 slices_S1x1024_o0_256_S1x256 (k0_pay38 x s) (k0_pay39 g)⟩,
    ⟨Rect.unit (s := S1024x1024) ![0, 0] S1024x256.size inb_S1024x1024_S1024x256_0_0, norm256 0 slices_S1024x1024_o0_0_S1024x256 slices_S1x1024_o0_0_S1x256 (k0_pay38 x s) (k0_pay39 g)⟩]

/-- The slab of the up weights, rounded. -/
def upCast (x : Vec F S32x8192 .f32) : FVec F S32x8192 .bf16 := truncf .bf16 x bitsLt_bf16_f32

/-- The slab of the down weights, rounded. -/
def downCast (x : Vec F S128x2048 .f32) : FVec F S128x2048 .bf16 := truncf .bf16 x bitsLt_bf16_f32

/-- The whole of a 1024 × 2048 buffer, and of the gains. -/
abbrev wholeX : Rect S1024x2048 := Rect.unit (s := S1024x2048) ![0, 0] S1024x2048.size inb_S1024x2048_S1024x2048_0_0
/-- The whole block of gains. -/
abbrev wholeG : Rect S1x1x1024 := Rect.unit (s := S1x1x1024) ![0, 0, 0] S1x1x1024.size inb_S1x1x1024_S1x1x1024_0_0_0
/-- The whole block of the projection. -/
abbrev wholeO : Rect S1024x1024 := Rect.unit (s := S1024x1024) ![0, 0] S1024x1024.size inb_S1024x1024_S1024x1024_0_0

/-- A load of a whole buffer reads its contents. -/
theorem ld_x (x : Vec F S1024x2048 .bf16) :
    View.ld x wholeX = x :=
  View.ld_unit_lit _ x (by decide)

/-- A load of the whole block of weights reads it. -/
theorem ld_w (x : Vec F S1024x2048 .f32) :
    View.ld x wholeX = x :=
  View.ld_unit_lit _ x (by decide)

/-- A load of the whole block of gains reads it. -/
theorem ld_g (x : Vec F S1x1x1024 .f32) :
    View.ld x wholeG = x :=
  View.ld_unit_lit _ x (by decide)

section Body

variable (c : Dev nD) (i : grid0.Coords)
  (arg2 : Memref sig .tc .vmem S1024x2048 .bf16) (harg2 : arg2.IsWhole)
  (arg3 : Memref sig .tc .vmem S1024x2048 .f32) (harg3 : arg3.IsWhole)
  (arg4 : Memref sig .tc .vmem S1x1x1024 .f32) (harg4 : arg4.IsWhole)
  (arg5 : Memref sig .tc .vmem S32x8192 .f32) (harg5 : arg5.IsWhole)
  (arg6 : Memref sig .tc .vmem S128x2048 .f32) (harg6 : arg6.IsWhole)
  (arg7 : Memref sig .tc .vmem S1024x1024 .bf16) (harg7 : arg7.IsWhole)
  (arg8 : Memref sig .tc .vmem S32x8192 .bf16) (harg8 : arg8.IsWhole)
  (arg9 : Memref sig .tc .vmem S128x2048 .bf16) (harg9 : arg9.IsWhole)
  (arg10 : Memref sig .tc .vmem S1024x2048 .bf16) (harg10 : arg10.IsWhole)

/-- The nine buffers of the body, each whole and at given contents. -/
abbrev Held (x0 : Vec F S1024x2048 .bf16) (x1 : Vec F S1024x2048 .f32) (x2 : Vec F S1x1x1024 .f32)
    (x3 : Vec F S32x8192 .f32) (x4 : Vec F S128x2048 .f32) (o5 : Vec F S1024x1024 .bf16)
    (o6 : Vec F S32x8192 .bf16) (o7 : Vec F S128x2048 .bf16) (s : Vec F S1024x2048 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o5 ∗ owns (c : Thread nD τ) arg8 fullShare o6 ∗ owns (c : Thread nD τ) arg9 fullShare o7 ∗ owns (c : Thread nD τ) arg10 fullShare s)

/-- The nine buffers at contents that read as stated. -/
theorem held_of {f0 f1 f2 f3 f4 f5 f6 f7 fs} {x0 : Vec F S1024x2048 .bf16} {x1 : Vec F S1024x2048 .f32} {x2 : Vec F S1x1x1024 .f32}
    {x3 : Vec F S32x8192 .f32} {x4 : Vec F S128x2048 .f32} {o5 : Vec F S1024x1024 .bf16}
    {o6 : Vec F S32x8192 .bf16} {o7 : Vec F S128x2048 .bf16} {s : Vec F S1024x2048 .bf16} :
    ⊢ iprop((arg2.view.loc (c : Thread nD τ) ↦[arg2.view.set]{fullShare} f0) -∗ (arg3.view.loc (c : Thread nD τ) ↦[arg3.view.set]{fullShare} f1) -∗ (arg4.view.loc (c : Thread nD τ) ↦[arg4.view.set]{fullShare} f2)
      -∗ (arg5.view.loc (c : Thread nD τ) ↦[arg5.view.set]{fullShare} f3) -∗ (arg6.view.loc (c : Thread nD τ) ↦[arg6.view.set]{fullShare} f4) -∗ (arg7.view.loc (c : Thread nD τ) ↦[arg7.view.set]{fullShare} f5)
      -∗ (arg8.view.loc (c : Thread nD τ) ↦[arg8.view.set]{fullShare} f6) -∗ (arg9.view.loc (c : Thread nD τ) ↦[arg9.view.set]{fullShare} f7) -∗ (arg10.view.loc (c : Thread nD τ) ↦[arg10.view.set]{fullShare} fs)
      -∗ ⌜arg2.view.read (Elt F) f0 = x0 ∧ arg3.view.read (Elt F) f1 = x1 ∧ arg4.view.read (Elt F) f2 = x2 ∧ arg5.view.read (Elt F) f3 = x3 ∧ arg6.view.read (Elt F) f4 = x4
          ∧ arg7.view.read (Elt F) f5 = o5 ∧ arg8.view.read (Elt F) f6 = o6 ∧ arg9.view.read (Elt F) f7 = o7 ∧ arg10.view.read (Elt F) fs = s⌝
      -∗ (Held c arg2 arg3 arg4 arg5 arg6 arg7 arg8 arg9 arg10 x0 x1 x2 x3 x4 o5 o6 o7 s : sProp 𝕄)) := by
  unfold Held owns
  iintro H0 H1 H2 H3 H4 H5 H6 H7 HS %h
  obtain ⟨h0, h1, h2, h3, h4, h5, h6, h7, hs⟩ := h
  isplitl [H0]; · iexists _; isplitr; · ipureintro; exact h0
                  iexact H0
  isplitl [H1]; · iexists _; isplitr; · ipureintro; exact h1
                  iexact H1
  isplitl [H2]; · iexists _; isplitr; · ipureintro; exact h2
                  iexact H2
  isplitl [H3]; · iexists _; isplitr; · ipureintro; exact h3
                  iexact H3
  isplitl [H4]; · iexists _; isplitr; · ipureintro; exact h4
                  iexact H4
  isplitl [H5]; · iexists _; isplitr; · ipureintro; exact h5
                  iexact H5
  isplitl [H6]; · iexists _; isplitr; · ipureintro; exact h6
                  iexact H6
  isplitl [H7]; · iexists _; isplitr; · ipureintro; exact h7
                  iexact H7
  iexists _; isplitr; · ipureintro; exact hs
  iexact HS

/-- The first point of each column tile. -/
abbrev cond1 (i : grid0.Coords) : Prop := (Scalar.cmpi .ne (Scalar.extui (Scalar.cmpi .eq (BitVec.ofNat 32 (i 1).val) 0#32)) 0#32) = 1#1

/-- A store over the whole scratch leaves what it stored. -/
theorem scratch_read (f : arg10.view.ty.Contents (Elt F)) (w : Vec F S1024x2048 .bf16) :
    arg10.view.read (Elt F) (arg10.view.writes (Elt F) f [⟨wholeX, w⟩]) = w :=
  (View.read_writes_eq_canon _ _ _ (View.cover_of_tiledL _ ![1024, 2048] (by sl_kernel_rfl))).trans
    (View.canon_cons_unit_lit _ w [] (by decide))

/-- The same of the output tile. -/
theorem tile_read (f : arg7.view.ty.Contents (Elt F)) (w : Vec F S1024x1024 .bf16) :
    arg7.view.read (Elt F) (arg7.view.writes (Elt F) f [⟨wholeO, w⟩]) = w :=
  (View.read_writes_eq_canon _ _ _ (View.cover_of_tiledL _ ![1024, 1024] (by sl_kernel_rfl))).trans
    (View.canon_cons_unit_lit _ w [] (by decide))

/-- Stores that cover the tile, block by block, leave the tile they list. -/
theorem tile_canon (f : arg7.view.ty.Contents (Elt F)) (L : List (View.Piece (Elt F) S1024x1024 .bf16)) (size : Fin 2 → ℕ)
    (h : View.Piece.tiledL L size = true) : arg7.view.read (Elt F) (arg7.view.writes (Elt F) f L) = View.canon L :=
  View.read_writes_eq_canon _ _ _ (View.cover_of_tiledL L size h)

/-- Stores that cover the slab of up weights, each a block of the rounded slab, leave the rounded slab. -/
theorem up_read (f : arg8.view.ty.Contents (Elt F)) (x : Vec F S32x8192 .f32) (L : List (View.Piece (Elt F) S32x8192 .bf16))
    (h : View.Piece.tiledL L ![32, 2048] = true) (hp : ∀ p ∈ L, ∀ y, p.2 y = upCast x (p.1.emb y)) :
    arg8.view.read (Elt F) (arg8.view.writes (Elt F) f L) = upCast x :=
  (View.read_writes_eq_canon _ _ _ (View.cover_of_tiledL L _ h)).trans
    (funext fun y => View.canon_apply_of_pieces (upCast x) L hp y (View.cover_of_tiledL L _ h y))

/-- The same of the slab of down weights. -/
theorem down_read (f : arg9.view.ty.Contents (Elt F)) (x : Vec F S128x2048 .f32) (L : List (View.Piece (Elt F) S128x2048 .bf16))
    (h : View.Piece.tiledL L ![32, 2048] = true) (hp : ∀ p ∈ L, ∀ y, p.2 y = downCast x (p.1.emb y)) :
    arg9.view.read (Elt F) (arg9.view.writes (Elt F) f L) = downCast x :=
  (View.read_writes_eq_canon _ _ _ (View.cover_of_tiledL L _ h)).trans
    (funext fun y => View.canon_apply_of_pieces (downCast x) L hp y (View.cover_of_tiledL L _ h y))

end Body
end Cert.KernelIdeal.Hand
end
-- ==== Proof.RunA.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S1024x2048 .bf16) (harg2 : arg2.IsWhole)
  (arg3 : Memref sig .tc .vmem S1024x2048 .f32) (harg3 : arg3.IsWhole)
  (arg4 : Memref sig .tc .vmem S1x1x1024 .f32) (harg4 : arg4.IsWhole)
  (arg5 : Memref sig .tc .vmem S32x8192 .f32) (harg5 : arg5.IsWhole)
  (arg6 : Memref sig .tc .vmem S128x2048 .f32) (harg6 : arg6.IsWhole)
  (arg7 : Memref sig .tc .vmem S1024x1024 .bf16) (harg7 : arg7.IsWhole)
  (arg8 : Memref sig .tc .vmem S32x8192 .bf16) (harg8 : arg8.IsWhole)
  (arg9 : Memref sig .tc .vmem S128x2048 .bf16) (harg9 : arg9.IsWhole)
  (arg10 : Memref sig .tc .vmem S1024x2048 .bf16) (harg10 : arg10.IsWhole)

set_option maxHeartbeats 1000000 in
/-- The body at a gate tile. -/
theorem run_gate (h1 : k0_cond2 i = 1#1) (h2 : ¬ k0_cond3 i = 1#1) (h3 : ¬ k0_cond4 i = 1#1) (h4 : ¬ k0_cond5 i = 1#1) (h5 : ¬ k0_cond6 i = 1#1)
    (x0 : Vec F S1024x2048 .bf16) (x1 : Vec F S1024x2048 .f32) (x2 : Vec F S1x1x1024 .f32)
    (x3 : Vec F S32x8192 .f32) (x4 : Vec F S128x2048 .f32) (d5 : Vec F S1024x1024 .bf16)
    (d6 : Vec F S32x8192 .bf16) (d7 : Vec F S128x2048 .bf16) (d s : Vec F S1024x2048 .bf16)
    (hs : cond1 i → s = k0_pay44 x1) (hs' : ¬ cond1 i → s = d) (E : Set ℕ) (K : PUnit → sProp 𝕄) :
    iprop(Held c arg2 arg3 arg4 arg5 arg6 arg7 arg8 arg9 arg10 x0 x1 x2 x3 x4 d5 d6 d7 d
        ∗ (Held c arg2 arg3 arg4 arg5 arg6 arg7 arg8 arg9 arg10 x0 x1 x2 x3 x4 (gateTile x0 s) (upCast x3) (downCast x4) s -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part9_eq_skeleton, k0_part1_eq_skeleton, k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs
  clear hf0 hf1 hf2 hf3 hf4 hf5 hf6 hf7 hfs
  by_cases hc0 : cond1 i
  · obtain rfl := hs hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 256] (by sl_kernel_rfl)).trans ?_
      refine Eq.trans (show _ = gateTile (View.ld (arg2.view.read (Elt F) (harg2.unread x0)) wholeX) (arg10.view.read (Elt F) (arg10.view.writes (Elt F) arg10.view.junk [⟨wholeX, k0_pay44 (View.ld (arg3.view.read (Elt F) (harg3.unread x1)) wholeX)⟩])) from rfl) ?_
      rw [scratch_read arg10, harg2.read_unread, harg3.read_unread, ld_x, ld_w]
    · exact (up_read arg8 _ (arg5.view.read (Elt F) (harg5.unread x3)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg upCast (harg5.read_unread x3))
    · exact (down_read arg9 _ (arg6.view.read (Elt F) (harg6.unread x4)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg downCast (harg6.read_unread x4))
    · refine (scratch_read arg10 _ _).trans ?_
      rw [View.readAt_eq_ld, harg3.read_unread, ld_w]
  · obtain rfl := hs' hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 256] (by sl_kernel_rfl)).trans ?_
      refine Eq.trans (show _ = gateTile (View.ld (arg2.view.read (Elt F) (harg2.unread x0)) wholeX) (arg10.view.read (Elt F) (harg10.unread s)) from rfl) ?_
      rw [harg10.read_unread, harg2.read_unread, ld_x]
    · exact (up_read arg8 _ (arg5.view.read (Elt F) (harg5.unread x3)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg upCast (harg5.read_unread x3))
    · exact (down_read arg9 _ (arg6.view.read (Elt F) (harg6.unread x4)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg downCast (harg6.read_unread x4))
    · exact harg10.read_unread _

end Body
end Cert.KernelIdeal.Hand
end
-- ==== Proof.RunB.lean ====
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S1024x2048 .bf16) (harg2 : arg2.IsWhole)
  (arg3 : Memref sig .tc .vmem S1024x2048 .f32) (harg3 : arg3.IsWhole)
  (arg4 : Memref sig .tc .vmem S1x1x1024 .f32) (harg4 : arg4.IsWhole)
  (arg5 : Memref sig .tc .vmem S32x8192 .f32) (harg5 : arg5.IsWhole)
  (arg6 : Memref sig .tc .vmem S128x2048 .f32) (harg6 : arg6.IsWhole)
  (arg7 : Memref sig .tc .vmem S1024x1024 .bf16) (harg7 : arg7.IsWhole)
  (arg8 : Memref sig .tc .vmem S32x8192 .bf16) (harg8 : arg8.IsWhole)
  (arg9 : Memref sig .tc .vmem S128x2048 .bf16) (harg9 : arg9.IsWhole)
  (arg10 : Memref sig .tc .vmem S1024x2048 .bf16) (harg10 : arg10.IsWhole)

set_option maxHeartbeats 1000000 in
/-- The body at a plain tile stored in four blocks. -/
theorem run_plain (h1 : ¬ k0_cond2 i = 1#1) (h2 : ¬ k0_cond3 i = 1#1) (h3 : k0_cond4 i = 1#1) (h4 : ¬ k0_cond5 i = 1#1) (h5 : ¬ k0_cond6 i = 1#1)
    (x0 : Vec F S1024x2048 .bf16) (x1 : Vec F S1024x2048 .f32) (x2 : Vec F S1x1x1024 .f32)
    (x3 : Vec F S32x8192 .f32) (x4 : Vec F S128x2048 .f32) (d5 : Vec F S1024x1024 .bf16)
    (d6 : Vec F S32x8192 .bf16) (d7 : Vec F S128x2048 .bf16) (d s : Vec F S1024x2048 .bf16)
    (hs : cond1 i → s = k0_pay44 x1) (hs' : ¬ cond1 i → s = d) (E : Set ℕ) (K : PUnit → sProp 𝕄) :
    iprop(Held c arg2 arg3 arg4 arg5 arg6 arg7 arg8 arg9 arg10 x0 x1 x2 x3 x4 d5 d6 d7 d
        ∗ (Held c arg2 arg3 arg4 arg5 arg6 arg7 arg8 arg9 arg10 x0 x1 x2 x3 x4 (plainTile x0 s) (upCast x3) (downCast x4) s -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part9_eq_skeleton, k0_part3_eq_skeleton, k0_part4_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs
  clear hf0 hf1 hf2 hf3 hf4 hf5 hf6 hf7 hfs
  by_cases hc0 : cond1 i
  · obtain rfl := hs hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 256] (by sl_kernel_rfl)).trans ?_
      refine Eq.trans (show _ = plainTile (View.ld (arg2.view.read (Elt F) (harg2.unread x0)) wholeX) (arg10.view.read (Elt F) (arg10.view.writes (Elt F) arg10.view.junk [⟨wholeX, k0_pay44 (View.ld (arg3.view.read (Elt F) (harg3.unread x1)) wholeX)⟩])) from rfl) ?_
      rw [scratch_read arg10, harg2.read_unread, harg3.read_unread, ld_x, ld_w]
    · exact (up_read arg8 _ (arg5.view.read (Elt F) (harg5.unread x3)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg upCast (harg5.read_unread x3))
    · exact (down_read arg9 _ (arg6.view.read (Elt F) (harg6.unread x4)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg downCast (harg6.read_unread x4))
    · refine (scratch_read arg10 _ _).trans ?_
      rw [View.readAt_eq_ld, harg3.read_unread, ld_w]
  · obtain rfl := hs' hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 256] (by sl_kernel_rfl)).trans ?_
      refine Eq.trans (show _ = plainTile (View.ld (arg2.view.read (Elt F) (harg2.unread x0)) wholeX) (arg10.view.read (Elt F) (harg10.unread s)) from rfl) ?_
      rw [harg10.read_unread, harg2.read_unread, ld_x]
    · exact (up_read arg8 _ (arg5.view.read (Elt F) (harg5.unread x3)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg upCast (harg5.read_unread x3))
    · exact (down_read arg9 _ (arg6.view.read (Elt F) (harg6.unread x4)) _ (by sl_kernel_rfl)
        (List.forall_mem_cons.2 ⟨fun _ => rfl, List.forall_mem_cons.2 ⟨fun _ => rfl, List.forall_mem_cons.2 ⟨fun _ => rfl, List.forall_mem_cons.2 ⟨fun _ => rfl, fun _ h => absurd h List.not_mem_nil⟩⟩⟩⟩)).trans (congrArg downCast (harg6.read_unread x4))
    · exact harg10.read_unread _

set_option maxHeartbeats 1000000 in
/-- The body at a plain tile stored whole. -/
theorem run_whole (h1 : ¬ k0_cond2 i = 1#1) (h2 : k0_cond3 i = 1#1) (h3 : ¬ k0_cond4 i = 1#1) (h4 : ¬ k0_cond5 i = 1#1) (h5 : ¬ k0_cond6 i = 1#1)
    (x0 : Vec F S1024x2048 .bf16) (x1 : Vec F S1024x2048 .f32) (x2 : Vec F S1x1x1024 .f32)
    (x3 : Vec F S32x8192 .f32) (x4 : Vec F S128x2048 .f32) (d5 : Vec F S1024x1024 .bf16)
    (d6 : Vec F S32x8192 .bf16) (d7 : Vec F S128x2048 .bf16) (d s : Vec F S1024x2048 .bf16)
    (hs : cond1 i → s = k0_pay44 x1) (hs' : ¬ cond1 i → s = d) (E : Set ℕ) (K : PUnit → sProp 𝕄) :
    iprop(Held c arg2 arg3 arg4 arg5 arg6 arg7 arg8 arg9 arg10 x0 x1 x2 x3 x4 d5 d6 d7 d
        ∗ (Held c arg2 arg3 arg4 arg5 arg6 arg7 arg8 arg9 arg10 x0 x1 x2 x3 x4 (k0_pay48 x0 s) d6 d7 s -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part9_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs
  clear hf0 hf1 hf2 hf3 hf4 hf5 hf6 hf7 hfs
  by_cases hc0 : cond1 i
  · obtain rfl := hs hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_read arg7 _ _).trans ?_
      refine Eq.trans (show _ = k0_pay48 (View.ld (arg2.view.read (Elt F) (harg2.unread x0)) wholeX) (View.ld (arg10.view.read (Elt F) (arg10.view.writes (Elt F) arg10.view.junk [⟨wholeX, k0_pay44 (View.ld (arg3.view.read (Elt F) (harg3.unread x1)) wholeX)⟩])) wholeX) from rfl) ?_
      rw [scratch_read arg10, harg2.read_unread, harg3.read_unread, ld_x, ld_w, ld_x]
    · exact harg8.read_unread _
    · exact harg9.read_unread _
    · refine (scratch_read arg10 _ _).trans ?_
      rw [View.readAt_eq_ld, harg3.read_unread, ld_w]
  · obtain rfl := hs' hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_read arg7 _ _).trans ?_
      refine Eq.trans (show _ = k0_pay48 (View.ld (arg2.view.read (Elt F) (harg2.unread x0)) wholeX) (View.ld (arg10.view.read (Elt F) (harg10.unread s)) wholeX) from rfl) ?_
      rw [harg10.read_unread, harg2.read_unread, ld_x, ld_x]
    · exact harg8.read_unread _
    · exact harg9.read_unread _
    · exact harg10.read_unread _

end Body
end Cert.KernelIdeal.Hand
end
-- ==== Proof.RunC.lean ====
module

public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S1024x2048 .bf16) (harg2 : arg2.IsWhole)
  (arg3 : Memref sig .tc .vmem S1024x2048 .f32) (harg3 : arg3.IsWhole)
  (arg4 : Memref sig .tc .vmem S1x1x1024 .f32) (harg4 : arg4.IsWhole)
  (arg5 : Memref sig .tc .vmem S32x8192 .f32) (harg5 : arg5.IsWhole)
  (arg6 : Memref sig .tc .vmem S128x2048 .f32) (harg6 : arg6.IsWhole)
  (arg7 : Memref sig .tc .vmem S1024x1024 .bf16) (harg7 : arg7.IsWhole)
  (arg8 : Memref sig .tc .vmem S32x8192 .bf16) (harg8 : arg8.IsWhole)
  (arg9 : Memref sig .tc .vmem S128x2048 .bf16) (harg9 : arg9.IsWhole)
  (arg10 : Memref sig .tc .vmem S1024x2048 .bf16) (harg10 : arg10.IsWhole)

set_option maxHeartbeats 1000000 in
/-- The body at a tile normed in groups of 256 columns. -/
theorem run_norm256 (h1 : ¬ k0_cond2 i = 1#1) (h2 : ¬ k0_cond3 i = 1#1) (h3 : ¬ k0_cond4 i = 1#1) (h4 : ¬ k0_cond5 i = 1#1) (h5 : k0_cond6 i = 1#1)
    (x0 : Vec F S1024x2048 .bf16) (x1 : Vec F S1024x2048 .f32) (x2 : Vec F S1x1x1024 .f32)
    (x3 : Vec F S32x8192 .f32) (x4 : Vec F S128x2048 .f32) (d5 : Vec F S1024x1024 .bf16)
    (d6 : Vec F S32x8192 .bf16) (d7 : Vec F S128x2048 .bf16) (d s : Vec F S1024x2048 .bf16)
    (hs : cond1 i → s = k0_pay44 x1) (hs' : ¬ cond1 i → s = d) (E : Set ℕ) (K : PUnit → sProp 𝕄) :
    iprop(Held c arg2 arg3 arg4 arg5 arg6 arg7 arg8 arg9 arg10 x0 x1 x2 x3 x4 d5 d6 d7 d
        ∗ (Held c arg2 arg3 arg4 arg5 arg6 arg7 arg8 arg9 arg10 x0 x1 x2 x3 x4 (normTile256 x0 s x2) d6 d7 s -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part9_eq_skeleton, k0_part8_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs
  clear hf0 hf1 hf2 hf3 hf4 hf5 hf6 hf7 hfs
  by_cases hc0 : cond1 i
  · obtain rfl := hs hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 256] (by sl_kernel_rfl)).trans ?_
      refine Eq.trans (show _ = normTile256 (View.ld (arg2.view.read (Elt F) (harg2.unread x0)) wholeX) (View.ld (arg10.view.read (Elt F) (arg10.view.writes (Elt F) arg10.view.junk [⟨wholeX, k0_pay44 (View.ld (arg3.view.read (Elt F) (harg3.unread x1)) wholeX)⟩])) wholeX) (View.ld (arg4.view.read (Elt F) (harg4.unread x2)) wholeG) from rfl) ?_
      rw [scratch_read arg10, harg2.read_unread, harg3.read_unread, harg4.read_unread, ld_g, ld_x, ld_w, ld_x]
    · exact harg8.read_unread _
    · exact harg9.read_unread _
    · refine (scratch_read arg10 _ _).trans ?_
      rw [View.readAt_eq_ld, harg3.read_unread, ld_w]
  · obtain rfl := hs' hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 256] (by sl_kernel_rfl)).trans ?_
      refine Eq.trans (show _ = normTile256 (View.ld (arg2.view.read (Elt F) (harg2.unread x0)) wholeX) (View.ld (arg10.view.read (Elt F) (harg10.unread s)) wholeX) (View.ld (arg4.view.read (Elt F) (harg4.unread x2)) wholeG) from rfl) ?_
      rw [harg10.read_unread, harg2.read_unread, harg4.read_unread, ld_g, ld_x, ld_x]
    · exact harg8.read_unread _
    · exact harg9.read_unread _
    · exact harg10.read_unread _

end Body
end Cert.KernelIdeal.Hand
end
-- ==== Proof.RunD.lean ====
module

public import proofs.«01_k».proof.Proof.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S1024x2048 .bf16) (harg2 : arg2.IsWhole)
  (arg3 : Memref sig .tc .vmem S1024x2048 .f32) (harg3 : arg3.IsWhole)
  (arg4 : Memref sig .tc .vmem S1x1x1024 .f32) (harg4 : arg4.IsWhole)
  (arg5 : Memref sig .tc .vmem S32x8192 .f32) (harg5 : arg5.IsWhole)
  (arg6 : Memref sig .tc .vmem S128x2048 .f32) (harg6 : arg6.IsWhole)
  (arg7 : Memref sig .tc .vmem S1024x1024 .bf16) (harg7 : arg7.IsWhole)
  (arg8 : Memref sig .tc .vmem S32x8192 .bf16) (harg8 : arg8.IsWhole)
  (arg9 : Memref sig .tc .vmem S128x2048 .bf16) (harg9 : arg9.IsWhole)
  (arg10 : Memref sig .tc .vmem S1024x2048 .bf16) (harg10 : arg10.IsWhole)

set_option maxHeartbeats 1000000 in
/-- The body at a tile normed in groups of 128 columns. -/
theorem run_norm128 (h1 : ¬ k0_cond2 i = 1#1) (h2 : ¬ k0_cond3 i = 1#1) (h3 : ¬ k0_cond4 i = 1#1) (h4 : k0_cond5 i = 1#1) (h5 : ¬ k0_cond6 i = 1#1)
    (x0 : Vec F S1024x2048 .bf16) (x1 : Vec F S1024x2048 .f32) (x2 : Vec F S1x1x1024 .f32)
    (x3 : Vec F S32x8192 .f32) (x4 : Vec F S128x2048 .f32) (d5 : Vec F S1024x1024 .bf16)
    (d6 : Vec F S32x8192 .bf16) (d7 : Vec F S128x2048 .bf16) (d s : Vec F S1024x2048 .bf16)
    (hs : cond1 i → s = k0_pay44 x1) (hs' : ¬ cond1 i → s = d) (E : Set ℕ) (K : PUnit → sProp 𝕄) :
    iprop(Held c arg2 arg3 arg4 arg5 arg6 arg7 arg8 arg9 arg10 x0 x1 x2 x3 x4 d5 d6 d7 d
        ∗ (Held c arg2 arg3 arg4 arg5 arg6 arg7 arg8 arg9 arg10 x0 x1 x2 x3 x4 (normTile128 x0 s x2) d6 d7 s -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part9_eq_skeleton, k0_part5_eq_skeleton, k0_part6_eq_skeleton, k0_part7_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hfs
  clear hf0 hf1 hf2 hf3 hf4 hf5 hf6 hf7 hfs
  by_cases hc0 : cond1 i
  · obtain rfl := hs hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 128] (by sl_kernel_rfl)).trans ?_
      refine Eq.trans (show _ = normTile128 (View.ld (arg2.view.read (Elt F) (harg2.unread x0)) wholeX) (View.ld (arg10.view.read (Elt F) (arg10.view.writes (Elt F) arg10.view.junk [⟨wholeX, k0_pay44 (View.ld (arg3.view.read (Elt F) (harg3.unread x1)) wholeX)⟩])) wholeX) (View.ld (arg4.view.read (Elt F) (harg4.unread x2)) wholeG) from rfl) ?_
      rw [scratch_read arg10, harg2.read_unread, harg3.read_unread, harg4.read_unread, ld_g, ld_x, ld_w, ld_x]
    · exact harg8.read_unread _
    · exact harg9.read_unread _
    · refine (scratch_read arg10 _ _).trans ?_
      rw [View.readAt_eq_ld, harg3.read_unread, ld_w]
  · obtain rfl := hs' hc0
    sl_exec (disch := first | sl_exact hc0 | sl_exact h1 | sl_exact h2 | sl_exact h3 | sl_exact h4 | sl_exact h5)
    sl_step
    iapply Hk
    iapply (held_of c arg2 arg3 arg4 arg5 arg6 arg7 arg8 arg9 arg10) $$ H0 H1 H2 H3 H4 H5 H6 H7 HS
    ipureintro
    refine ⟨harg2.read_unread _, harg3.read_unread _, harg4.read_unread _, harg5.read_unread _, harg6.read_unread _, ?_, ?_, ?_, ?_⟩
    · refine (tile_canon arg7 _ _ ![1024, 128] (by sl_kernel_rfl)).trans ?_
      refine Eq.trans (show _ = normTile128 (View.ld (arg2.view.read (Elt F) (harg2.unread x0)) wholeX) (View.ld (arg10.view.read (Elt F) (harg10.unread s)) wholeX) (View.ld (arg4.view.read (Elt F) (harg4.unread x2)) wholeG) from rfl) ?_
      rw [harg10.read_unread, harg2.read_unread, harg4.read_unread, ld_g, ld_x, ld_x]
    · exact harg8.read_unread _
    · exact harg9.read_unread _
    · exact harg10.read_unread _

end Body
end Cert.KernelIdeal.Hand
end
-- ==== Proof.Grid.lean ====
module

public import proofs.«01_k».proof.Proof.RunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: thirteen column tiles, eight row blocks each -/

/-- The row of the transposed weights at which column tile `j` begins: six gate tiles, three plain ones, two of
    queries and keys, one of values, one of the memory's queries. -/
def rowStart (j : ℕ) : ℕ := [7176, 9224, 11272, 8200, 10248, 12296, 0, 1024, 2048, 3072, 4096, 5120, 6152].getD j 0

/-- Where each window's block lies at each point. -/
theorem idx : ∀ t : Fin cfg0.N, win0_0.index t = ![t.val % 8, 0] ∧ win0_1.index t = ![rowStart (t.val / 8), 0]
    ∧ win0_2.index t = ![t.val / 8, 0, 0] ∧ win0_3.index t = ![min t.val 63, 0] ∧ win0_4.index t = ![min t.val 63, 0]
    ∧ win0_5.index t = ![t.val % 8, t.val / 8] ∧ win0_6.index t = ![min t.val 63, 0] ∧ win0_7.index t = ![min t.val 63, 0] :=
  (by decide +kernel : ∀ t : Fin grid0.N, win0_0.index t = ![t.val % 8, 0] ∧ win0_1.index t = ![rowStart (t.val / 8), 0]
    ∧ win0_2.index t = ![t.val / 8, 0, 0] ∧ win0_3.index t = ![min t.val 63, 0] ∧ win0_4.index t = ![min t.val 63, 0]
    ∧ win0_5.index t = ![t.val % 8, t.val / 8] ∧ win0_6.index t = ![min t.val 63, 0] ∧ win0_7.index t = ![min t.val 63, 0])

/-- The two windows of casts are written back at every point below the last of their blocks, and at the end. -/
theorem flush6 : ∀ t : Fin cfg0.N, (cfg0.win 6).flush t = decide (t.val < 63 ∨ t.val = 103) :=
  (by decide +kernel : ∀ t : Fin grid0.N, win0_6.flush t = decide (t.val < 63 ∨ t.val = 103))
/-- When window 7 is flushed. -/
theorem flush7 : ∀ t : Fin cfg0.N, (cfg0.win 7).flush t = decide (t.val < 63 ∨ t.val = 103) :=
  (by decide +kernel : ∀ t : Fin grid0.N, win0_7.flush t = decide (t.val < 63 ∨ t.val = 103))

/-- The conditions of the body, by the point. -/
theorem conds : ∀ t : Fin cfg0.N, (cond1 (grid0.coords t) ↔ t.val % 8 = 0) ∧ (k0_cond2 (grid0.coords t) = 1#1 ↔ t.val < 48)
    ∧ (k0_cond3 (grid0.coords t) = 1#1 ↔ (64 ≤ t.val ∧ t.val < 72) ∨ (88 ≤ t.val ∧ t.val < 96))
    ∧ (k0_cond4 (grid0.coords t) = 1#1 ↔ 48 ≤ t.val ∧ t.val < 64) ∧ (k0_cond5 (grid0.coords t) = 1#1 ↔ 72 ≤ t.val ∧ t.val < 88)
    ∧ (k0_cond6 (grid0.coords t) = 1#1 ↔ 96 ≤ t.val) :=
  (by decide +kernel : ∀ t : Fin grid0.N, (cond1 (grid0.coords t) ↔ t.val % 8 = 0) ∧ (k0_cond2 (grid0.coords t) = 1#1 ↔ t.val < 48)
    ∧ (k0_cond3 (grid0.coords t) = 1#1 ↔ (64 ≤ t.val ∧ t.val < 72) ∨ (88 ≤ t.val ∧ t.val < 96))
    ∧ (k0_cond4 (grid0.coords t) = 1#1 ↔ 48 ≤ t.val ∧ t.val < 64) ∧ (k0_cond5 (grid0.coords t) = 1#1 ↔ 72 ≤ t.val ∧ t.val < 88)
    ∧ (k0_cond6 (grid0.coords t) = 1#1 ↔ 96 ≤ t.val))

/-- The tile window is stored at every point; the windows of casts at the first 64. -/
theorem idle5 : ∀ t : Fin cfg0.N, cfg0.idle 5 (grid0.coords t) = false :=
  (by decide +kernel : ∀ t : Fin grid0.N, idle0 5 (grid0.coords t) = false)
/-- When window 6 is idle. -/
theorem idle6 : ∀ t : Fin cfg0.N, cfg0.idle 6 (grid0.coords t) = decide (64 ≤ t.val) :=
  (by decide +kernel : ∀ t : Fin grid0.N, idle0 6 (grid0.coords t) = decide (64 ≤ t.val))
/-- When window 7 is idle. -/
theorem idle7 : ∀ t : Fin cfg0.N, cfg0.idle 7 (grid0.coords t) = decide (64 ≤ t.val) :=
  (by decide +kernel : ∀ t : Fin grid0.N, idle0 7 (grid0.coords t) = decide (64 ≤ t.val))

/-- The weights' block is the same at all points of a column tile. -/
theorem iblk1_eq (c : Dev nD) (t t' : Fin cfg0.N) (h : t.val / 8 = t'.val / 8) : iblk m c 1 t = iblk m c 1 t' := by
  have e := (idx t).2.1; have e' := (idx t').2.1; rw [h] at e
  funext y
  blk_simp [iblk]
  refine congrArg _ (funext fun a => Fin.ext ?_)
  show win0_1.kind.off (win0_1.index t a) (win0_1.size a) + 1 * (y a).val
    = win0_1.kind.off (win0_1.index t' a) (win0_1.size a) + 1 * (y a).val
  rw [e, e']

/-- The blocks of the weights to cast no longer move from point 63 on. -/
theorem iblk3_eq (c : Dev nD) (t t' : Fin cfg0.N) (h : min t.val 63 = min t'.val 63) : iblk m c 3 t = iblk m c 3 t' := by
  have e := (idx t).2.2.2.1; have e' := (idx t').2.2.2.1; rw [h] at e
  funext y
  blk_simp [iblk]
  refine congrArg _ (funext fun a => Fin.ext ?_)
  fin_cases a <;> blk_simp [e, e']
/-- The same of window 4. -/
theorem iblk4_eq (c : Dev nD) (t t' : Fin cfg0.N) (h : min t.val 63 = min t'.val 63) : iblk m c 4 t = iblk m c 4 t' := by
  have e := (idx t).2.2.2.2.1; have e' := (idx t').2.2.2.2.1; rw [h] at e
  funext y
  blk_simp [iblk]
  refine congrArg _ (funext fun a => Fin.ext ?_)
  fin_cases a <;> blk_simp [e, e']

end Cert.KernelIdeal.Hand

end
-- ==== Proof.Tiles.lean ====
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The tiles, read at an element (exact arithmetic) -/

/-- The product of row `p` of `x` with row `q` of `s`. -/
def rowDot (x s : Vec Ideal S1024x2048 .bf16) (p q : Fin 1024) : EReal := ∑ k : Fin 2048, (x (ix2 p k) : EReal) * s (ix2 q k)

/-- Half the tanh of half of `z`, plus one half: the kernel's spelling of the gate. -/
def gate (z : EReal) : EReal := Ideal.ofBits .f32 0x3F000000#32 * Ideal.tanh (Ideal.ofBits .f32 0x3F000000#32 * z) + Ideal.ofBits .f32 0x3F000000#32

/-- A gate tile, read at an element. -/
theorem gateTile_apply (x s : Vec Ideal S1024x2048 .bf16) (y : S1024x1024.Idx) :
    gateTile (F := Ideal) x s y = gate (rowDot x s (y 0) (y 1)) := by
  unfold gateTile gate rowDot
  canon_tiles y h
  all_goals pointwise [k0_pay5]
  all_goals refine congrArg (fun z => Ideal.ofBits FTy.f32 _ * Ideal.tanh (Ideal.ofBits FTy.f32 _ * z) + Ideal.ofBits FTy.f32 _) (Finset.sum_congr rfl fun k _ =>
    congrArg₂ (· * ·) (congrArg x (congrArg₂ ix2 (Fin.ext ?_) rfl)) (congrArg s (congrArg₂ ix2 (Fin.ext ?_) rfl))) <;> (dsimp only; omega)

/-- A bare tile computed in four pieces, read at an element. -/
theorem plainTile_apply (x s : Vec Ideal S1024x2048 .bf16) (y : S1024x1024.Idx) :
    plainTile (F := Ideal) x s y = rowDot x s (y 0) (y 1) := by
  unfold plainTile rowDot
  canon_tiles y h
  all_goals pointwise [k0_pay15]
  all_goals refine Finset.sum_congr rfl fun k _ =>
    congrArg₂ (· * ·) (congrArg x (congrArg₂ ix2 (Fin.ext ?_) rfl)) (congrArg s (congrArg₂ ix2 (Fin.ext ?_) rfl)) <;> (dsimp only; omega)

/-- The product of a tile of heads of 128, read at an element. -/
theorem prod25_apply (x s : Vec Ideal S1024x2048 .bf16) (p q : Fin 1024) :
    k0_pay25 (F := Ideal) x s (ix2 p q) = rowDot x s p q := by
  unfold rowDot
  pointwise [k0_pay25]

/-- The product of a tile of heads of 256, read at an element. -/
theorem prod38_apply (x s : Vec Ideal S1024x2048 .bf16) (p q : Fin 1024) :
    k0_pay38 (F := Ideal) x s (ix2 p q) = rowDot x s p q := by
  unfold rowDot
  pointwise [k0_pay38]

/-- A bare tile computed at once, read at an element. -/
theorem wholeTile_apply (x s : Vec Ideal S1024x2048 .bf16) (y : S1024x1024.Idx) :
    k0_pay48 (F := Ideal) x s y = rowDot x s (y 0) (y 1) := by
  unfold rowDot
  pointwise [k0_pay48]

/-- A number divided by the root of a mean square: `z`, the sum of squares `ss`, their number `n`. -/
def scaled (n z ss : EReal) : EReal := z * Ideal.rsqrt (Ideal.div ss n + Ideal.ofBits .f32 0x358637BD#32)

/-- The sum of the squares of the `n` columns of row `p` of the product that column `q` is grouped with. -/
def groupSq (n : ℕ) (hn : n ∣ 1024) (x s : Vec Ideal S1024x2048 .bf16) (p q : Fin 1024) : EReal :=
  ∑ k : Fin n, rowDot x s p ⟨q.val / n * n + k.val, by
      obtain ⟨c, hc⟩ := hn
      have := k.isLt; have hq := q.isLt
      have h1 : q.val / n < c := Nat.div_lt_of_lt_mul (by omega)
      have h2 : (q.val / n + 1) * n ≤ c * n := Nat.mul_le_mul_right n h1
      rw [Nat.add_mul, Nat.one_mul, Nat.mul_comm c n] at h2
      omega⟩
    * rowDot x s p ⟨q.val / n * n + k.val, by
      obtain ⟨c, hc⟩ := hn
      have := k.isLt; have hq := q.isLt
      have h1 : q.val / n < c := Nat.div_lt_of_lt_mul (by omega)
      have h2 : (q.val / n + 1) * n ≤ c * n := Nat.mul_le_mul_right n h1
      rw [Nat.add_mul, Nat.one_mul, Nat.mul_comm c n] at h2
      omega⟩

/-- A head of 128 columns, normalised, read at an element. -/
theorem norm128_apply (o : ℕ) (ho : o + 128 ≤ 1024) (hs) (hg) (p : FVec Ideal S1024x1024 .f32) (g : FVec Ideal S1x1024 .f32)
    (a : Fin 1024) (b : Fin 128) :
    norm128 (F := Ideal) o hs hg p g (ix2 a b)
      = scaled (Ideal.ofBits .f32 0x43000000#32) (p (ix2 a ⟨o + b.val, by omega⟩))
          (∑ k : Fin 128, p (ix2 a ⟨o + k.val, by omega⟩) * p (ix2 a ⟨o + k.val, by omega⟩))
        * g (ix2 0 ⟨o + b.val, by omega⟩) := by
  unfold norm128 scaled
  pointwise

/-- The 128 normed columns from `o` on, of the product of `x` and `s`. -/
theorem norm128_prod (o : ℕ) (ho : o + 128 ≤ 1024) (ho' : o % 128 = 0) (hs) (hg) (x s : Vec Ideal S1024x2048 .bf16) (g : Vec Ideal S1x1x1024 .f32)
    (a q : Fin 1024) (z : S1024x128.Idx) (ea : a.val = (z 0).val) (eq : q.val = o + (z 1).val) (lt : (z 1).val < 128) :
    norm128 (F := Ideal) o hs hg (k0_pay25 x s) (k0_pay26 g) z
      = scaled (Ideal.ofBits .f32 0x43000000#32) (rowDot x s a q) (groupSq 128 (by decide) x s a q) * g (ix3 0 0 q) := by
  obtain ⟨a', b, rfl⟩ : ∃ (a' : Fin 1024) (b : Fin 128), z = ix2 a' b := ⟨z 0, z 1, by idx_vars z⟩
  obtain rfl : a = a' := Fin.ext ea
  have hb : o + b.val < 1024 := by clear eq; have := b.isLt; omega
  obtain rfl : q = ⟨o + b.val, hb⟩ := Fin.ext eq
  rw [norm128_apply o ho]
  simp only [prod25_apply]
  unfold groupSq
  have hd : (o + b.val) / 128 * 128 = o := by omega
  simp only [hd]
  refine congrArg _ ?_
  pointwise [k0_pay26]

/-- A tile of heads of 128, read at an element. -/
theorem normTile128_apply (x s : Vec Ideal S1024x2048 .bf16) (g : Vec Ideal S1x1x1024 .f32) (y : S1024x1024.Idx) :
    normTile128 (F := Ideal) x s g y
      = scaled (Ideal.ofBits .f32 0x43000000#32) (rowDot x s (y 0) (y 1)) (groupSq 128 (by decide) x s (y 0) (y 1)) * g (ix3 0 0 (y 1)) := by
  unfold normTile128
  canon_tiles y h
  all_goals refine norm128_prod _ (by decide) (by decide) _ _ x s g _ _ _ ?_ ?_ ?_ <;> omega

/-- A head of 256 columns, normalised, read at an element. -/
theorem norm256_apply (o : ℕ) (ho : o + 256 ≤ 1024) (hs) (hg) (p : FVec Ideal S1024x1024 .f32) (g : FVec Ideal S1x1024 .f32)
    (a : Fin 1024) (b : Fin 256) :
    norm256 (F := Ideal) o hs hg p g (ix2 a b)
      = scaled (Ideal.ofBits .f32 0x43800000#32) (p (ix2 a ⟨o + b.val, by omega⟩))
          (∑ k : Fin 256, p (ix2 a ⟨o + k.val, by omega⟩) * p (ix2 a ⟨o + k.val, by omega⟩))
        * g (ix2 0 ⟨o + b.val, by omega⟩) := by
  unfold norm256 scaled
  pointwise

/-- The 256 normed columns from `o` on, of the product of `x` and `s`. -/
theorem norm256_prod (o : ℕ) (ho : o + 256 ≤ 1024) (ho' : o % 256 = 0) (hs) (hg) (x s : Vec Ideal S1024x2048 .bf16) (g : Vec Ideal S1x1x1024 .f32)
    (a q : Fin 1024) (z : S1024x256.Idx) (ea : a.val = (z 0).val) (eq : q.val = o + (z 1).val) (lt : (z 1).val < 256) :
    norm256 (F := Ideal) o hs hg (k0_pay38 x s) (k0_pay39 g) z
      = scaled (Ideal.ofBits .f32 0x43800000#32) (rowDot x s a q) (groupSq 256 (by decide) x s a q) * g (ix3 0 0 q) := by
  obtain ⟨a', b, rfl⟩ : ∃ (a' : Fin 1024) (b : Fin 256), z = ix2 a' b := ⟨z 0, z 1, by idx_vars z⟩
  obtain rfl : a = a' := Fin.ext ea
  have hb : o + b.val < 1024 := by clear eq; have := b.isLt; omega
  obtain rfl : q = ⟨o + b.val, hb⟩ := Fin.ext eq
  rw [norm256_apply o ho]
  simp only [prod38_apply]
  unfold groupSq
  have hd : (o + b.val) / 256 * 256 = o := by omega
  simp only [hd]
  refine congrArg _ ?_
  pointwise [k0_pay39]

/-- A tile of heads of 256, read at an element. -/
theorem normTile256_apply (x s : Vec Ideal S1024x2048 .bf16) (g : Vec Ideal S1x1x1024 .f32) (y : S1024x1024.Idx) :
    normTile256 (F := Ideal) x s g y
      = scaled (Ideal.ofBits .f32 0x43800000#32) (rowDot x s (y 0) (y 1)) (groupSq 256 (by decide) x s (y 0) (y 1)) * g (ix3 0 0 (y 1)) := by
  unfold normTile256
  canon_tiles y h
  all_goals refine norm256_prod _ (by decide) (by decide) _ _ x s g _ _ _ ?_ ?_ ?_ <;> omega

end Cert.KernelIdeal.Hand

end
-- ==== Proof.Entry.lean ====
module

public import proofs.«01_k».proof.Proof.Grid
public import proofs.«01_k».proof.Proof.Tiles
public import Idealize.ShloMosaic.Lib.Routing.OpsPair
public import Idealize.ShloMosaic.Lib.Routing.OpsSet

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-! ## The arrays as the pipeline finds them -/

/-- Which element a block of 1024 updates placed from index `o` on lands at. -/
theorem lands (o : ℕ) (ho : o < 2 ^ 31) (k : S1024.Idx) (ι : S13312.Idx) (w : IVec S1 32) (hw : ∀ i, w i = BitVec.ofNat 32 o) :
    scatter_S13312_S1_S1024_0_n_0_0.resultIdx? k w = some ι ↔ o + (k 0).val = (ι 0).val := by
  rw [Routing.resultIdx?_eq_some]
  have hs : scatter_S13312_S1_S1024_0_n_0_0.start k w 0 = (o : ℤ) := by
    unfold ScatterDims.start
    simp [scatter_S13312_S1_S1024_0_n_0_0, hw]
    rw [BitVec.toInt_eq_toNat_of_lt (by rw [BitVec.toNat_ofNat]; omega), BitVec.toNat_ofNat]
    omega
  have hwin : (scatter_S13312_S1_S1024_0_n_0_0.window k 0 : ℤ) = ((k 0).val : ℤ) := by
    rfl
  constructor
  · intro h
    have := h 0
    rw [hs, hwin] at this
    exact_mod_cast this
  · intro h a
    match a with
    | ⟨0, _⟩ =>
      rw [show (⟨0, _⟩ : Fin S13312.rank) = 0 from rfl, hs, hwin]
      exact_mod_cast h

/-- The activations as rows, read at an element. -/
theorem V_h (c : Dev nD) (r : Fin 8192) (k : Fin 2048) :
    V m c main_v21 (ix2 r k) = m ((c.tc : Thread nD τ).loc main_arg0) (ix3 ⟨r.val / 4096, by omega⟩ ⟨r.val % 4096, by omega⟩ k) := by
  entry_read
  pointwise

/-- The transposed weights, read at an element. -/
theorem V_w (c : Dev nD) (n : Fin 13320) (k : Fin 2048) :
    V m c main_v20 (ix2 n k) = m ((c.tc : Thread nD τ).loc main_arg1) (ix2 k n) := by
  entry_read
  pointwise

/-- A block of 1024 updates placed from index `o` on, read at an element. -/
theorem place_apply (x : S13312.Idx → EReal) (u : S1024.Idx → EReal) (o : ℕ) (ho : o < 2 ^ 31) (w : IVec S1 32) (hw : ∀ i, w i = BitVec.ofNat 32 o)
    (e : Fin 13312) :
    Host.scatter scatter_S13312_S1_S1024_0_n_0_0 (fun _ b => b) x w u (ix1 e)
      = if h : o ≤ e.val ∧ e.val < o + 1024 then u (ix1 ⟨e.val - o, by omega⟩) else x (ix1 e) := by
  have key : ∀ k : S1024.Idx, scatter_S13312_S1_S1024_0_n_0_0.resultIdx? k w = some (ix1 e) ↔ o + (k 0).val = e.val :=
    fun k => lands o ho k (ix1 e) w hw
  by_cases h : o ≤ e.val ∧ e.val < o + 1024
  · rw [dif_pos h]
    refine Routing.scatter_set_hit _ x w u _ _ (fun k hk => ?_) (ix1 ⟨e.val - o, by omega⟩) ((key _).mpr ?_)
    · have hk' := (key k).mp hk
      refine congrArg u (funext fun a => ?_)
      match a with
      | ⟨0, _⟩ => exact Fin.ext (show (k 0).val = e.val - o by omega)
    · show o + (e.val - o) = e.val
      omega
  · rw [dif_neg h]
    refine Routing.scatter_set_miss _ x w u _ fun k hk => h ?_
    have hk' := (key k).mp hk
    have hl : (k 0).val < 1024 := (k 0).isLt
    omega

/-- The arguments, as arrays of extended reals. -/
abbrev argH (c : Dev nD) : Vec Ideal S2x4096x2048 .bf16 := m ((c.tc : Thread nD τ).loc main_arg0)
/-- The input weights. -/
abbrev argW (c : Dev nD) : Vec Ideal S2048x13320 .f32 := m ((c.tc : Thread nD τ).loc main_arg1)
/-- The queries' gains. -/
abbrev argQ (c : Dev nD) : Vec Ideal S128 .f32 := m ((c.tc : Thread nD τ).loc main_arg2)
/-- The keys' gains. -/
abbrev argK (c : Dev nD) : Vec Ideal S128 .f32 := m ((c.tc : Thread nD τ).loc main_arg3)
/-- The memory queries' gains. -/
abbrev argM (c : Dev nD) : Vec Ideal S256 .f32 := m ((c.tc : Thread nD τ).loc main_arg4)

/-- The gain of column `e` of the widened weights: the queries' with the softmax scale in base two, the keys', the memory
    queries' with its scale, and one elsewhere. -/
def gain (c : Dev nD) (e : ℕ) : EReal :=
  if 12288 ≤ e ∧ e < 13312 then
    (argM m c (ix1 ⟨e % 256, Nat.mod_lt _ (by decide)⟩) : EReal) * Ideal.ofBits .f32 0x3D800000#32
  else if 10240 ≤ e ∧ e < 11264 then (argK m c (ix1 ⟨e % 128, Nat.mod_lt _ (by decide)⟩) : EReal)
  else if 9216 ≤ e ∧ e < 10240 then
    (argQ m c (ix1 ⟨e % 128, Nat.mod_lt _ (by decide)⟩) : EReal) * Ideal.ofBits .f32 0x3E0293EE#32
  else Ideal.ofBits .f32 0x3F800000#32

/-- The three blocks of gains placed one after the other, read at an element. -/
theorem place3_apply (x : S13312.Idx → EReal) (u1 u2 u3 : S1024.Idx → EReal) (e : Fin 13312) :
    Host.scatter scatter_S13312_S1_S1024_0_n_0_0 (fun _ b => b)
      (Host.scatter scatter_S13312_S1_S1024_0_n_0_0 (fun _ b => b)
        (Host.scatter scatter_S13312_S1_S1024_0_n_0_0 (fun _ b => b) x (broadcastInDim S1 ![] bcast_S_S1 (constantI S_ 32 9216#32)) u1)
        (broadcastInDim S1 ![] bcast_S_S1 (constantI S_ 32 10240#32)) u2)
      (broadcastInDim S1 ![] bcast_S_S1 (constantI S_ 32 12288#32)) u3 (ix1 e)
      = if h : 12288 ≤ e.val ∧ e.val < 12288 + 1024 then u3 (ix1 ⟨e.val - 12288, by omega⟩)
        else if h : 10240 ≤ e.val ∧ e.val < 10240 + 1024 then u2 (ix1 ⟨e.val - 10240, by omega⟩)
        else if h : 9216 ≤ e.val ∧ e.val < 9216 + 1024 then u1 (ix1 ⟨e.val - 9216, by omega⟩) else x (ix1 e) := by
  have hb : ∀ (b : BitVec 32) (i : S1.Idx), broadcastInDim S1 ![] bcast_S_S1 (constantI S_ 32 b) i = b := fun b i => by pointwise
  rw [place_apply _ u3 12288 (by decide) _ (hb 12288#32), place_apply _ u2 10240 (by decide) _ (hb 10240#32),
    place_apply _ u1 9216 (by decide) _ (hb 9216#32)]

set_option maxHeartbeats 1000000 in
/-- The gains as tiles, read at an element. -/
theorem V_g (c : Dev nD) (j : Fin 13) (q : Fin 1024) :
    V m c main_v23 (ix3 j 0 q) = gain m c (j.val * 1024 + q.val) := by
  entry_read
  pointwise
  refine (place3_apply _ _ _ _ _).trans ?_
  unfold gain
  dsimp only
  by_cases h1 : 12288 ≤ j.val * 1024 + q.val ∧ j.val * 1024 + q.val < 13312
  · rw [dif_pos h1, if_pos h1]
    refine congrArg (fun z : EReal => z * Ideal.ofBits .f32 0x3D800000#32) (congrArg (argM m c) (congrArg ix1 (Fin.ext ?_)))
    show (j.val * 1024 + q.val - 12288) % 256 = (j.val * 1024 + q.val) % 256
    omega
  rw [dif_neg h1, if_neg h1]
  by_cases h2 : 10240 ≤ j.val * 1024 + q.val ∧ j.val * 1024 + q.val < 11264
  · rw [dif_pos h2, if_pos h2]
    refine congrArg (argK m c) (congrArg ix1 (Fin.ext ?_))
    show (j.val * 1024 + q.val - 10240) % 128 = (j.val * 1024 + q.val) % 128
    omega
  rw [dif_neg h2, if_neg h2]
  by_cases h3 : 9216 ≤ j.val * 1024 + q.val ∧ j.val * 1024 + q.val < 10240
  · rw [dif_pos h3, if_pos h3]
    refine congrArg (fun z : EReal => z * Ideal.ofBits .f32 0x3E0293EE#32) (congrArg (argQ m c) (congrArg ix1 (Fin.ext ?_)))
    show (j.val * 1024 + q.val - 9216) % 128 = (j.val * 1024 + q.val) % 128
    omega
  rw [dif_neg h3, if_neg h3]
  pointwise

end Cert.KernelIdeal.Hand

end
-- ==== Proof.Pure.lean ====
module

public import proofs.«01_k».proof.Proof.Tiles

@[expose] public section

noncomputable section

namespace Cert.KernelIdeal.Hand

open Idealize.ShloMosaic Idealize.ShloMosaic.Tactic

/-- The literal of one half. -/
theorem half_eq : Ideal.ofBits .f32 0x3F000000#32 = ((1 / 2 : ℝ) : EReal) := by
  simp [Ideal.ofBits, Ideal.ieee, -EReal.coe_mul]; norm_num

/-- Half the tanh of half of `z` plus one half is the logistic function, at the infinities as well. -/
theorem gate_eq (z : EReal) : gate z = Ideal.logistic z := by
  unfold gate
  rw [half_eq]
  induction z with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    refine congrArg _ ?_
    have h1 : Real.exp (-r) = Real.exp (-(r / 2)) * Real.exp (-(r / 2)) := by rw [← Real.exp_add]; congr 1; ring
    have h2 : Real.exp (r / 2) * Real.exp (-(r / 2)) = 1 := by rw [← Real.exp_add]; simp
    rw [show (1 / 2 * r) = r / 2 by ring, Real.tanh_eq_sinh_div_cosh, Real.sinh_eq, Real.cosh_eq, h1]
    have p1 := Real.exp_pos (r / 2); have p2 := Real.exp_pos (-(r / 2))
    generalize Real.exp (r / 2) = a at *
    generalize Real.exp (-(r / 2)) = b at *
    have ha : a = 1 / b := by field_simp; linarith
    subst ha
    field_simp
    ring

end Cert.KernelIdeal.Hand

end
-- ==== Proof.Data.lean ====
module

public import proofs.«01_k».proof.Proof.Grid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves at each point -/

/-- The tile written at point `n`, of activations `x`, rounded weights `s` and gains `g`: gates for the first six
    column tiles, plain columns for the next two, one plain column tile at a time, the normalised tiles. -/
def tileOf (n : ℕ) (x : Vec F S1024x2048 .bf16) (s : Vec F S1024x2048 .bf16) (g : Vec F S1x1x1024 .f32) : Vec F S1024x1024 .bf16 :=
  if n < 48 then gateTile x s else if n < 64 then plainTile x s else if n < 72 then k0_pay48 x s
  else if n < 88 then normTile128 x s g else if n < 96 then k0_pay48 x s else normTile256 x s g

/-- The rounded weights of the column tile of point `t`. -/
def wts (c : Dev nD) (t : Fin cfg0.N) : Vec F S1024x2048 .bf16 := k0_pay44 (iblk m c 1 t)

/-- The staging buffer of window 0 at a point. -/
abbrev ms0_0 (t : Fin cfg0.N) : Memref sig .tc .vmem S1024x2048 .bf16 := win0_0.stage (cfg0.slots t 0)
/-- The staging buffer of window 1 at a point. -/
abbrev ms0_1 (t : Fin cfg0.N) : Memref sig .tc .vmem S1024x2048 .f32 := win0_1.stage (cfg0.slots t 1)
/-- The staging buffer of window 2 at a point. -/
abbrev ms0_2 (t : Fin cfg0.N) : Memref sig .tc .vmem S1x1x1024 .f32 := win0_2.stage (cfg0.slots t 2)
/-- The staging buffer of window 3 at a point. -/
abbrev ms0_3 (t : Fin cfg0.N) : Memref sig .tc .vmem S32x8192 .f32 := win0_3.stage (cfg0.slots t 3)
/-- The staging buffer of window 4 at a point. -/
abbrev ms0_4 (t : Fin cfg0.N) : Memref sig .tc .vmem S128x2048 .f32 := win0_4.stage (cfg0.slots t 4)
/-- The staging buffer of window 5 at a point. -/
abbrev ms0_5 (t : Fin cfg0.N) : Memref sig .tc .vmem S1024x1024 .bf16 := win0_5.stage (cfg0.slots t 5)
/-- The staging buffer of window 6 at a point. -/
abbrev ms0_6 (t : Fin cfg0.N) : Memref sig .tc .vmem S32x8192 .bf16 := win0_6.stage (cfg0.slots t 6)
/-- The staging buffer of window 7 at a point. -/
abbrev ms0_7 (t : Fin cfg0.N) : Memref sig .tc .vmem S128x2048 .bf16 := win0_7.stage (cfg0.slots t 7)
/-- The scratch buffer holding the rounded weights. -/
abbrev scM0_0 : Memref sig .tc .vmem S1024x2048 .bf16 := Memref.whole cc0_scratch0

/-- What the scratch holds before point `k`: past the first point of a column tile, that tile's rounded weights. -/
def Track (c : Dev nD) (k : Fin (cfg0.N + 1)) : sProp 𝕄 :=
  iprop((∃ d, ⌜∀ t : Fin cfg0.N, t.val = k.val → t.val % 8 ≠ 0 → d = wts m c t⌝ ∗ owns (c : Thread nD τ) scM0_0 fullShare d)
    ∗ (∃ r, prngReg c r))

/-- The pipeline's data on core `c`: the arrays as they stand at its start; inputs keep their blocks, the tile window
    ends each point at its tile, the windows of casts at the cast of their block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOf t.val (iblk m c 0 t) (wts m c t) (iblk m c 2 t)
    | ⟨6, _⟩ => upCast (iblk m c 3 t)
    | ⟨7, _⟩ => downCast (iblk m c 4 t)
  Φ k := Track m c k
  q _ := fullShare
  owed _ := 0

/-- The data's arrays are what the host part leaves. -/
theorem A_eq (c : Dev nD) (w : Fin cfg0.W) : (dats m 0 c).A w = V m c (Pipeline.arrRef spec0 w) := by dsimp only [dats]

/-- Window 0 after a point: its input block. -/
theorem after0_0 (c : Dev nD) (t : Fin cfg0.N) : (dats m 0 c).after 0 t = iblk m c 0 t := by dsimp only [dats]
/-- Window 1 after a point: its input block. -/
theorem after0_1 (c : Dev nD) (t : Fin cfg0.N) : (dats m 0 c).after 1 t = iblk m c 1 t := by dsimp only [dats]
/-- Window 2 after a point: its input block. -/
theorem after0_2 (c : Dev nD) (t : Fin cfg0.N) : (dats m 0 c).after 2 t = iblk m c 2 t := by dsimp only [dats]
/-- Window 3 after a point: its input block. -/
theorem after0_3 (c : Dev nD) (t : Fin cfg0.N) : (dats m 0 c).after 3 t = iblk m c 3 t := by dsimp only [dats]
/-- Window 4 after a point: its input block. -/
theorem after0_4 (c : Dev nD) (t : Fin cfg0.N) : (dats m 0 c).after 4 t = iblk m c 4 t := by dsimp only [dats]
/-- Window 5 after a point: its tile of the projection. -/
theorem after0_5 (c : Dev nD) (t : Fin cfg0.N) :
    (dats m 0 c).after 5 t = tileOf t.val (iblk m c 0 t) (wts m c t) (iblk m c 2 t) := by dsimp only [dats]
/-- Window 6 after a point: the rounded rows of the up-projection. -/
theorem after0_6 (c : Dev nD) (t : Fin cfg0.N) : (dats m 0 c).after 6 t = upCast (iblk m c 3 t) := by dsimp only [dats]
/-- Window 7 after a point: the rounded rows of the down-projection. -/
theorem after0_7 (c : Dev nD) (t : Fin cfg0.N) : (dats m 0 c).after 7 t = downCast (iblk m c 4 t) := by dsimp only [dats]

/-- Window 0 before a point holds its input block. -/
theorem before0_0 (c : Dev nD) (t : Fin cfg0.N) (d) : (dats m 0 c).before 0 t d = iblk m c 0 t :=
  before0_0_of m (dats m 0 c) (A_eq m c 0) (after0_0 m c) t d
/-- Window 1 before a point holds its input block. -/
theorem before0_1 (c : Dev nD) (t : Fin cfg0.N) (d) : (dats m 0 c).before 1 t d = iblk m c 1 t :=
  before0_1_of m (dats m 0 c) (A_eq m c 1) (after0_1 m c) t d
/-- Window 2 before a point holds its input block. -/
theorem before0_2 (c : Dev nD) (t : Fin cfg0.N) (d) : (dats m 0 c).before 2 t d = iblk m c 2 t :=
  before0_2_of m (dats m 0 c) (A_eq m c 2) (after0_2 m c) t d
/-- Window 3 before a point holds its input block. -/
theorem before0_3 (c : Dev nD) (t : Fin cfg0.N) (d) : (dats m 0 c).before 3 t d = iblk m c 3 t :=
  before0_3_of m (dats m 0 c) (A_eq m c 3) (after0_3 m c) t d
/-- Window 4 before a point holds its input block. -/
theorem before0_4 (c : Dev nD) (t : Fin cfg0.N) (d) : (dats m 0 c).before 4 t d = iblk m c 4 t :=
  before0_4_of m (dats m 0 c) (A_eq m c 4) (after0_4 m c) t d

/-- One step of the points at which the body does not store a window of casts: such a window holds what the point before left. -/
theorem before_step (c : Dev nD) (w : Fin cfg0.W) (hw : (cfg0.win w).isOut = true)
    (hc : ∀ (i : cfg0.grid.Coords) a, (cfg0.win w).clip i a = none)
    (hflush : ∀ t : Fin cfg0.N, (cfg0.win w).flush t = decide (t.val < 63 ∨ t.val = 103))
    (hidle : ∀ t : Fin cfg0.N, cfg0.idle w (grid0.coords t) = decide (64 ≤ t.val))
    (hafter : ∀ t t' : Fin cfg0.N, 63 ≤ t.val → 63 ≤ t'.val → (dats m 0 c).after w t = (dats m 0 c).after w t') :
    ∀ (n : ℕ) (t : Fin cfg0.N), t.val = n → 64 ≤ n → ∀ d, (dats m 0 c).before w t d = (dats m 0 c).after w t := by
  intro n
  induction n with
  | zero => intro t _ h; omega
  | succ n ih =>
    intro t ht hn d
    have hN : t.val < 104 := lt_of_lt_of_eq t.isLt (show cfg0.N = 104 from N_0)
    have hlt : t.val - 1 < cfg0.N := Nat.lt_of_le_of_lt (Nat.sub_le _ _) t.isLt
    have hfl : (cfg0.win w).flush ⟨t.val - 1, hlt⟩ = false := by
      rw [hflush]; exact decide_eq_false (by dsimp only; omega)
    rw [(dats m 0 c).before_of_pos w t (by omega) ((cfg0.win w).fetch_out hw t), hfl, if_neg Bool.false_ne_true]
    by_cases h64 : 64 ≤ n
    · have hi : cfg0.idle w (grid0.coords ⟨t.val - 1, hlt⟩) = true := by
        rw [hidle]; exact decide_eq_true (by dsimp only; omega)
      unfold Dat.left; rw [hi]
      exact (ih ⟨t.val - 1, hlt⟩ (by dsimp only; omega) h64 d).trans (hafter _ _ (by dsimp only; omega) (by omega))
    · have hi : cfg0.idle w (grid0.coords ⟨t.val - 1, hlt⟩) = false := by
        rw [hidle]; exact decide_eq_false (by dsimp only; omega)
      unfold Dat.left; rw [hi]
      show (dats m 0 c).kept w _ d = _
      unfold Dat.kept
      rw [Pipeline.fill_of_clip_none w _ (hc _) d ((dats m 0 c).after w _), Window.fill_cut]
      exact hafter _ _ (by dsimp only; omega) (by omega)

/-- From point 64 on window 6 already holds its last block. -/
theorem before0_6 (c : Dev nD) (t : Fin cfg0.N) (h : 64 ≤ t.val) (d) : (dats m 0 c).before 6 t d = (dats m 0 c).after 6 t :=
  before_step m c 6 rfl (fun _ _ => rfl) flush6 idle6
    (fun t t' h h' => by rw [after0_6, after0_6, iblk3_eq m c t t' (by omega)]) _ t rfl h d
/-- From point 64 on window 7 already holds its last block. -/
theorem before0_7 (c : Dev nD) (t : Fin cfg0.N) (h : 64 ≤ t.val) (d) : (dats m 0 c).before 7 t d = (dats m 0 c).after 7 t :=
  before_step m c 7 rfl (fun _ _ => rfl) flush7 idle7
    (fun t t' h h' => by rw [after0_7, after0_7, iblk4_eq m c t t' (by omega)]) _ t rfl h d

/-- A window of casts, at its contents after the point, is left as the pipeline asks: at a point that does not store it,
    those are what it held. -/
theorem leaves_cast (c : Dev nD) (w : Fin cfg0.W) (t : Fin cfg0.N)
    (h : cfg0.idle w (grid0.coords t) = true → ∀ d, (dats m 0 c).before w t d = (dats m 0 c).after w t) :
    (iprop(owns (c : Thread nD τ) ((cfg0.win w).stage (cfg0.slots t w)) fullShare ((dats m 0 c).after w t)) : sProp 𝕄)
      ⊢ (dats m 0 c).leavesExact w t := by
  unfold Dat.leavesExact
  match hi : cfg0.idle w (cfg0.grid.coords t), hf : (cfg0.win w).flush t with
  | true, false =>
    show _ ⊢ iprop(∃ d, owns (c : Thread nD τ) ((cfg0.win w).stage (cfg0.slots t w)) fullShare ((dats m 0 c).before w t d))
    iintro H; iexists ((dats m 0 c).after w t); rw [h hi]; iexact H
  | true, true => exact .rfl
  | false, _ => exact .rfl

/-- What a window not idle at a point leaves is what the data says. -/
theorem leaves5 (c : Dev nD) (w : Fin cfg0.W) (t : Fin cfg0.N) (h : cfg0.idle w (grid0.coords t) = false) :
    (iprop(owns (c : Thread nD τ) ((cfg0.win w).stage (cfg0.slots t w)) fullShare ((dats m 0 c).after w t)) : sProp 𝕄)
      ⊢ (dats m 0 c).leavesExact w t := leaves_cast m c w t fun h' => absurd (h.symm.trans h') Bool.false_ne_true

end Cert.KernelIdeal.Hand

end
-- ==== Proof.Run.lean ====
module

public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's invariant with the scratch as a memref at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Before the first point nothing is asked of the scratch, -/
theorem track_in (c : Dev nD) : Pipeline.ΦA spec0 c ⊢ (Track m c 0 : sProp 𝕄) := by
  rw [PhiA0_eq]; unfold Track
  iintro ⟨⟨%d, HS⟩, Hg⟩
  isplitl [HS]
  · iexists d
    isplitr
    · ipureintro; intro t ht h8; exact absurd (by rw [ht]; rfl) h8
    iexact HS
  iexact Hg

/-- and after the last nothing is kept of it. -/
theorem track_out (c : Dev nD) (k : Fin (cfg0.N + 1)) : (Track m c k : sProp 𝕄) ⊢ Pipeline.ΦA spec0 c := by
  rw [PhiA0_eq]; unfold Track
  iintro ⟨⟨%d, %hd, HS⟩, Hg⟩
  isplitl [HS]
  · iexists d; iexact HS
  iexact Hg

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body at point `t`, whatever the tile is: from the point's blocks and some output contents it leaves the tile and,
    below point 64, the two casts. -/
theorem run_any (c : Dev nD) (t : Fin cfg0.N) (d5 : Vec F S1024x1024 .bf16) (d6 : Vec F S32x8192 .bf16) (d7 : Vec F S128x2048 .bf16)
    (d : Vec F S1024x2048 .bf16) (hd : t.val % 8 ≠ 0 → d = wts m c t) (K : PUnit → sProp 𝕄) :
    iprop(Held c (ms0_0 t) (ms0_1 t) (ms0_2 t) (ms0_3 t) (ms0_4 t) (ms0_5 t) (ms0_6 t) (ms0_7 t) scM0_0
          (iblk m c 0 t) (iblk m c 1 t) (iblk m c 2 t) (iblk m c 3 t) (iblk m c 4 t) d5 d6 d7 d
        ∗ (Held c (ms0_0 t) (ms0_1 t) (ms0_2 t) (ms0_3 t) (ms0_4 t) (ms0_5 t) (ms0_6 t) (ms0_7 t) scM0_0
          (iblk m c 0 t) (iblk m c 1 t) (iblk m c 2 t) (iblk m c 3 t) (iblk m c 4 t)
          (tileOf t.val (iblk m c 0 t) (wts m c t) (iblk m c 2 t))
          (if t.val < 64 then upCast (iblk m c 3 t) else d6) (if t.val < 64 then downCast (iblk m c 4 t) else d7) (wts m c t) -∗ K ⟨⟩))
      ⊢ wp frame (wpE (defs₀ (F := F)) Variants.none c none) Set.univ (bodyAt0 t) K := by
  have hN : t.val < 104 := lt_of_lt_of_eq t.isLt (show cfg0.N = 104 from N_0)
  obtain ⟨k1, k2, k3, k4, k5, k6⟩ := conds t
  have hs : cond1 (grid0.coords t) → wts m c t = k0_pay44 (iblk m c 1 t) := fun _ => rfl
  have hs' : ¬ cond1 (grid0.coords t) → wts m c t = d := fun h => (hd fun h8 => h (k1.mpr h8)).symm
  unfold bodyAt0 tileOf
  by_cases h48 : t.val < 48
  · rw [if_pos h48, if_pos (by omega), if_pos (by omega)]
    exact run_gate c (grid0.coords t) _ _ _ _ _ _ _ _ _ _ _ _ _ _ _ _ _ _
      (k2.mpr h48) (fun h => by have := k3.mp h; omega) (fun h => by have := k4.mp h; omega)
      (fun h => by have := k5.mp h; omega) (fun h => by have := k6.mp h; omega) _ _ _ _ _ _ _ _ _ _ hs hs' _ _
  have n2 : ¬ k0_cond2 (grid0.coords t) = 1#1 := fun h => h48 (k2.mp h)
  by_cases h64 : t.val < 64
  · rw [if_neg h48, if_pos h64, if_pos h64, if_pos h64]
    exact run_plain c (grid0.coords t) _ _ _ _ _ _ _ _ _ _ _ _ _ _ _ _ _ _
      (n2) (fun h => by have := k3.mp h; omega) (k4.mpr (by omega))
      (fun h => by have := k5.mp h; omega) (fun h => by have := k6.mp h; omega) _ _ _ _ _ _ _ _ _ _ hs hs' _ _
  have n4 : ¬ k0_cond4 (grid0.coords t) = 1#1 := fun h => by have := k4.mp h; omega
  rw [if_neg h48, if_neg h64, if_neg h64, if_neg h64]
  by_cases h72 : t.val < 72
  · rw [if_pos h72]
    exact run_whole c (grid0.coords t) _ _ _ _ _ _ _ _ _ _ _ _ _ _ _ _ _ _
      (n2) (k3.mpr (by omega)) (n4)
      (fun h => by have := k5.mp h; omega) (fun h => by have := k6.mp h; omega) _ _ _ _ _ _ _ _ _ _ hs hs' _ _
  by_cases h88 : t.val < 88
  · rw [if_neg h72, if_pos h88]
    exact run_norm128 c (grid0.coords t) _ _ _ _ _ _ _ _ _ _ _ _ _ _ _ _ _ _
      (n2) (fun h => by have := k3.mp h; omega) (n4)
      (k5.mpr (by omega)) (fun h => by have := k6.mp h; omega) _ _ _ _ _ _ _ _ _ _ hs hs' _ _
  by_cases h96 : t.val < 96
  · rw [if_neg h72, if_neg h88, if_pos h96]
    exact run_whole c (grid0.coords t) _ _ _ _ _ _ _ _ _ _ _ _ _ _ _ _ _ _
      (n2) (k3.mpr (by omega)) (n4)
      (fun h => by have := k5.mp h; omega) (fun h => by have := k6.mp h; omega) _ _ _ _ _ _ _ _ _ _ hs hs' _ _
  · rw [if_neg h72, if_neg h88, if_neg h96]
    exact run_norm256 c (grid0.coords t) _ _ _ _ _ _ _ _ _ _ _ _ _ _ _ _ _ _
      (n2) (fun h => by have := k3.mp h; omega) (n4)
      (fun h => by have := k5.mp h; omega) (k6.mpr (by omega)) _ _ _ _ _ _ _ _ _ _ hs hs' _ _

set_option maxHeartbeats 8000000 in
/-- The body at any point: the run, with what each window held and is to hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).owesAt () t.succ = (dats m 0 c).owesAt () t.castSucc from rfl]
  rw [show (dats m 0 c).Φ t.castSucc = Track m c t.castSucc from rfl, show (dats m 0 c).Φ t.succ = Track m c t.succ from rfl]
  unfold Track
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_any m c t _ _ _ d (hd t rfl) _)
  isplitl [H0 H1 H2 H3 H4 H5 H6 H7 HS]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  unfold Held
  iintro ⟨H0, H1, H2, H3, H4, H5, H6, H7, HS⟩
  isplitl [HS Hg]
  · isplitl [HS]
    · iexists (wts m c t)
      isplitr
      · ipureintro
        intro t' ht' h8
        have ht' : t'.val = t.val + 1 := ht'
        unfold wts; rw [iblk1_eq m c t t' (by omega)]
      iexact HS
    iexact Hg
  isplitl [Ho]; · iexact Ho
  isplitl [H0]; · iapply (leaves5 m c 0 t rfl); rw [after0_0]; iexact H0
  isplitl [H1]; · iapply (leaves5 m c 1 t rfl); rw [after0_1]; iexact H1
  isplitl [H2]; · iapply (leaves5 m c 2 t rfl); rw [after0_2]; iexact H2
  isplitl [H3]; · iapply (leaves5 m c 3 t rfl); rw [after0_3]; iexact H3
  isplitl [H4]; · iapply (leaves5 m c 4 t rfl); rw [after0_4]; iexact H4
  isplitl [H5]; · iapply (leaves5 m c 5 t (idle5 t)); rw [after0_5]; iexact H5
  have h64 : ∀ b : Bool, b = decide (64 ≤ t.val) → b = true → 64 ≤ t.val := fun b h h' => of_decide_eq_true (h.symm.trans h')
  isplitl [H6]
  · iapply (leaves_cast m c 6 t fun h d => before0_6 m c t (h64 _ (idle6 t) h) d)
    by_cases h : t.val < 64
    · rw [after0_6, if_pos h]; iexact H6
    · rw [if_neg h, before0_6 m c t (by omega)]; iexact H6
  · iapply (leaves_cast m c 7 t fun h d => before0_7 m c t (h64 _ (idle7 t) h) d)
    by_cases h : t.val < 64
    · rw [after0_7, if_pos h]; iexact H7
    · rw [if_neg h, before0_7 m c t (by omega)]; iexact H7

/-- The body's label stands for the body at the point. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every execution terminates with the pipeline's arrays as its data says, and every counter at zero. -/
theorem run_main_quiescent : θ_run defs (onTc (τ := τ) (main (F := F))) (s₀ m ρ)
    (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in m c) (hout := fun c => track_out m c _)

/-- The run, with the pipeline's arrays as its data says. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- The frame: every argument array ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Value.lean ====
module

public import proofs.«01_k».proof.Proof.Entry
public import proofs.«01_k».proof.Proof.Pure
public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-! ## The arrays the pipeline leaves, element by element -/

/-- Row `r` of the activations times column `n` of the input weights. -/
def proj (c : Dev nD) (r n : ℕ) : EReal :=
  ∑ k : Fin 2048, (argH m c (ix3 ⟨r / 4096 % 2, Nat.mod_lt _ (by decide)⟩ ⟨r % 4096, Nat.mod_lt _ (by decide)⟩ k) : EReal)
    * argW m c (ix2 k ⟨n % 13320, Nat.mod_lt _ (by decide)⟩)

/-- The sum of squares over the `n` columns that column `e` is grouped with. -/
def sq (P : ℕ → ℕ → EReal) (n : ℕ) (r e : ℕ) : EReal :=
  ∑ k : Fin n, P r (rowStart (e / 1024) + (e % 1024 / n * n + k.val)) * P r (rowStart (e / 1024) + (e % 1024 / n * n + k.val))

/-- The finished projection at row `r` and column `e`, from the bare products `P` and the gains `G`: gates in the first
    six tiles, the bare product in the next three and in the twelfth, normalised and scaled heads in the others. -/
def want (P : ℕ → ℕ → EReal) (G : ℕ → EReal) (r e : ℕ) : EReal :=
  if e < 6144 then Ideal.logistic (P r (rowStart (e / 1024) + e % 1024))
  else if e < 9216 then P r (rowStart (e / 1024) + e % 1024)
  else if e < 11264 then scaled (Ideal.ofBits .f32 0x43000000#32) (P r (rowStart (e / 1024) + e % 1024)) (sq P 128 r e) * G e
  else if e < 12288 then P r (rowStart (e / 1024) + e % 1024)
  else scaled (Ideal.ofBits .f32 0x43800000#32) (P r (rowStart (e / 1024) + e % 1024)) (sq P 256 r e) * G e

/-- Every tile's rows lie in the weights. -/
theorem rowStart_le (j : ℕ) (h : j < 13) : rowStart j + 1024 ≤ 13320 := by
  revert j; decide

/-- The block of the activations at a point. -/
theorem blk0 (c : Dev nD) (t : Fin cfg0.N) (p : Fin 1024) (k : Fin 2048) :
    iblk m c 0 t (ix2 p k) = argH m c (ix3 ⟨(t.val % 8 * 1024 + p.val) / 4096 % 2, Nat.mod_lt _ (by decide)⟩ ⟨(t.val % 8 * 1024 + p.val) % 4096, Nat.mod_lt _ (by decide)⟩ k) := by
  have e := (idx t).1
  have hp := p.isLt
  refine Eq.trans ?_ ((V_h m c ⟨t.val % 8 * 1024 + p.val, by omega⟩ k).trans ?_)
  · unfold iblk; rw [View.read_apply]
    refine congrArg (V m c main_v21) (funext fun a => Fin.ext ?_)
    fin_cases a
    · show win0_0.index t 0 * 1024 + 1 * p.val = t.val % 8 * 1024 + p.val
      rw [e]; show t.val % 8 * 1024 + _ = _; omega
    · show win0_0.index t 1 * 2048 + 1 * k.val = k.val
      rw [e]; show 0 * 2048 + _ = _; omega
  · refine congrArg (argH m c) ?_
    congr 1
    exact Fin.ext (show (t.val % 8 * 1024 + p.val) / 4096 = (t.val % 8 * 1024 + p.val) / 4096 % 2 by omega)

/-- The block of the weights at a point, which starts at its tile's first row. -/
theorem blk1 (c : Dev nD) (t : Fin cfg0.N) (q : Fin 1024) (k : Fin 2048) :
    iblk m c 1 t (ix2 q k) = argW m c (ix2 k ⟨(rowStart (t.val / 8) + q.val) % 13320, Nat.mod_lt _ (by decide)⟩) := by
  have e := (idx t).2.1
  have hN : t.val < 104 := lt_of_lt_of_eq t.isLt (show cfg0.N = 104 from N_0)
  have hq := q.isLt
  have hr := rowStart_le (t.val / 8) (by omega)
  refine Eq.trans ?_ ((V_w m c ⟨rowStart (t.val / 8) + q.val, by omega⟩ k).trans ?_)
  · unfold iblk; rw [View.read_apply]
    refine congrArg (V m c main_v20) (funext fun a => Fin.ext ?_)
    fin_cases a
    · show win0_1.index t 0 + 1 * q.val = rowStart (t.val / 8) + q.val
      rw [e]; show rowStart (t.val / 8) + _ = _; omega
    · show win0_1.index t 1 + 1 * k.val = k.val
      rw [e]; show 0 + _ = _; omega
  · refine congrArg (argW m c) (congrArg (ix2 k) (Fin.ext ?_))
    show rowStart (t.val / 8) + q.val = (rowStart (t.val / 8) + q.val) % 13320
    omega

/-- The gains at a point. -/
theorem blk2 (c : Dev nD) (t : Fin cfg0.N) (q : Fin 1024) :
    iblk m c 2 t (ix3 0 0 q) = gain m c (t.val / 8 * 1024 + q.val) := by
  have e := (idx t).2.2.1
  have hN : t.val < 104 := lt_of_lt_of_eq t.isLt (show cfg0.N = 104 from N_0)
  refine Eq.trans ?_ (V_g m c ⟨t.val / 8, by omega⟩ q)
  unfold iblk; rw [View.read_apply]
  refine congrArg (V m c main_v23) (funext fun a => Fin.ext ?_)
  fin_cases a
  · show win0_2.index t 0 * 1 + 1 * 0 = t.val / 8
    rw [e]; show t.val / 8 * 1 + _ = _; omega
  · show win0_2.index t 1 * 1 + 1 * 0 = 0
    rw [e]; rfl
  · show win0_2.index t 2 * 1024 + 1 * q.val = q.val
    rw [e]; show 0 * 1024 + _ = _; omega

/-- A tile's bare product is the projection's. -/
theorem rowDot_blk (c : Dev nD) (t : Fin cfg0.N) (p q : Fin 1024) :
    rowDot (iblk m c 0 t) (wts m c t) p q = proj m c (t.val % 8 * 1024 + p.val) (rowStart (t.val / 8) + q.val) := by
  unfold rowDot proj
  refine Finset.sum_congr rfl fun k _ => ?_
  rw [blk0]
  refine congrArg _ ?_
  rw [← blk1]
  unfold wts
  pointwise [k0_pay44]

/-- A tile's sum of squares over a head is the projection's. -/
theorem groupSq_blk (c : Dev nD) (n : ℕ) (hn : n ∣ 1024) (t : Fin cfg0.N) (p q : Fin 1024) :
    groupSq n hn (iblk m c 0 t) (wts m c t) p q = sq (proj m c) n (t.val % 8 * 1024 + p.val) (t.val / 8 * 1024 + q.val) := by
  unfold groupSq sq
  have hq := q.isLt
  have e1 : (t.val / 8 * 1024 + q.val) / 1024 = t.val / 8 := by omega
  have e2 : (t.val / 8 * 1024 + q.val) % 1024 = q.val := by omega
  rw [e1, e2]
  refine Finset.sum_congr rfl fun k _ => ?_
  rw [rowDot_blk]

/-- The tile of each point is its block of the projection. -/
theorem tile_apply (c : Dev nD) (t : Fin cfg0.N) (y : S1024x1024.Idx) :
    tileOf (F := Ideal) t.val (iblk m c 0 t) (wts m c t) (iblk m c 2 t) y = want (proj m c) (gain m c) (t.val % 8 * 1024 + (y 0).val) (t.val / 8 * 1024 + (y 1).val) := by
  have hN : t.val < 104 := lt_of_lt_of_eq t.isLt (show cfg0.N = 104 from N_0)
  have hy : (y 1).val < 1024 := (y 1).isLt
  have e1 : (t.val / 8 * 1024 + (y 1).val) / 1024 = t.val / 8 := by omega
  have e2 : (t.val / 8 * 1024 + (y 1).val) % 1024 = (y 1).val := by omega
  unfold tileOf want
  rw [e1, e2]
  by_cases h48 : t.val < 48
  · rw [if_pos h48, if_pos (show t.val / 8 * 1024 + (y 1).val < 6144 by omega)]
    exact (gateTile_apply _ _ y).trans ((gate_eq _).trans (congrArg Ideal.logistic (rowDot_blk m c t (y 0) (y 1))))
  rw [if_neg h48, if_neg (show ¬ t.val / 8 * 1024 + (y 1).val < 6144 by omega)]
  by_cases h64 : t.val < 64
  · rw [if_pos h64, if_pos (show t.val / 8 * 1024 + (y 1).val < 9216 by omega)]
    exact (plainTile_apply _ _ y).trans (rowDot_blk m c t (y 0) (y 1))
  rw [if_neg h64]
  by_cases h72 : t.val < 72
  · rw [if_pos h72, if_pos (show t.val / 8 * 1024 + (y 1).val < 9216 by omega)]
    exact (wholeTile_apply _ _ y).trans (rowDot_blk m c t (y 0) (y 1))
  rw [if_neg h72, if_neg (show ¬ t.val / 8 * 1024 + (y 1).val < 9216 by omega)]
  by_cases h88 : t.val < 88
  · rw [if_pos h88, if_pos (show t.val / 8 * 1024 + (y 1).val < 11264 by omega)]
    exact (normTile128_apply _ _ _ y).trans (congrArg₂ (· * ·)
      (congrArg₂ (scaled _) (rowDot_blk m c t (y 0) (y 1)) (groupSq_blk m c 128 (by decide) t (y 0) (y 1))) (blk2 m c t (y 1)))
  rw [if_neg h88, if_neg (show ¬ t.val / 8 * 1024 + (y 1).val < 11264 by omega)]
  by_cases h96 : t.val < 96
  · rw [if_pos h96, if_pos (show t.val / 8 * 1024 + (y 1).val < 12288 by omega)]
    exact (wholeTile_apply _ _ y).trans (rowDot_blk m c t (y 0) (y 1))
  · rw [if_neg h96, if_neg (show ¬ t.val / 8 * 1024 + (y 1).val < 12288 by omega)]
    exact (normTile256_apply _ _ _ y).trans (congrArg₂ (· * ·)
      (congrArg₂ (scaled _) (rowDot_blk m c t (y 0) (y 1)) (groupSq_blk m c 256 (by decide) t (y 0) (y 1))) (blk2 m c t (y 1)))

/-- The projection's array at the end. -/
theorem out5 (c : Dev nD) : (dats m 0 c).arrAt 5 cfg0.N = fun i : S8192x13312.Idx => want (proj m c) (gain m c) (i 0).val (i 1).val := by
  refine (dats m 0 c).arrAt_eq_of_covers 5 _ (by decide +kernel) fun t hf y => ?_
  have e := (idx t).2.2.2.2.2.1
  blk_simp [e]
  rw [after0_5]
  exact tile_apply m c t y

/-- The up-projection's weights at the end: the argument's own. -/
theorem out6 (c : Dev nD) : (dats m 0 c).arrAt 6 cfg0.N = m ((c.tc : Thread nD τ).loc main_arg5) := by
  refine (dats m 0 c).arrAt_eq_of_covers 6 _ (by decide +kernel) fun t hf y => ?_
  have e := (idx t).2.2.2.2.2.2.1
  have e' := (idx t).2.2.2.1
  blk_simp [e]
  rw [after0_6]
  refine Eq.trans (b := iblk m c 3 t y) rfl ?_
  unfold iblk; rw [View.read_apply]
  refine (congrFun (V_main_arg5 m c) _).trans (congrArg (m ((c.tc : Thread nD τ).loc main_arg5)) (funext fun a => Fin.ext ?_))
  fin_cases a <;> blk_simp [e, e']

/-- The down-projection's weights at the end: the argument's own. -/
theorem out7 (c : Dev nD) : (dats m 0 c).arrAt 7 cfg0.N = m ((c.tc : Thread nD τ).loc main_arg6) := by
  refine (dats m 0 c).arrAt_eq_of_covers 7 _ (by decide +kernel) fun t hf y => ?_
  have e := (idx t).2.2.2.2.2.2.2
  have e' := (idx t).2.2.2.2.1
  blk_simp [e]
  rw [after0_7]
  refine Eq.trans (b := iblk m c 4 t y) rfl ?_
  unfold iblk; rw [View.read_apply]
  refine (congrFun (V_main_arg6 m c) _).trans (congrArg (m ((c.tc : Thread nD τ).loc main_arg6)) (funext fun a => Fin.ext ?_))
  fin_cases a <;> blk_simp [e, e']

end Cert.KernelIdeal.Hand

end
-- ==== Proof.RefValue.lean ====
module

public import proofs.«01_k».proof.Proof.Value
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Cert.KernelIdeal.Hand (rowStart scaled sq want rowStart_le)
open Idealize.ShloMosaic Idealize.ShloMosaic.TcCoe Idealize.ShloMosaic.Tactic

/-! ## The reference's result, element by element -/

/-- The logistic function of an array, as the reference spells it. -/
def sigm (x : FVec Ideal S2x4096x6144 .f32) : FVec Ideal S2x4096x6144 .f32 :=
  Host.divf (broadcastInDim S2x4096x6144 ![] bcast_S_S2x4096x6144 (constant S_ .f32 0x3F800000#32)) (addf (broadcastInDim S2x4096x6144 ![] bcast_S_S2x4096x6144 (constant S_ .f32 0x3F800000#32)) (Host.exp (Host.negf x)))

/-- One branch's half of the gates, as rows. -/
def gatePart (off : Fin 5 → ℕ) (hs : S2x4096x3x2x1024.Slices off S2x4096x1x1x1024) (x : FVec Ideal S2x4096x6144 .f32) : FVec Ideal S8192x1024 .f32 :=
  shapeCast _ (shapeCast _ (extractStridedSlice S2x4096x1x1x1024 off (shapeCast _ x shapeCasts_S2x4096x6144_S2x4096x3x2x1024) hs) shapeCasts_S2x4096x1x1x1024_S2x4096x1024) shapeCasts_S2x4096x1024_S8192x1024

/-- Heads of 128 columns divided by their root mean squares, with gains. -/
def heads128 (x : FVec Ideal S2x4096x1024 .f32) (g : FVec Ideal S128 .f32) : FVec Ideal S2x4096x8x128 .f32 :=
  mulf (mulf (shapeCast _ x shapeCasts_S2x4096x1024_S2x4096x8x128) (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf (shapeCast _ x shapeCasts_S2x4096x1024_S2x4096x8x128) (shapeCast _ x shapeCasts_S2x4096x1024_S2x4096x8x128)) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 g))

/-- Heads of 256 columns divided by their root mean squares, with gains. -/
def heads256 (x : FVec Ideal S2x4096x1024 .f32) (g : FVec Ideal S256 .f32) : FVec Ideal S2x4096x4x256 .f32 :=
  mulf (mulf (shapeCast _ x shapeCasts_S2x4096x1024_S2x4096x4x256) (broadcastInDim S2x4096x4x256 ![0, 1, 2, 3] bcast_S2x4096x4x1_S2x4096x4x256_0_1_2_3 (Host.rsqrt (addf (Host.divf (broadcastInDim S2x4096x4x1 ![0, 1, 2] bcast_S2x4096x4_S2x4096x4x1_0_1_2 (Host.reduceAdd (mulf (shapeCast _ x shapeCasts_S2x4096x1024_S2x4096x4x256) (shapeCast _ x shapeCasts_S2x4096x1024_S2x4096x4x256)) (constant S_ .f32 0x00000000#32) reducesTo_S2x4096x4x256_S2x4096x4_d3 h_S_)) (broadcastInDim S2x4096x4x1 ![] bcast_S_S2x4096x4x1 (constant S_ .f32 0x43800000#32))) (broadcastInDim S2x4096x4x1 ![] bcast_S_S2x4096x4x1 (constant S_ .f32 0x358637BD#32)))))) (broadcastInDim S2x4096x4x256 ![0, 1, 2, 3] bcast_S1x1x1x256_S2x4096x4x256_0_1_2_3 (broadcastInDim S1x1x1x256 ![3] bcast_S256_S1x1x1x256_3 g))

/-- The pieces of the projection `d`, side by side. -/
def joined (d : FVec Ideal S2x4096x13320 .f32) (s : FVec Ideal S2x4096x6144 .f32) (q k : FVec Ideal S128 .f32) (mq : FVec Ideal S256 .f32) : FVec Ideal S8192x13312 .f32 :=
  concatenate S8192x13312 1 [
    ⟨S8192x1024, gatePart ![0, 0, 0, 0, 0] slices_S2x4096x3x2x1024_S2x4096x1x1x1024_0_0_0_0_0 s⟩,
    ⟨S8192x1024, gatePart ![0, 0, 1, 0, 0] slices_S2x4096x3x2x1024_S2x4096x1x1x1024_0_0_1_0_0 s⟩,
    ⟨S8192x1024, gatePart ![0, 0, 2, 0, 0] slices_S2x4096x3x2x1024_S2x4096x1x1x1024_0_0_2_0_0 s⟩,
    ⟨S8192x1024, gatePart ![0, 0, 0, 1, 0] slices_S2x4096x3x2x1024_S2x4096x1x1x1024_0_0_0_1_0 s⟩,
    ⟨S8192x1024, gatePart ![0, 0, 1, 1, 0] slices_S2x4096x3x2x1024_S2x4096x1x1x1024_0_0_1_1_0 s⟩,
    ⟨S8192x1024, gatePart ![0, 0, 2, 1, 0] slices_S2x4096x3x2x1024_S2x4096x1x1x1024_0_0_2_1_0 s⟩,
    ⟨S8192x3072, shapeCast _ (extractStridedSlice S2x4096x3072 ![0, 0, 0] d slices_S2x4096x13320_S2x4096x3072_0_0_0) shapeCasts_S2x4096x3072_S8192x3072⟩,
    ⟨S8192x1024, shapeCast _ (mulf (heads128 (extractStridedSlice S2x4096x1024 ![0, 0, 3072] d slices_S2x4096x13320_S2x4096x1024_0_0_3072) q) (broadcastInDim S2x4096x8x128 ![] bcast_S_S2x4096x8x128 (constant S_ .f32 0x3E0293EE#32))) shapeCasts_S2x4096x8x128_S8192x1024⟩,
    ⟨S8192x1024, shapeCast _ (heads128 (extractStridedSlice S2x4096x1024 ![0, 0, 4096] d slices_S2x4096x13320_S2x4096x1024_0_0_4096) k) shapeCasts_S2x4096x8x128_S8192x1024⟩,
    ⟨S8192x1024, shapeCast _ (extractStridedSlice S2x4096x1024 ![0, 0, 5120] d slices_S2x4096x13320_S2x4096x1024_0_0_5120) shapeCasts_S2x4096x1024_S8192x1024⟩,
    ⟨S8192x1024, shapeCast _ (mulf (heads256 (extractStridedSlice S2x4096x1024 ![0, 0, 6152] d slices_S2x4096x13320_S2x4096x1024_0_0_6152) mq) (broadcastInDim S2x4096x4x256 ![] bcast_S_S2x4096x4x256 (constant S_ .f32 0x3D800000#32))) shapeCasts_S2x4096x4x256_S8192x1024⟩]
    concatenates_S8192x1024_S8192x1024_S8192x1024_S8192x1024_S8192x1024_S8192x1024_S8192x3072_S8192x1024_S8192x1024_S8192x1024_S8192x1024_S8192x13312_d1

variable (m : (ℓ : Loc nD τ sig) → Buf (Elt Ideal) ℓ)

/-- The activations times the input weights. -/
def prod (h : FVec Ideal S2x4096x2048 .bf16) (w : FVec Ideal S2048x13320 .f32) : FVec Ideal S2x4096x13320 .f32 :=
  Host.dotGeneral dot_S2x4096x2048_S2048x13320_S2x4096x13320_2_0_01_1_n_n none (extf .f32 h bitsLt_bf16_f32) w

/-- The reference's first result is the joined pieces. -/
theorem res_eq (c : Dev nD) : res_main_v86 m c
    = (joined (prod (m ((c.tc : Thread nD τ).loc main_arg0)) (m ((c.tc : Thread nD τ).loc main_arg1)))
        (sigm (extractStridedSlice S2x4096x6144 ![0, 0, 7176] (prod (m ((c.tc : Thread nD τ).loc main_arg0)) (m ((c.tc : Thread nD τ).loc main_arg1))) slices_S2x4096x13320_S2x4096x6144_0_0_7176))
        (m ((c.tc : Thread nD τ).loc main_arg2)) (m ((c.tc : Thread nD τ).loc main_arg3)) (m ((c.tc : Thread nD τ).loc main_arg4)) : S8192x13312.Idx → EReal) := rfl

/-- An array of rows read at a row and a column. -/
def at3 (d : FVec Ideal S2x4096x13320 .f32) (r n : ℕ) : EReal :=
  d (ix3 ⟨r / 4096 % 2, Nat.mod_lt _ (by decide)⟩ ⟨r % 4096, Nat.mod_lt _ (by decide)⟩ ⟨n % 13320, Nat.mod_lt _ (by decide)⟩)

/-- The products read at a row and a column. -/
theorem prod_at (h : FVec Ideal S2x4096x2048 .bf16) (w : FVec Ideal S2048x13320 .f32) (r n : ℕ) : at3 (prod h w) r n
    = ∑ k : Fin 2048, (h (ix3 ⟨r / 4096 % 2, Nat.mod_lt _ (by decide)⟩ ⟨r % 4096, Nat.mod_lt _ (by decide)⟩ k) : EReal)
      * w (ix2 k ⟨n % 13320, Nat.mod_lt _ (by decide)⟩) := by
  unfold at3
  pointwise [prod]

/-- The reference's spelling is the logistic function. -/
theorem sigm_apply (x : FVec Ideal S2x4096x6144 .f32) (i : S2x4096x6144.Idx) : sigm x i = Ideal.logistic (x i) := by
  pointwise [sigm]
  rfl

/-- One branch's half of the gates, read at an element. -/
theorem gatePart_apply (br : Fin 3) (n : Fin 2) (hs) (x : FVec Ideal S2x4096x6144 .f32) (r : Fin 8192) (q : Fin 1024) :
    gatePart ![0, 0, br.val, n.val, 0] hs x (ix2 r q) = x (ix3 ⟨r.val / 4096, by omega⟩ ⟨r.val % 4096, by omega⟩ ⟨br.val * 2048 + n.val * 1024 + q.val, by omega⟩) := by
  pointwise [gatePart]

/-- A head of 128 columns, read at an element. -/
theorem heads128_apply (x : FVec Ideal S2x4096x1024 .f32) (g : FVec Ideal S128 .f32) (a : Fin 2) (b : Fin 4096) (u : Fin 8) (v : Fin 128) :
    heads128 x g (ix4 a b u v) = scaled (Ideal.ofBits .f32 0x43000000#32) (x (ix3 a b ⟨u.val * 128 + v.val, by omega⟩))
      (∑ k : Fin 128, x (ix3 a b ⟨u.val * 128 + k.val, by omega⟩) * x (ix3 a b ⟨u.val * 128 + k.val, by omega⟩)) * g (ix1 v) := by
  pointwise [heads128, scaled]

/-- A head of 256 columns, read at an element. -/
theorem heads256_apply (x : FVec Ideal S2x4096x1024 .f32) (g : FVec Ideal S256 .f32) (a : Fin 2) (b : Fin 4096) (u : Fin 4) (v : Fin 256) :
    heads256 x g (ix4 a b u v) = scaled (Ideal.ofBits .f32 0x43800000#32) (x (ix3 a b ⟨u.val * 256 + v.val, by omega⟩))
      (∑ k : Fin 256, x (ix3 a b ⟨u.val * 256 + k.val, by omega⟩) * x (ix3 a b ⟨u.val * 256 + k.val, by omega⟩)) * g (ix1 v) := by
  pointwise [heads256, scaled]

/-- The gain of column `e`: the queries' with the softmax scale in base two, the keys', the memory queries' with its scale,
    and one elsewhere. -/
def gainOf (q k : FVec Ideal S128 .f32) (mq : FVec Ideal S256 .f32) (e : ℕ) : EReal :=
  if 12288 ≤ e ∧ e < 13312 then
    (mq (ix1 ⟨e % 256, Nat.mod_lt _ (by decide)⟩) : EReal) * Ideal.ofBits .f32 0x3D800000#32
  else if 10240 ≤ e ∧ e < 11264 then (k (ix1 ⟨e % 128, Nat.mod_lt _ (by decide)⟩) : EReal)
  else if 9216 ≤ e ∧ e < 10240 then
    (q (ix1 ⟨e % 128, Nat.mod_lt _ (by decide)⟩) : EReal) * Ideal.ofBits .f32 0x3E0293EE#32
  else Ideal.ofBits .f32 0x3F800000#32

/-- An element of the products, by its row and column. -/
theorem at3_of (d : FVec Ideal S2x4096x13320 .f32) (r : Fin 8192) (n n' : ℕ) (hn : n < 13320) (e : n = n') :
    d (ix3 ⟨r.val / 4096, by omega⟩ ⟨r.val % 4096, by omega⟩ ⟨n, hn⟩) = at3 d r.val n' := by
  subst e
  unfold at3
  have hr := r.isLt
  have e1 : r.val / 4096 % 2 = r.val / 4096 := by omega
  have e2 : n % 13320 = n := by omega
  simp only [e1, e2]

/-- One branch's half of the gates, read at column `e` of the finished projection. -/
theorem gate_piece (d : FVec Ideal S2x4096x13320 .f32) (G : ℕ → EReal) (br : Fin 3) (n : Fin 2) (hs) (r : Fin 8192) (e : ℕ) (he : e < 6144)
    (q : Fin 1024) (hq : q.val = e % 1024) (hj : rowStart (e / 1024) = 7176 + br.val * 2048 + n.val * 1024) :
    gatePart ![0, 0, br.val, n.val, 0] hs (sigm (extractStridedSlice S2x4096x6144 ![0, 0, 7176] d slices_S2x4096x13320_S2x4096x6144_0_0_7176)) (ix2 r q)
      = want (at3 d) G r.val e := by
  rw [gatePart_apply, sigm_apply]
  unfold want
  rw [if_pos he]
  have h1 := br.isLt; have h2 := n.isLt; have h3 := q.isLt
  refine congrArg Ideal.logistic (Eq.trans (by pointwise) (at3_of d r (7176 + (br.val * 2048 + n.val * 1024 + q.val)) _ (by omega) ?_))
  omega

/-- A head of 128 columns of the products from column `o` on, read at column `e` of the finished projection. -/
theorem head128_piece (d : FVec Ideal S2x4096x13320 .f32) (g : FVec Ideal S128 .f32) (o : ℕ) (ho : o + 1024 ≤ 13320) (hs) (r : Fin 8192) (e : ℕ)
    (he : rowStart (e / 1024) = o) (u : Fin 8) (v : Fin 128) (hu : u.val = e % 1024 / 128) (hv : v.val = e % 128) :
    heads128 (extractStridedSlice S2x4096x1024 ![0, 0, o] d hs) g (ix4 ⟨r.val / 4096, by omega⟩ ⟨r.val % 4096, by omega⟩ u v)
      = scaled (Ideal.ofBits .f32 0x43000000#32) (at3 d r.val (rowStart (e / 1024) + e % 1024)) (sq (at3 d) 128 r.val e)
        * g (ix1 ⟨e % 128, Nat.mod_lt _ (by decide)⟩) := by
  have cut : ∀ k : Fin 128, extractStridedSlice S2x4096x1024 ![0, 0, o] d hs (ix3 ⟨r.val / 4096, by omega⟩ ⟨r.val % 4096, by omega⟩ ⟨u.val * 128 + k.val, by omega⟩)
      = at3 d r.val (rowStart (e / 1024) + (e % 1024 / 128 * 128 + k.val)) := by
    intro k
    have hk := k.isLt
    rw [← hu, he]
    exact Eq.trans (by pointwise) (at3_of d r (o + (u.val * 128 + k.val)) _ (by have := u.isLt; omega) rfl)
  rw [heads128_apply]
  refine congrArg₂ (· * ·) (congrArg₂ (scaled _) ((cut v).trans (congrArg (at3 d r.val) ?_)) ?_) (congrArg g (congrArg ix1 (Fin.ext hv)))
  · omega
  · exact Finset.sum_congr rfl fun k _ => congrArg₂ (· * ·) (cut k) (cut k)

/-- A head of 256 columns of the products from column `o` on, read at column `e` of the finished projection. -/
theorem head256_piece (d : FVec Ideal S2x4096x13320 .f32) (g : FVec Ideal S256 .f32) (o : ℕ) (ho : o + 1024 ≤ 13320) (hs) (r : Fin 8192) (e : ℕ)
    (he : rowStart (e / 1024) = o) (u : Fin 4) (v : Fin 256) (hu : u.val = e % 1024 / 256) (hv : v.val = e % 256) :
    heads256 (extractStridedSlice S2x4096x1024 ![0, 0, o] d hs) g (ix4 ⟨r.val / 4096, by omega⟩ ⟨r.val % 4096, by omega⟩ u v)
      = scaled (Ideal.ofBits .f32 0x43800000#32) (at3 d r.val (rowStart (e / 1024) + e % 1024)) (sq (at3 d) 256 r.val e)
        * g (ix1 ⟨e % 256, Nat.mod_lt _ (by decide)⟩) := by
  have cut : ∀ k : Fin 256, extractStridedSlice S2x4096x1024 ![0, 0, o] d hs (ix3 ⟨r.val / 4096, by omega⟩ ⟨r.val % 4096, by omega⟩ ⟨u.val * 256 + k.val, by omega⟩)
      = at3 d r.val (rowStart (e / 1024) + (e % 1024 / 256 * 256 + k.val)) := by
    intro k
    have hk := k.isLt
    rw [← hu, he]
    exact Eq.trans (by pointwise) (at3_of d r (o + (u.val * 256 + k.val)) _ (by have := u.isLt; omega) rfl)
  rw [heads256_apply]
  refine congrArg₂ (· * ·) (congrArg₂ (scaled _) ((cut v).trans (congrArg (at3 d r.val) ?_)) ?_) (congrArg g (congrArg ix1 (Fin.ext hv)))
  · omega
  · exact Finset.sum_congr rfl fun k _ => congrArg₂ (· * ·) (cut k) (cut k)

set_option maxHeartbeats 2000000 in
/-- The joined pieces at a row and a column. -/
theorem joined_apply (d : FVec Ideal S2x4096x13320 .f32) (q k : FVec Ideal S128 .f32) (mq : FVec Ideal S256 .f32) (r : Fin 8192) (e : Fin 13312) :
    joined d (sigm (extractStridedSlice S2x4096x6144 ![0, 0, 7176] d slices_S2x4096x13320_S2x4096x6144_0_0_7176)) q k mq (ix2 r e)
      = want (at3 d) (gainOf q k mq) r.val e.val := by
  have hlt := e.isLt
  pointwise [joined]
  by_cases h0 : e.val < 1024
  · rw [dif_pos h0]
    have hj : e.val / 1024 = 0 := by omega
    exact gate_piece d _ 0 0 _ r e.val (by omega) _ (by show e.val = _; omega) (by rw [hj]; rfl)
  rw [dif_neg h0]
  by_cases h1 : e.val - 1024 < 1024
  · rw [dif_pos h1]
    have hj : e.val / 1024 = 1 := by omega
    exact gate_piece d _ 1 0 _ r e.val (by omega) _ (by show e.val - 1024 = _; omega) (by rw [hj]; rfl)
  rw [dif_neg h1]
  by_cases h2 : e.val - 1024 - 1024 < 1024
  · rw [dif_pos h2]
    have hj : e.val / 1024 = 2 := by omega
    exact gate_piece d _ 2 0 _ r e.val (by omega) _ (by show e.val - 1024 - 1024 = _; omega) (by rw [hj]; rfl)
  rw [dif_neg h2]
  by_cases h3 : e.val - 1024 - 1024 - 1024 < 1024
  · rw [dif_pos h3]
    have hj : e.val / 1024 = 3 := by omega
    exact gate_piece d _ 0 1 _ r e.val (by omega) _ (by show e.val - 1024 - 1024 - 1024 = _; omega) (by rw [hj]; rfl)
  rw [dif_neg h3]
  by_cases h4 : e.val - 1024 - 1024 - 1024 - 1024 < 1024
  · rw [dif_pos h4]
    have hj : e.val / 1024 = 4 := by omega
    exact gate_piece d _ 1 1 _ r e.val (by omega) _ (by show e.val - 1024 - 1024 - 1024 - 1024 = _; omega) (by rw [hj]; rfl)
  rw [dif_neg h4]
  by_cases h5 : e.val - 1024 - 1024 - 1024 - 1024 - 1024 < 1024
  · rw [dif_pos h5]
    have hj : e.val / 1024 = 5 := by omega
    exact gate_piece d _ 2 1 _ r e.val (by omega) _ (by show e.val - 1024 - 1024 - 1024 - 1024 - 1024 = _; omega) (by rw [hj]; rfl)
  rw [dif_neg h5]
  unfold want
  rw [if_neg (show ¬ e.val < 6144 by omega)]
  by_cases h6 : e.val - 1024 - 1024 - 1024 - 1024 - 1024 - 1024 < 3072
  · rw [dif_pos h6]
    rw [if_pos (show e.val < 9216 by omega)]
    refine at3_of d r _ _ _ ?_
    rcases (by omega : e.val / 1024 = 6 ∨ e.val / 1024 = 7 ∨ e.val / 1024 = 8) with hj | hj | hj <;> rw [hj] <;> simp only [rowStart, List.getD_cons_succ, List.getD_cons_zero] <;> omega
  rw [dif_neg h6]
  rw [if_neg (show ¬ e.val < 9216 by omega)]
  by_cases h7 : e.val - 1024 - 1024 - 1024 - 1024 - 1024 - 1024 - 3072 < 1024
  · rw [dif_pos h7]
    have hj : e.val / 1024 = 9 := by omega
    rw [if_pos (show e.val < 11264 by omega), head128_piece d q 3072 (by decide) _ r e.val (by rw [hj]; rfl) _ _ (by show (_ : ℕ) / 128 = _; omega) (by show (_ : ℕ) % 128 = _; omega)]
    unfold gainOf
    rw [if_neg (by omega), if_neg (by omega), if_pos (by omega), mul_assoc]
  rw [dif_neg h7]
  by_cases h8 : e.val - 1024 - 1024 - 1024 - 1024 - 1024 - 1024 - 3072 - 1024 < 1024
  · rw [dif_pos h8]
    have hj : e.val / 1024 = 10 := by omega
    rw [if_pos (show e.val < 11264 by omega), head128_piece d k 4096 (by decide) _ r e.val (by rw [hj]; rfl) _ _ (by show (_ : ℕ) / 128 = _; omega) (by show (_ : ℕ) % 128 = _; omega)]
    unfold gainOf
    rw [if_neg (by omega), if_pos (by omega)]
  rw [dif_neg h8]
  rw [if_neg (show ¬ e.val < 11264 by omega)]
  by_cases h9 : e.val - 1024 - 1024 - 1024 - 1024 - 1024 - 1024 - 3072 - 1024 - 1024 < 1024
  · rw [dif_pos h9]
    have hj : e.val / 1024 = 11 := by omega
    rw [if_pos (show e.val < 12288 by omega)]
    refine at3_of d r _ _ _ ?_
    rw [hj]; show _ = 5120 + _; omega
  rw [dif_neg h9]
  · have hj : e.val / 1024 = 12 := by omega
    rw [if_neg (show ¬ e.val < 12288 by omega), head256_piece d mq 6152 (by decide) _ r e.val (by rw [hj]; rfl) _ _ (by show (_ : ℕ) / 256 = _; omega) (by show (_ : ℕ) % 256 = _; omega)]
    unfold gainOf
    rw [if_pos (by omega), mul_assoc]

end Cert.ReferenceIdeal.Hand

end
-- ==== Proof.Mlp.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.WritesUnit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.Pipeline (Dat Cfg Window)

/-! ## What one grid step leaves in the output's block -/

/-- The zero offsets. -/
theorem hz : (![0, 0] : Fin 2 → Nat) = fun _ => 0 := funext fun a => by fin_cases a <;> rfl

/-- The row at which the body adds the residual. -/
theorem off1 : ∀ i : grid0.Coords, k0_off1 i = ![(i 1).val * 128, 0] := by decide +kernel

/-- What one step adds to an element of the block: the squares of the rectified products times the second weights. -/
def part (x0 : Vec Ideal S1024x2048 .bf16) (x1 : Vec Ideal S2048x1024 .bf16) (x2 : Vec Ideal S1024x2048 .bf16)
    (p : Fin 1024) (q : Fin 2048) : EReal :=
  ∑ k : Fin 1024, (max (∑ l : Fin 2048, (x0 (ix2 p l) : EReal) * x1 (ix2 l k)) 0 * max (∑ l : Fin 2048, (x0 (ix2 p l) : EReal) * x1 (ix2 l k)) 0) * x2 (ix2 k q)

/-- The residual's slab: the rows `128 f` to `128 f + 127` of the block. -/
def slab (f : ℕ) (x3 : Vec Ideal S128x2048 .f32) (p : Fin 1024) (q : Fin 2048) : EReal :=
  if p.val / 128 = f then x3 (ix2 ⟨p.val % 128, Nat.mod_lt _ (by decide)⟩ q) else 0

/-- The accumulated block, read at an element. -/
theorem pay2_apply (x0 : Vec Ideal S1024x2048 .bf16) (x1 : Vec Ideal S2048x1024 .bf16) (x2 : Vec Ideal S1024x2048 .bf16) (acc : Vec Ideal S1024x2048 .f32)
    (p : Fin 1024) (q : Fin 2048) : k0_pay2 (F := Ideal) x0 x1 acc x2 (ix2 p q) = acc (ix2 p q) + part x0 x1 x2 p q := by
  unfold part
  pointwise [k0_pay2]

/-- The block the first step starts from is zero. -/
theorem pay1_apply (p : Fin 1024) (q : Fin 2048) : k0_pay1 (F := Ideal) (ix2 p q) = (0 : EReal) := by
  pointwise [k0_pay1]

/-- A whole block `w` with the slab at `off` replaced by its sum with `x3`, read at an element. -/
theorem slab_apply (v v' : View sig .tc .vmem S1024x2048 .f32) (j : v.ty.Contents (Elt Ideal)) (j' : v'.ty.Contents (Elt Ideal)) (f : ℕ) (off : Fin 2 → ℕ)
    (inb inb') (hoff : off = ![f * 128, 0]) (w : Vec Ideal S1024x2048 .f32) (x3 : Vec Ideal S128x2048 .f32) (L L' : List (View.Piece (Elt Ideal) S1024x2048 .f32)) (p : Fin 1024) (q : Fin 2048) :
    v.read (Elt Ideal) (v.writes (Elt Ideal) j
      ((⟨Rect.unit off ![128, 2048] inb, k0_pay3 (View.ld (v'.read (Elt Ideal) (v'.writes (Elt Ideal) j' (⟨Rect.unit ![0, 0] ![1024, 2048] inb', w⟩ :: L'))) (Rect.unit off ![128, 2048] inb)) x3⟩ : View.Piece (Elt Ideal) S1024x2048 .f32)
        :: ⟨Rect.unit ![0, 0] ![1024, 2048] inb', w⟩ :: L)) (ix2 p q) = w (ix2 p q) + slab f x3 p q := by
  have whole : ∀ (v : View sig .tc .vmem S1024x2048 .f32) (j : v.ty.Contents (Elt Ideal)) (L) (y : S1024x2048.Idx), v.read (Elt Ideal) (v.writes (Elt Ideal) j ((⟨Rect.unit ![0, 0] ![1024, 2048] inb', w⟩ : View.Piece (Elt Ideal) S1024x2048 .f32) :: L)) y = w y :=
    fun v j L y => View.read_writes_cons_unit_of_mem v j _ w L y y rfl fun a => by fin_cases a <;> exact (Nat.zero_add _).symm
  unfold slab
  by_cases h : p.val / 128 = f
  · rw [if_pos h]
    refine (View.read_writes_cons_rows_of_mem v j inb _ _ (ix2 p q) (ix2 ⟨p.val % 128, Nat.mod_lt _ (by decide)⟩ q) hoff (by show p.val = f * 128 + p.val % 128; omega) rfl).trans ?_
    refine Eq.trans (b := (View.ld (v'.read (Elt Ideal) (v'.writes (Elt Ideal) j' (⟨Rect.unit ![0, 0] ![1024, 2048] inb', w⟩ :: L'))) (Rect.unit off ![128, 2048] inb) (ix2 ⟨p.val % 128, Nat.mod_lt _ (by decide)⟩ q) : EReal) + x3 (ix2 ⟨p.val % 128, Nat.mod_lt _ (by decide)⟩ q)) ?_ ?_
    · pointwise [k0_pay3]
    · refine congrArg (· + (x3 (ix2 ⟨p.val % 128, Nat.mod_lt _ (by decide)⟩ q) : EReal)) ((whole v' j' L' _).trans (congrArg w (funext fun a => Fin.ext ?_)))
      subst hoff
      fin_cases a
      · show f * 128 + 1 * (p.val % 128) = p.val; omega
      · show 0 + 1 * q.val = q.val; omega
  · rw [if_neg h]
    refine (View.read_writes_cons_rows_of_not_mem v j inb _ _ (ix2 p q) (o := f * 128) (W := 128) hoff rfl (by show p.val < f * 128 ∨ f * 128 + 128 ≤ p.val; omega)).trans ?_
    exact (whole v j L _).trans (add_zero _).symm

/-- A step that is not the first of its block adds its part and its slab. -/
theorem out_B (c : Dev nD) (i : grid0.Coords) (a2 h2 a3 h3 a4 h4 a5 h5 a6 h6) (hc : ¬cond0_0 i)
    (x0 : Vec Ideal S1024x2048 .bf16) (x1 : Vec Ideal S2048x1024 .bf16) (x2 : Vec Ideal S1024x2048 .bf16) (x3 : Vec Ideal S128x2048 .f32) (xo : Vec Ideal S1024x2048 .f32)
    (p : Fin 1024) (q : Fin 2048) :
    out0_B_4 (F := Ideal) c i a2 h2 a3 h3 a4 h4 a5 h5 a6 h6 hc x0 x1 x2 x3 xo (ix2 p q) = xo (ix2 p q) + (part x0 x1 x2 p q + slab (i 1).val x3 p q) := by
  unfold out0_B_4 kernelRun0_B
  dsimp only
  sl_unfold_words
  simp only [View.readAt_eq_ld, h2.read_unread, h3.read_unread, h4.read_unread, h5.read_unread, h6.read_unread, View.ld_unit_zero (S := S1024x2048) hz, View.ld_unit_zero (S := S2048x1024) hz, View.ld_unit_zero (S := S128x2048) hz]
  refine (slab_apply _ _ _ _ (i 1).val _ _ _ (off1 i) _ _ _ _ p q).trans ?_
  rw [pay2_apply, add_assoc]

/-- The first step of a block leaves its part and its slab. -/
theorem out_A (c : Dev nD) (i : grid0.Coords) (a2 h2 a3 h3 a4 h4 a5 h5 a6 h6) (hc : cond0_0 i)
    (x0 : Vec Ideal S1024x2048 .bf16) (x1 : Vec Ideal S2048x1024 .bf16) (x2 : Vec Ideal S1024x2048 .bf16) (x3 : Vec Ideal S128x2048 .f32)
    (p : Fin 1024) (q : Fin 2048) :
    out0_A_4 (F := Ideal) c i a2 h2 a3 h3 a4 h4 a5 h5 a6 h6 hc x0 x1 x2 x3 (ix2 p q) = 0 + (part x0 x1 x2 p q + slab (i 1).val x3 p q) := by
  unfold out0_A_4 kernelRun0_A
  dsimp only
  sl_unfold_words
  simp only [View.readAt_eq_ld, h2.read_unread, h3.read_unread, h4.read_unread, h5.read_unread, h6.read_unread, View.ld_unit_zero (S := S1024x2048) hz, View.ld_unit_zero (S := S2048x1024) hz, View.ld_unit_zero (S := S128x2048) hz]
  refine (slab_apply _ _ _ _ (i 1).val _ _ _ (off1 i) _ _ _ _ p q).trans ?_
  rw [pay2_apply, View.readCov_unit_zero (S := S1024x2048) _ hz, pay1_apply, add_assoc]

/-! ## The array the pipeline leaves -/

variable (m : (ℓ : Loc nD τ sig) → Buf (Elt Ideal) ℓ)

/-- The normalised activations. -/
abbrev argH (c : Dev nD) : FVec Ideal S8192x2048 .bf16 := m ((c.tc : Thread nD τ).loc main_arg0)
/-- The weights up. -/
abbrev argU (c : Dev nD) : FVec Ideal S2048x8192 .bf16 := m ((c.tc : Thread nD τ).loc main_arg1)
/-- The weights down. -/
abbrev argD (c : Dev nD) : FVec Ideal S8192x2048 .bf16 := m ((c.tc : Thread nD τ).loc main_arg2)
/-- The residual stream. -/
abbrev argX (c : Dev nD) : FVec Ideal S8192x2048 .f32 := m ((c.tc : Thread nD τ).loc main_arg3)

/-- A row or hidden column, brought into range. -/
abbrev fin (n : ℕ) : Fin 8192 := ⟨n % 8192, Nat.mod_lt _ (by decide)⟩

/-- The hidden activation of row `r` and hidden column `k`: the square of the rectified product. -/
def act (c : Dev nD) (r k : ℕ) : EReal :=
  max (∑ l : Fin 2048, (argH m c (ix2 (fin r) l) : EReal) * argU m c (ix2 l (fin k))) 0
    * max (∑ l : Fin 2048, (argH m c (ix2 (fin r) l) : EReal) * argU m c (ix2 l (fin k))) 0

/-- What hidden column `k` contributes to the result at row `r` and column `q`. -/
def contrib (c : Dev nD) (r : ℕ) (q : Fin 2048) (k : ℕ) : EReal := act m c r k * argD m c (ix2 (fin k) q)

/-- The MLP's result at row `r` and column `q`. -/
def mlp (c : Dev nD) (r : ℕ) (q : Fin 2048) : EReal := argX m c (ix2 (fin r) q) + ∑ k : Fin 8192, contrib m c r q k.val

/-- Where each window's block lies at each point. -/
theorem idx : ∀ t : Fin cfg0.N, win0_0.index t = ![t.val / 8, 0] ∧ win0_1.index t = ![0, t.val % 8]
    ∧ win0_2.index t = ![t.val % 8, 0] ∧ win0_3.index t = ![t.val, 0] ∧ win0_4.index t = ![t.val / 8, 0] ∧ (grid0.coords t 1).val = t.val % 8 :=
  (by decide +kernel : ∀ t : Fin grid0.N, win0_0.index t = ![t.val / 8, 0] ∧ win0_1.index t = ![0, t.val % 8]
    ∧ win0_2.index t = ![t.val % 8, 0] ∧ win0_3.index t = ![t.val, 0] ∧ win0_4.index t = ![t.val / 8, 0] ∧ (grid0.coords t 1).val = t.val % 8)

/-- The block of the activations at a point. -/
theorem blk0 (c : Dev nD) (t : Fin cfg0.N) (p : Fin 1024) (l : Fin 2048) : iblk m c 0 t (ix2 p l) = argH m c (ix2 (fin (t.val / 8 * 1024 + p.val)) l) := by
  have e := (idx t).1
  have hN : t.val < 64 := lt_of_lt_of_eq t.isLt (show cfg0.N = 64 from N_0)
  unfold iblk; rw [View.read_apply]
  refine (congrFun (V_main_arg0 m c) _).trans (congrArg (argH m c) (funext fun a => Fin.ext ?_))
  fin_cases a
  · show win0_0.index t 0 * 1024 + 1 * p.val = (t.val / 8 * 1024 + p.val) % 8192
    rw [e]; show t.val / 8 * 1024 + _ = _; omega
  · show win0_0.index t 1 * 2048 + 1 * l.val = l.val
    rw [e]; show 0 * 2048 + _ = _; omega

/-- The block of the weights up at a point. -/
theorem blk1 (c : Dev nD) (t : Fin cfg0.N) (l : Fin 2048) (k : Fin 1024) : iblk m c 1 t (ix2 l k) = argU m c (ix2 l (fin (t.val % 8 * 1024 + k.val))) := by
  have e := (idx t).2.1
  unfold iblk; rw [View.read_apply]
  refine (congrFun (V_main_arg1 m c) _).trans (congrArg (argU m c) (funext fun a => Fin.ext ?_))
  fin_cases a
  · show win0_1.index t 0 * 2048 + 1 * l.val = l.val
    rw [e]; show 0 * 2048 + _ = _; omega
  · show win0_1.index t 1 * 1024 + 1 * k.val = (t.val % 8 * 1024 + k.val) % 8192
    rw [e]; show t.val % 8 * 1024 + _ = _; omega

/-- The block of the weights down at a point. -/
theorem blk2 (c : Dev nD) (t : Fin cfg0.N) (k : Fin 1024) (q : Fin 2048) : iblk m c 2 t (ix2 k q) = argD m c (ix2 (fin (t.val % 8 * 1024 + k.val)) q) := by
  have e := (idx t).2.2.1
  unfold iblk; rw [View.read_apply]
  refine (congrFun (V_main_arg2 m c) _).trans (congrArg (argD m c) (funext fun a => Fin.ext ?_))
  fin_cases a
  · show win0_2.index t 0 * 1024 + 1 * k.val = (t.val % 8 * 1024 + k.val) % 8192
    rw [e]; show t.val % 8 * 1024 + _ = _; omega
  · show win0_2.index t 1 * 2048 + 1 * q.val = q.val
    rw [e]; show 0 * 2048 + _ = _; omega

/-- The slab of the residual stream at a point. -/
theorem blk3 (c : Dev nD) (t : Fin cfg0.N) (p : Fin 128) (q : Fin 2048) : iblk m c 3 t (ix2 p q) = argX m c (ix2 (fin (t.val * 128 + p.val)) q) := by
  have e := (idx t).2.2.2.1
  have hN : t.val < 64 := lt_of_lt_of_eq t.isLt (show cfg0.N = 64 from N_0)
  unfold iblk; rw [View.read_apply]
  refine (congrFun (V_main_arg3 m c) _).trans (congrArg (argX m c) (funext fun a => Fin.ext ?_))
  fin_cases a
  · show win0_3.index t 0 * 128 + 1 * p.val = (t.val * 128 + p.val) % 8192
    rw [e]; show t.val * 128 + _ = _; omega
  · show win0_3.index t 1 * 2048 + 1 * q.val = q.val
    rw [e]; show 0 * 2048 + _ = _; omega

/-- What the step `f` of row block `b` adds, in terms of the arguments. -/
def term (c : Dev nD) (b f : ℕ) (y : S1024x2048.Idx) : EReal :=
  (∑ k : Fin 1024, contrib m c (b * 1024 + (y 0).val) (y 1) (f * 1024 + k.val))
    + if (y 0).val / 128 = f then argX m c (ix2 (fin (b * 1024 + (y 0).val)) (y 1)) else 0

/-- A step's part and slab are the term of its row block and its place in it. -/
theorem term_eq (c : Dev nD) (t : Fin cfg0.N) (p : Fin 1024) (q : Fin 2048) :
    part (iblk m c 0 t) (iblk m c 1 t) (iblk m c 2 t) p q + slab (grid0.coords t 1).val (iblk m c 3 t) p q = term m c (t.val / 8) (t.val % 8) (ix2 p q) := by
  rw [(idx t).2.2.2.2.2]
  refine congrArg₂ (· + ·) ?_ ?_
  · unfold part
    refine Finset.sum_congr rfl fun k _ => ?_
    unfold contrib act
    simp only [blk0, blk1, blk2]
    rfl
  · unfold slab
    by_cases h : p.val / 128 = t.val % 8
    · refine (if_pos h).trans (Eq.trans ?_ (if_pos h).symm)
      refine (blk3 m c t _ q).trans (congrArg (argX m c) (congrArg (fun z => ix2 z q) (Fin.ext ?_)))
      show (t.val * 128 + p.val % 128) % 8192 = (t.val / 8 * 1024 + p.val) % 8192
      congr 1; omega
    · exact (if_neg h).trans (if_neg h).symm

/-- What the output's buffer holds after each point: the terms of its row block so far. -/
theorem outs_eq (c : Dev nD) (t : Fin cfg0.N) (y : S1024x2048.Idx) :
    outsAt0 m c t.val t.isLt y = 0 + ∑ f ∈ Finset.range (t.val % 8 + 1), term m c (t.val / 8) f y := by
  refine Pipeline.eq_sum_of_reset_step_apply_divmod (M := EReal) (fun n h => outsAt0 m c n h) 8 (fun _ => 0) (term m c) (fun t h y => ?_) (fun t h y => ?_) t y
  · obtain ⟨p, q, rfl⟩ : ∃ (p : Fin 1024) (q : Fin 2048), y = ix2 p q := ⟨y 0, y 1, by idx_vars y⟩
    show outsAt0 m c t.val t.isLt (ix2 p q) = _
    rw [outsAt0_A m c t h]
    exact (out_A ..).trans (congrArg (0 + ·) (term_eq m c t p q))
  · obtain ⟨p, q, rfl⟩ : ∃ (p : Fin 1024) (q : Fin 2048), y = ix2 p q := ⟨y 0, y 1, by idx_vars y⟩
    show outsAt0 m c t.val t.isLt (ix2 p q) = _
    rw [outsAt0_B m c t h]
    exact (out_B ..).trans (congrArg (_ + ·) (term_eq m c t p q))

/-- All eight terms of a row block are the MLP's result. -/
theorem terms_eq (c : Dev nD) (b : ℕ) (y : S1024x2048.Idx) :
    (0 : EReal) + ∑ f ∈ Finset.range 8, term m c b f y = mlp m c (b * 1024 + (y 0).val) (y 1) := by
  have hy : (y 0).val < 1024 := (y 0).isLt
  unfold term mlp
  rw [zero_add, Finset.sum_add_distrib, add_comm]
  refine congrArg₂ (· + ·) ?_ ?_
  · rw [Finset.sum_ite_eq, if_pos (Finset.mem_range.mpr (by omega))]
  · rw [← Fin.sum_univ_eq_sum_range (fun f => ∑ k : Fin 1024, contrib m c (b * 1024 + (y 0).val) (y 1) (f * 1024 + k.val)) 8]
    exact Fin.sum_univ_univ_mul_add 8 1024 (contrib m c (b * 1024 + (y 0).val) (y 1))

/-- The result's array at the end. -/
theorem out4 (c : Dev nD) : (dats m 0 c).arrAt 4 cfg0.N = fun i : S8192x2048.Idx => mlp m c (i 0).val (i 1) := by
  refine (dats m 0 c).arrAt_eq_of_covers 4 _ (by decide +kernel) fun t hf y => ?_
  have e := (idx t).2.2.2.2.1
  have h7 := (flush0_4 t).mp hf
  blk_simp [e]
  rw [after0_4]
  refine (outs_eq m c t _).trans ?_
  rw [h7]
  refine (terms_eq m c _ _).trans ?_
  refine congrArg (mlp m c _) (Fin.ext ?_)
  blk_simp [e]

end Cert.Kernel2Ideal.Hand

namespace Cert.Reference2Ideal.Hand

open Cert.Reference2Ideal Cert.Reference2Ideal.Gen
open Idealize.ShloMosaic Idealize.ShloMosaic.TcCoe Idealize.ShloMosaic.Tactic

/-- The reference's hidden activations. -/
def hidden (h : FVec Ideal S8192x2048 .bf16) (u : FVec Ideal S2048x8192 .bf16) : FVec Ideal S8192x8192 .f32 :=
  maximumf (Host.dotGeneral dot_S8192x2048_S2048x8192_S8192x8192_1_0_0_1_n_n none (extf .f32 h bitsLt_bf16_f32) (extf .f32 u bitsLt_bf16_f32))
    (broadcastInDim S8192x8192 ![] bcast_S_S8192x8192 (constant S_ .f32 0x00000000#32))

/-- The reference's result. -/
def result (h : FVec Ideal S8192x2048 .bf16) (u : FVec Ideal S2048x8192 .bf16) (d : FVec Ideal S8192x2048 .bf16) (x : FVec Ideal S8192x2048 .f32) : FVec Ideal S8192x2048 .f32 :=
  addf x (Host.dotGeneral dot_S8192x8192_S8192x2048_S8192x2048_1_0_0_1_n_n none (mulf (hidden h u) (hidden h u)) (extf .f32 d bitsLt_bf16_f32))

/-- The hidden activations, read at an element. -/
theorem hidden_apply (h : FVec Ideal S8192x2048 .bf16) (u : FVec Ideal S2048x8192 .bf16) (r k : Fin 8192) :
    hidden h u (ix2 r k) = max (∑ l : Fin 2048, (h (ix2 r l) : EReal) * u (ix2 l k)) 0 := by
  pointwise [hidden]

/-- The result, read at an element. -/
theorem result_apply (h : FVec Ideal S8192x2048 .bf16) (u : FVec Ideal S2048x8192 .bf16) (d : FVec Ideal S8192x2048 .bf16) (x : FVec Ideal S8192x2048 .f32) (r : Fin 8192) (q : Fin 2048) :
    result h u d x (ix2 r q) = x (ix2 r q) + ∑ k : Fin 8192, ((hidden h u (ix2 r k) : EReal) * hidden h u (ix2 r k)) * d (ix2 k q) := by
  pointwise [result]

open Cert.Kernel2Ideal.Hand (mlp contrib act fin argH argU argD argX) in
/-- The reference's result, of the kernel's arguments, is the MLP's. -/
theorem result_eq (m : (ℓ : Loc Cert.Kernel2Ideal.nD Cert.Kernel2Ideal.τ Cert.Kernel2Ideal.sig) → Buf (Elt Ideal) ℓ) (c : Dev Cert.Kernel2Ideal.nD) :
    result (argH m c) (argU m c) (argD m c) (argX m c) = fun i : S8192x2048.Idx => mlp m c (i 0).val (i 1) := by
  funext i
  obtain ⟨r, q, rfl⟩ : ∃ (r : Fin 8192) (q : Fin 2048), i = ix2 r q := ⟨i 0, i 1, by idx_vars i⟩
  have e : ∀ n : Fin 8192, fin n.val = n := fun n => Fin.ext (Nat.mod_eq_of_lt n.isLt)
  refine (result_apply _ _ _ _ r q).trans ?_
  show _ = mlp m c r.val q
  unfold mlp contrib act
  simp only [hidden_apply, e]

end Cert.Reference2Ideal.Hand

end
-- ==== Proof.OutProj.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.ShloMosaic.Pipeline (Dat Cfg Window)

/-! ## What one grid step leaves -/

/-- The zero offsets. -/
theorem hz : (![0, 0] : Fin 2 → Nat) = fun _ => 0 := funext fun a => by fin_cases a <;> rfl

section Step

variable (c : Dev nD) (i : grid0.Coords) (a1 : Memref sig .tc .vmem S512x2048 .bf16) (h1 : a1.IsWhole) (a2 : Memref sig .tc .vmem S2048x2048 .f32) (h2 : a2.IsWhole)
  (a3 : Memref sig .tc .vmem S512x2048 .f32) (h3 : a3.IsWhole) (a4 : Memref sig .tc .vmem S1x2048 .f32) (h4 : a4.IsWhole)
  (a5 : Memref sig .tc .vmem S512x2048 .f32) (h5 : a5.IsWhole) (a6 : Memref sig .tc .vmem S512x2048 .bf16) (h6 : a6.IsWhole)
  (a7 : Memref sig .tc .vmem S2048x2048 .bf16) (h7 : a7.IsWhole)
  (x0 : Vec Ideal S512x2048 .bf16) (x1 : Vec Ideal S2048x2048 .f32) (x2 : Vec Ideal S512x2048 .f32) (x3 : Vec Ideal S1x2048 .f32) (s : Vec Ideal S2048x2048 .bf16)

/-- The first step leaves the rounded weights in the scratch buffer. -/
theorem sc_A (hc : cond0_0 i) : sout0_A_0 (F := Ideal) c i a1 h1 a2 h2 a3 h3 a4 h4 a5 h5 a6 h6 a7 h7 hc x0 x1 x2 x3 = k0_pay1 x1 := by
  unfold sout0_A_0 kernelRun0_A
  dsimp only
  sl_unfold_words
  simp only [View.readAt_eq_ld, h1.read_unread, h2.read_unread, h3.read_unread, h4.read_unread, View.ld_unit_zero (S := S2048x2048) hz]
  rw [View.read_writes_junk_eq_canon, View.canon_unit_zero hz]

/-- The stream's block after the first step. -/
theorem out4_A (hc : cond0_0 i) : out0_A_4 (F := Ideal) c i a1 h1 a2 h2 a3 h3 a4 h4 a5 h5 a6 h6 a7 h7 hc x0 x1 x2 x3 = k0_pay2 x2 x0 (k0_pay1 x1) := by
  unfold out0_A_4 kernelRun0_A
  dsimp only
  sl_unfold_words
  simp only [View.readAt_eq_ld, h1.read_unread, h2.read_unread, h3.read_unread, h4.read_unread, View.ld_unit_zero (S := S2048x2048) hz, View.ld_unit_zero (S := S512x2048) hz, View.readCov_unit_zero (S := S2048x2048) _ hz]
  rw [View.read_writes_junk_eq_canon, View.canon_unit_zero hz]

/-- The norm's block after the first step. -/
theorem out5_A (hc : cond0_0 i) : out0_A_5 (F := Ideal) c i a1 h1 a2 h2 a3 h3 a4 h4 a5 h5 a6 h6 a7 h7 hc x0 x1 x2 x3 = k0_pay3 x2 x0 (k0_pay1 x1) x3 := by
  unfold out0_A_5 kernelRun0_A
  dsimp only
  sl_unfold_words
  simp only [View.readAt_eq_ld, h1.read_unread, h2.read_unread, h3.read_unread, h4.read_unread, View.ld_unit_zero (S := S2048x2048) hz, View.ld_unit_zero (S := S512x2048) hz, View.ld_unit_zero (S := S1x2048) hz, View.readCov_unit_zero (S := S2048x2048) _ hz]
  rw [View.read_writes_junk_eq_canon, View.canon_unit_zero hz]

/-- A later step leaves the scratch buffer alone. -/
theorem sc_B (hc : ¬cond0_0 i) : sout0_B_0 (F := Ideal) c i a1 h1 a2 h2 a3 h3 a4 h4 a5 h5 a6 h6 a7 h7 hc x0 x1 x2 x3 s = s := by
  rfl

/-- The stream's block after a later step. -/
theorem out4_B (hc : ¬cond0_0 i) : out0_B_4 (F := Ideal) c i a1 h1 a2 h2 a3 h3 a4 h4 a5 h5 a6 h6 a7 h7 hc x0 x1 x2 x3 s = k0_pay2 x2 x0 s := by
  unfold out0_B_4 kernelRun0_B
  dsimp only
  sl_unfold_words
  simp only [View.readAt_eq_ld, h1.read_unread, h2.read_unread, h3.read_unread, h4.read_unread, h7.read_unread, View.ld_unit_zero (S := S2048x2048) hz, View.ld_unit_zero (S := S512x2048) hz]
  rw [View.read_writes_junk_eq_canon, View.canon_unit_zero hz]

/-- The norm's block after a later step. -/
theorem out5_B (hc : ¬cond0_0 i) : out0_B_5 (F := Ideal) c i a1 h1 a2 h2 a3 h3 a4 h4 a5 h5 a6 h6 a7 h7 hc x0 x1 x2 x3 s = k0_pay3 x2 x0 s x3 := by
  unfold out0_B_5 kernelRun0_B
  dsimp only
  sl_unfold_words
  simp only [View.readAt_eq_ld, h1.read_unread, h2.read_unread, h3.read_unread, h4.read_unread, h7.read_unread, View.ld_unit_zero (S := S2048x2048) hz, View.ld_unit_zero (S := S512x2048) hz, View.ld_unit_zero (S := S1x2048) hz]
  rw [View.read_writes_junk_eq_canon, View.canon_unit_zero hz]

end Step

variable (m : (ℓ : Loc nD τ sig) → Buf (Elt Ideal) ℓ)

/-- The merged activations. -/
abbrev argM (c : Dev nD) : FVec Ideal S8192x2048 .bf16 := m ((c.tc : Thread nD τ).loc main_arg0)
/-- The output weights. -/
abbrev argW (c : Dev nD) : FVec Ideal S2048x2048 .f32 := m ((c.tc : Thread nD τ).loc main_arg1)
/-- The residual stream. -/
abbrev argX (c : Dev nD) : FVec Ideal S2x4096x2048 .f32 := m ((c.tc : Thread nD τ).loc main_arg2)
/-- The gains of the norm. -/
abbrev argG (c : Dev nD) : FVec Ideal S2048 .f32 := m ((c.tc : Thread nD τ).loc main_arg3)

/-- A row, brought into the range of its array. -/
abbrev fin (n : ℕ) : Fin 8192 := ⟨n % 8192, Nat.mod_lt _ (by decide)⟩

/-- The residual stream after the projection, at row `r` and column `q`. -/
def stream (c : Dev nD) (r : ℕ) (q : Fin 2048) : EReal :=
  argX m c (ix3 ⟨r / 4096 % 2, Nat.mod_lt _ (by decide)⟩ ⟨r % 4096, Nat.mod_lt _ (by decide)⟩ q) + ∑ k : Fin 2048, (argM m c (ix2 (fin r) k) : EReal) * argW m c (ix2 k q)

/-- The norm of a row of numbers, scaled by a gain. -/
def normed (z : Fin 2048 → EReal) (g : EReal) (q : Fin 2048) : EReal :=
  z q * Ideal.rsqrt (Ideal.div (∑ k : Fin 2048, z k * z k) (Ideal.ofBits .f32 0x45000000#32) + Ideal.ofBits .f32 0x358637BD#32) * g

/-- The block of the stream, read at an element. -/
theorem pay2_apply (x2 : Vec Ideal S512x2048 .f32) (x0 : Vec Ideal S512x2048 .bf16) (s : Vec Ideal S2048x2048 .bf16) (p : Fin 512) (q : Fin 2048) :
    k0_pay2 (F := Ideal) x2 x0 s (ix2 p q) = (x2 (ix2 p q) : EReal) + ∑ k : Fin 2048, (x0 (ix2 p k) : EReal) * s (ix2 k q) := by
  pointwise [k0_pay2]

/-- The block of the norm, read at an element. -/
theorem pay3_apply (x2 : Vec Ideal S512x2048 .f32) (x0 : Vec Ideal S512x2048 .bf16) (s : Vec Ideal S2048x2048 .bf16) (x3 : Vec Ideal S1x2048 .f32) (p : Fin 512) (q : Fin 2048) :
    k0_pay3 (F := Ideal) x2 x0 s x3 (ix2 p q) = normed (fun k => k0_pay2 (F := Ideal) x2 x0 s (ix2 p k)) (x3 (ix2 0 q)) q := by
  unfold normed
  pointwise [k0_pay3]

/-- Rounding the weights keeps their values. -/
theorem pay1_apply (x1 : Vec Ideal S2048x2048 .f32) (p q : Fin 2048) : k0_pay1 (F := Ideal) x1 (ix2 p q) = (x1 (ix2 p q) : EReal) := by
  pointwise [k0_pay1]

/-- The reshaped residual stream, read at an element. -/
theorem V_x (c : Dev nD) (r : Fin 8192) (k : Fin 2048) :
    V m c main_v0 (ix2 r k) = argX m c (ix3 ⟨r.val / 4096, by omega⟩ ⟨r.val % 4096, by omega⟩ k) := by
  entry_read
  pointwise

/-- The reshaped gains, read at an element. -/
theorem V_g (c : Dev nD) (k : Fin 2048) :
    V m c main_v1 (ix2 0 k) = argG m c (ix1 k) := by
  entry_read
  pointwise

/-- Which block of each array every grid point holds. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0]
    ∧ win0_2.index t = ![t.val, 0] ∧ win0_3.index t = ![0, 0] ∧ win0_4.index t = ![t.val, 0] ∧ win0_5.index t = ![t.val, 0])

/-- The block of the merged activations at a point. -/
theorem blk0 (c : Dev nD) (t : Fin cfg0.N) (p : Fin 512) (l : Fin 2048) : iblk m c 0 t (ix2 p l) = argM m c (ix2 (fin (t.val * 512 + p.val)) l) := by
  have e := (idx t).1
  have hN : t.val < 16 := lt_of_lt_of_eq t.isLt (show cfg0.N = 16 from N_0)
  unfold iblk; rw [View.read_apply]
  refine (congrFun (V_main_arg0 m c) _).trans (congrArg (argM m c) (funext fun a => Fin.ext ?_))
  fin_cases a
  · show win0_0.index t 0 * 512 + 1 * p.val = (t.val * 512 + p.val) % 8192
    rw [e]; show t.val * 512 + _ = _; omega
  · show win0_0.index t 1 * 2048 + 1 * l.val = l.val
    rw [e]; show 0 * 2048 + _ = _; omega

/-- The block of the weights, the whole of them at every point. -/
theorem blk1 (c : Dev nD) (t : Fin cfg0.N) (k q : Fin 2048) : iblk m c 1 t (ix2 k q) = argW m c (ix2 k q) := by
  have e := (idx t).2.1
  unfold iblk; rw [View.read_apply]
  refine (congrFun (V_main_arg1 m c) _).trans (congrArg (argW m c) (funext fun a => Fin.ext ?_))
  fin_cases a
  · show win0_1.index t 0 * 2048 + 1 * k.val = k.val
    rw [e]; show 0 * 2048 + _ = _; omega
  · show win0_1.index t 1 * 2048 + 1 * q.val = q.val
    rw [e]; show 0 * 2048 + _ = _; omega

/-- The block of the residual stream at a point. -/
theorem blk2 (c : Dev nD) (t : Fin cfg0.N) (p : Fin 512) (q : Fin 2048) : iblk m c 2 t (ix2 p q)
    = argX m c (ix3 ⟨(t.val * 512 + p.val) / 4096 % 2, Nat.mod_lt _ (by decide)⟩ ⟨(t.val * 512 + p.val) % 4096, Nat.mod_lt _ (by decide)⟩ q) := by
  have e := (idx t).2.2.1
  have hN : t.val < 16 := lt_of_lt_of_eq t.isLt (show cfg0.N = 16 from N_0)
  unfold iblk; rw [View.read_apply]
  refine (congrArg (V m c main_v0) (funext fun a => Fin.ext ?_)).trans ((V_x m c ⟨t.val * 512 + p.val, by omega⟩ q).trans
    (congrArg (fun z => argX m c (ix3 z _ q)) (Fin.ext (Nat.mod_eq_of_lt (show (t.val * 512 + p.val) / 4096 < 2 by omega)).symm)))
  fin_cases a
  · show win0_2.index t 0 * 512 + 1 * p.val = t.val * 512 + p.val
    rw [e]; show t.val * 512 + _ = _; omega
  · show win0_2.index t 1 * 2048 + 1 * q.val = q.val
    rw [e]; show 0 * 2048 + _ = _; omega

/-- The block of the gains, the whole of them at every point. -/
theorem blk3 (c : Dev nD) (t : Fin cfg0.N) (q : Fin 2048) : iblk m c 3 t (ix2 0 q) = argG m c (ix1 q) := by
  have e := (idx t).2.2.2.1
  unfold iblk; rw [View.read_apply]
  refine (congrArg (V m c main_v1) (funext fun a => Fin.ext ?_)).trans (V_g m c q)
  fin_cases a
  · show win0_3.index t 0 * 1 + 1 * 0 = 0
    rw [e]; rfl
  · show win0_3.index t 1 * 2048 + 1 * q.val = q.val
    rw [e]; show 0 * 2048 + _ = _; omega

/-- What the buffers hold after the first point. -/
theorem outs_A (c : Dev nD) (t : Fin cfg0.N) (h : t.val % 16 = 0) :
    outsAt0 m c t.val t.isLt = (k0_pay2 (iblk m c 2 t) (iblk m c 0 t) (k0_pay1 (iblk m c 1 t)),
      k0_pay3 (iblk m c 2 t) (iblk m c 0 t) (k0_pay1 (iblk m c 1 t)) (iblk m c 3 t), k0_pay1 (iblk m c 1 t)) :=
  (outsAt0_A m c t h).trans (congrArg₂ Prod.mk (out4_A ..) (congrArg₂ Prod.mk (out5_A ..) (sc_A ..)))

/-- What the buffers hold after a later point, over the scratch buffer the point before left. -/
theorem outs_B (c : Dev nD) (t : Fin cfg0.N) (h : ¬t.val % 16 = 0) (s : Vec Ideal S2048x2048 .bf16)
    (hs : (outsAt0 m c (t.val - 1) (Nat.lt_of_le_of_lt (Nat.sub_le _ _) t.isLt)).2.2 = s) :
    outsAt0 m c t.val t.isLt = (k0_pay2 (iblk m c 2 t) (iblk m c 0 t) s, k0_pay3 (iblk m c 2 t) (iblk m c 0 t) s (iblk m c 3 t), s) := by
  subst hs
  exact (outsAt0_B m c t h).trans (congrArg₂ Prod.mk (out4_B ..) (congrArg₂ Prod.mk (out5_B ..) (sc_B ..)))

/-- The scratch buffer holds the weights after every point. -/
theorem scratch (c : Dev nD) (n : ℕ) : ∀ (h : n < cfg0.N) (k q : Fin 2048), (outsAt0 m c n h).2.2 (ix2 k q) = argW m c (ix2 k q) := by
  induction n with
  | zero =>
    intro h k q
    exact (congrFun (congrArg (fun o => o.2.2) (outs_A m c ⟨0, h⟩ (Nat.zero_mod _))) _).trans ((pay1_apply _ k q).trans (blk1 m c _ k q))
  | succ n ih =>
    intro h k q
    have hN : n + 1 < 16 := lt_of_lt_of_eq h (show cfg0.N = 16 from N_0)
    exact (congrFun (congrArg (fun o => o.2.2) (outs_B m c ⟨n + 1, h⟩ (show ¬(n + 1) % 16 = 0 by omega) _ rfl)) _).trans (ih _ k q)

/-- A block's sum, of a scratch buffer that holds the weights, is the stream's. -/
theorem stream_eq (c : Dev nD) (t : Fin cfg0.N) (s : Vec Ideal S2048x2048 .bf16) (hs : ∀ k q : Fin 2048, s (ix2 k q) = argW m c (ix2 k q)) (p : Fin 512) (q : Fin 2048) :
    k0_pay2 (F := Ideal) (iblk m c 2 t) (iblk m c 0 t) s (ix2 p q) = stream m c (t.val * 512 + p.val) q := by
  refine (pay2_apply _ _ _ p q).trans (congrArg₂ (· + ·) (blk2 m c t p q) (Finset.sum_congr rfl fun k _ => ?_))
  exact congrArg₂ (· * ·) (blk0 m c t p k) (hs k q)

/-- The same of a block's norm. -/
theorem norm_eq (c : Dev nD) (t : Fin cfg0.N) (s : Vec Ideal S2048x2048 .bf16) (hs : ∀ k q : Fin 2048, s (ix2 k q) = argW m c (ix2 k q)) (p : Fin 512) (q : Fin 2048) :
    k0_pay3 (F := Ideal) (iblk m c 2 t) (iblk m c 0 t) s (iblk m c 3 t) (ix2 p q) = normed (stream m c (t.val * 512 + p.val)) (argG m c (ix1 q)) q :=
  (pay3_apply _ _ _ _ p q).trans (congrArg₂ (fun z g => normed z g q) (funext fun k => stream_eq m c t s hs p k) (blk3 m c t q))

/-- What the two outputs' buffers hold after each point. -/
theorem outs_eq (c : Dev nD) (t : Fin cfg0.N) (p : Fin 512) (q : Fin 2048) :
    (outsAt0 m c t.val t.isLt).1 (ix2 p q) = stream m c (t.val * 512 + p.val) q
      ∧ (outsAt0 m c t.val t.isLt).2.1 (ix2 p q) = normed (stream m c (t.val * 512 + p.val)) (argG m c (ix1 q)) q := by
  by_cases h : t.val % 16 = 0
  · have hs : ∀ k q : Fin 2048, k0_pay1 (F := Ideal) (iblk m c 1 t) (ix2 k q) = argW m c (ix2 k q) := fun k q => (pay1_apply _ k q).trans (blk1 m c t k q)
    rw [outs_A m c t h]
    exact ⟨stream_eq m c t _ hs p q, norm_eq m c t _ hs p q⟩
  · rw [outs_B m c t h _ rfl]
    exact ⟨stream_eq m c t _ (scratch m c _ _) p q, norm_eq m c t _ (scratch m c _ _) p q⟩

/-- The array of the new residual stream at the end. -/
theorem out4 (c : Dev nD) : (dats m 0 c).arrAt 4 cfg0.N = fun i : S8192x2048.Idx => stream m c (i 0).val (i 1) := by
  refine (dats m 0 c).arrAt_eq_of_covers 4 _ (by decide +kernel) fun t hf y => ?_
  have e := (idx t).2.2.2.2.1
  obtain ⟨p, q, rfl⟩ : ∃ (p : Fin 512) (q : Fin 2048), y = ix2 p q := ⟨y 0, y 1, by idx_vars y⟩
  blk_simp [e]
  rw [after0_4]
  refine (outs_eq m c t p q).1.trans ?_
  refine congrArg (stream m c _) (Fin.ext ?_)
  blk_simp [e]

/-- The array of its norm at the end. -/
theorem out5 (c : Dev nD) : (dats m 0 c).arrAt 5 cfg0.N = fun i : S8192x2048.Idx => normed (stream m c (i 0).val) (argG m c (ix1 (i 1))) (i 1) := by
  refine (dats m 0 c).arrAt_eq_of_covers 5 _ (by decide +kernel) fun t hf y => ?_
  have e := (idx t).2.2.2.2.2
  obtain ⟨p, q, rfl⟩ : ∃ (p : Fin 512) (q : Fin 2048), y = ix2 p q := ⟨y 0, y 1, by idx_vars y⟩
  blk_simp [e]
  rw [after0_5]
  refine (outs_eq m c t p q).2.trans ?_
  refine congrArg (fun z : Fin 2048 => normed (stream m c _) (argG m c (ix1 z)) z) (Fin.ext ?_)
  blk_simp [e]

end Cert.Kernel3Ideal.Hand

namespace Cert.Reference3Ideal.Hand

open Cert.Reference3Ideal Cert.Reference3Ideal.Gen
open Idealize.ShloMosaic Idealize.ShloMosaic.TcCoe Idealize.ShloMosaic.Tactic

/-- The reference's new residual stream. -/
def stream (a : FVec Ideal S8192x2048 .bf16) (w : FVec Ideal S2048x2048 .f32) (x : FVec Ideal S2x4096x2048 .f32) : FVec Ideal S8192x2048 .f32 :=
  addf (shapeCast _ x shapeCasts_S2x4096x2048_S8192x2048) (Host.dotGeneral dot_S8192x2048_S2048x2048_S8192x2048_1_0_0_1_n_n none (extf .f32 a bitsLt_bf16_f32) w)

/-- The reference's norm of a stream. -/
def normed (z : FVec Ideal S8192x2048 .f32) (g : FVec Ideal S2048 .f32) : FVec Ideal S8192x2048 .bf16 :=
  truncf .bf16 (mulf (mulf z (broadcastInDim S8192x2048 ![0, 1] bcast_S8192x1_S8192x2048_0_1 (Host.rsqrt (addf (Host.divf (broadcastInDim S8192x1 ![0] bcast_S8192_S8192x1_0
    (Host.reduceAdd (mulf z z) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))) bitsLt_bf16_f32

/-- The stream, read at an element. -/
theorem stream_apply (a : FVec Ideal S8192x2048 .bf16) (w : FVec Ideal S2048x2048 .f32) (x : FVec Ideal S2x4096x2048 .f32) (r : Fin 8192) (q : Fin 2048) :
    stream a w x (ix2 r q) = x (ix3 ⟨r.val / 4096, by omega⟩ ⟨r.val % 4096, by omega⟩ q) + ∑ k : Fin 2048, (a (ix2 r k) : EReal) * w (ix2 k q) := by
  pointwise [stream]

/-- The norm, read at an element. -/
theorem normed_apply (z : FVec Ideal S8192x2048 .f32) (g : FVec Ideal S2048 .f32) (r : Fin 8192) (q : Fin 2048) :
    normed z g (ix2 r q) = Cert.Kernel3Ideal.Hand.normed (fun k => z (ix2 r k)) (g (ix1 q)) q := by
  unfold Cert.Kernel3Ideal.Hand.normed
  pointwise [normed]

open Cert.Kernel3Ideal.Hand (fin argM argW argX argG)

variable (m : (ℓ : Loc Cert.Kernel3Ideal.nD Cert.Kernel3Ideal.τ Cert.Kernel3Ideal.sig) → Buf (Elt Ideal) ℓ) (c : Dev Cert.Kernel3Ideal.nD)

/-- The reference's stream, of the kernel's arguments, at an element. -/
theorem stream_at (r : Fin 8192) (q : Fin 2048) : stream (argM m c) (argW m c) (argX m c) (ix2 r q) = Cert.Kernel3Ideal.Hand.stream m c r.val q := by
  have e : fin r.val = r := Fin.ext (Nat.mod_eq_of_lt r.isLt)
  refine (stream_apply _ _ _ r q).trans ?_
  unfold Cert.Kernel3Ideal.Hand.stream
  rw [e]
  exact congrArg (fun z => (argX m c (ix3 z _ q) : EReal) + _) (Fin.ext (Nat.mod_eq_of_lt (show r.val / 4096 < 2 by omega)).symm)

/-- The reference's stream is the kernel's. -/
theorem stream_eq : stream (argM m c) (argW m c) (argX m c) = fun i : S8192x2048.Idx => Cert.Kernel3Ideal.Hand.stream m c (i 0).val (i 1) := by
  funext i
  obtain ⟨r, q, rfl⟩ : ∃ (r : Fin 8192) (q : Fin 2048), i = ix2 r q := ⟨i 0, i 1, by idx_vars i⟩
  exact stream_at m c r q

/-- The reference's norm is the kernel's. -/
theorem normed_eq : normed (stream (argM m c) (argW m c) (argX m c)) (argG m c)
    = fun i : S8192x2048.Idx => Cert.Kernel3Ideal.Hand.normed (Cert.Kernel3Ideal.Hand.stream m c (i 0).val) (argG m c (ix1 (i 1))) (i 1) := by
  funext i
  obtain ⟨r, q, rfl⟩ : ∃ (r : Fin 8192) (q : Fin 2048), i = ix2 r q := ⟨i 0, i 1, by idx_vars i⟩
  exact (normed_apply _ _ r q).trans (congrArg (fun z => Cert.Kernel3Ideal.Hand.normed z (argG m c (ix1 q)) q) (funext fun k => stream_at m c r k))

end Cert.Reference3Ideal.Hand

end
-- ==== Proof.Merge.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.WritesUnit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Pipeline (Dat Cfg Window)

/-! ## What one grid step computes from its blocks -/

/-- The product whose rows the convolution mixes, at row `n` of a block. -/
def prod (x0 : Vec Ideal S512x3072 .bf16) (n : ℕ) (k : Fin 1024) : EReal :=
  (x0 (ix2 ⟨n % 512, Nat.mod_lt _ (by decide)⟩ ⟨1024 + k.val, by omega⟩) : EReal) * x0 (ix2 ⟨n % 512, Nat.mod_lt _ (by decide)⟩ ⟨2048 + k.val, by omega⟩)

/-- The convolution's row `p` of a block, `e2` and `e1` standing for the two rows before the block. -/
def conv (x0 : Vec Ideal S512x3072 .bf16) (w : Vec Ideal S3x1024 .f32) (e2 e1 : Fin 1024 → EReal) (p : ℕ) (k : Fin 1024) : EReal :=
  (w (ix2 0 k) : EReal) * (if p = 0 then e2 k else if p = 1 then e1 k else prod x0 (p - 2) k)
    + w (ix2 1 k) * (if p = 0 then e1 k else prod x0 (p - 1) k) + w (ix2 2 k) * prod x0 p k

/-- A block's result: the three branches projected, gated and added. -/
def tile (x0 : Vec Ideal S512x3072 .bf16) (w : Vec Ideal S3x1024 .f32) (x2 x3 : Vec Ideal S512x1024 .bf16) (wa wb wc : Vec Ideal S1024x1024 .bf16) (x7 : Vec Ideal S512x3072 .bf16)
    (e2 e1 : Fin 1024 → EReal) (p : Fin 512) (q : Fin 1024) : EReal :=
  (x7 (ix2 p ⟨q.val, by omega⟩) : EReal) * (∑ k : Fin 1024, ((x0 (ix2 p ⟨k.val, by omega⟩) : EReal) * conv x0 w e2 e1 p.val k) * wa (ix2 k q))
    + x7 (ix2 p ⟨1024 + q.val, by omega⟩) * (∑ k : Fin 1024, (x2 (ix2 p k) : EReal) * wb (ix2 k q))
    + x7 (ix2 p ⟨2048 + q.val, by omega⟩) * (∑ k : Fin 1024, (x3 (ix2 p k) : EReal) * wc (ix2 k q))

/-- The 1024 columns of a block from column `o` on. -/
def cols (o : ℕ) (ho : o + 1024 ≤ 3072) (x : Vec Ideal S512x3072 .bf16) : Vec Ideal S512x1024 .bf16 := fun y => x (ix2 (y 0) ⟨o + (y 1).val, lt_of_lt_of_le (Nat.add_lt_add_left (y 1).isLt o) ho⟩)

/-- A load of 1024 columns. -/
theorem ld_cols (x : Vec Ideal S512x3072 .bf16) (o : ℕ) (ho : o + 1024 ≤ 3072) (inb) :
    View.ld x (Rect.unit (s := S512x3072) ![0, o] S512x1024.size inb) = cols o ho x := by
  funext y
  refine View.ld_unit_apply_of (S := S512x3072) x _ _ _ y (ix2 (y 0) ⟨o + (y 1).val, lt_of_lt_of_le (Nat.add_lt_add_left (y 1).isLt o) ho⟩) fun a => ?_
  fin_cases a
  · exact (Nat.zero_add _).symm
  · rfl

/-- A row of the carry. -/
def row (o : ℕ) (ho : o < 8) (x : Vec Ideal S8x1024 .f32) : Vec Ideal S1x1024 .f32 := fun y => x (ix2 ⟨o, ho⟩ (y 1))

/-- A load of one row of the carry. -/
theorem ld_row (x : Vec Ideal S8x1024 .f32) (o : ℕ) (ho : o < 8) (inb) :
    View.ld x (Rect.unit (s := S8x1024) ![o, 0] S1x1024.size inb) = row o ho x := by
  funext y
  refine View.ld_unit_apply_of (S := S8x1024) x _ _ _ y (ix2 ⟨o, ho⟩ (y 1)) fun a => ?_
  fin_cases a
  · exact (congrArg (o + ·) (Nat.lt_one_iff.mp (y 0).isLt)).symm
  · exact (Nat.zero_add _).symm

/-- The product's block, read at an element. -/
theorem pay6_apply (a b : FVec Ideal S512x1024 .bf16) (p : Fin 512) (k : Fin 1024) :
    k0_pay6 (F := Ideal) a b (ix2 p k) = (a (ix2 p k) : EReal) * b (ix2 p k) := by
  pointwise [k0_pay6]

/-- The same of a block's two thirds. -/
theorem prod_eq (x0 : Vec Ideal S512x3072 .bf16) (p : Fin 512) (k : Fin 1024) :
    k0_pay6 (F := Ideal) (cols 1024 (by decide) x0) (cols 2048 (by decide) x0) (ix2 p k) = prod x0 p.val k := by
  have e : (⟨p.val % 512, Nat.mod_lt _ (by decide)⟩ : Fin 512) = p := Fin.ext (Nat.mod_eq_of_lt p.isLt)
  refine (pay6_apply _ _ p k).trans ?_
  unfold prod
  rw [e]
  rfl

/-- The rows left in the carry. -/
theorem pay9_apply (u : FVec Ideal S512x1024 .f32) (p : Fin 2) (q : Fin 1024) : k0_pay9 (F := Ideal) u (ix2 p q) = u (ix2 ⟨510 + p.val, by omega⟩ q) := by
  pointwise [k0_pay9]

/-- The carry's zeros. -/
theorem pay5_apply (p : Fin 8) (q : Fin 1024) : k0_pay5 (F := Ideal) (ix2 p q) = (0 : EReal) := by
  pointwise [k0_pay5]

/-- Rounding the weights keeps their values. -/
theorem pay2_apply (x : Vec Ideal S1024x1024 .f32) (p q : Fin 1024) : k0_pay2 (F := Ideal) x (ix2 p q) = (x (ix2 p q) : EReal) := by
  pointwise [k0_pay2]

/-- The same of the second branch's. -/
theorem pay3_apply (x : Vec Ideal S1024x1024 .f32) (p q : Fin 1024) : k0_pay3 (F := Ideal) x (ix2 p q) = (x (ix2 p q) : EReal) := by
  pointwise [k0_pay3]

/-- The same of the third branch's. -/
theorem pay4_apply (x : Vec Ideal S1024x1024 .f32) (p q : Fin 1024) : k0_pay4 (F := Ideal) x (ix2 p q) = (x (ix2 p q) : EReal) := by
  pointwise [k0_pay4]

/-- The convolution by whole rotations, right from the third row on. -/
theorem pay7_apply (a b : FVec Ideal S512x1024 .bf16) (w : Vec Ideal S3x1024 .f32) (p : Fin 512) (k : Fin 1024) :
    k0_pay7 (F := Ideal) a b w (ix2 p k) = (w (ix2 0 k) : EReal) * k0_pay6 (F := Ideal) a b (ix2 ⟨(p.val + 512 - 2) % 512, Nat.mod_lt _ (by decide)⟩ k)
      + w (ix2 1 k) * k0_pay6 (F := Ideal) a b (ix2 ⟨(p.val + 512 - 1) % 512, Nat.mod_lt _ (by decide)⟩ k) + w (ix2 2 k) * k0_pay6 (F := Ideal) a b (ix2 p k) := by
  pointwise [k0_pay7]

/-- The first eight rows of the product. -/
theorem pay8_apply (a b : FVec Ideal S512x1024 .bf16) (p : Fin 8) (k : Fin 1024) : k0_pay8 (F := Ideal) a b (ix2 p k) = k0_pay6 (F := Ideal) a b (ix2 ⟨p.val, by omega⟩ k) := by
  pointwise [k0_pay8]

/-- A choice by whether a small number is another. -/
theorem select_eq (p n : ℕ) (hp : p < 512) (hn : n < 512) (x y : EReal) : Scalar.select (IntOp.cmpi .eq (BitVec.ofNat 32 p) (BitVec.ofNat 32 n)) x y = if p = n then x else y := by
  by_cases h : p = n
  · subst h; simp [IntOp.cmpi, Scalar.select]
  · have h' : BitVec.ofNat 32 p ≠ BitVec.ofNat 32 n := fun e => h (by have := congrArg BitVec.toNat e; simp only [BitVec.toNat_ofNat] at this; omega)
    simp only [IntOp.cmpi, Scalar.select, beq_false_of_ne h', if_neg h]
    rfl

/-- The gated convolution of a block, read at an element. -/
theorem pay10_apply (x0 : Vec Ideal S512x3072 .bf16) (w : Vec Ideal S3x1024 .f32) (c1 c0 : Vec Ideal S1x1024 .f32) (p : Fin 512) (k : Fin 1024) :
    k0_pay10 (F := Ideal) w (k0_pay7 (cols 1024 (by decide) x0) (cols 2048 (by decide) x0) w) (k0_pay8 (cols 1024 (by decide) x0) (cols 2048 (by decide) x0)) (iota .tc S8x1 32 [0] iota_S8x1_d0_w32) c1 c0 (cols 0 (by decide) x0) (ix2 p k)
      = (x0 (ix2 p ⟨k.val, by omega⟩) : EReal) * conv x0 w (fun k => c0 (ix2 0 k)) (fun k => c1 (ix2 0 k)) p.val k := by
  pointwise [k0_pay10]
  refine congrArg₂ (· * ·) (congrArg (fun z => x0 (ix2 p z)) (Fin.ext (Nat.zero_add _))) ?_
  unfold conv
  by_cases h : p.val < 8
  · rw [dif_pos h]
    have s0 := fun x y => select_eq p.val 0 p.isLt (by decide) x y
    have s1 := fun x y => select_eq p.val 1 p.isLt (by decide) x y
    rw [s0, s0, s1, pay8_apply, pay8_apply, pay8_apply, prod_eq, prod_eq, prod_eq]
    by_cases h0 : p.val = 0
    · simp only [h0, if_true]
    · by_cases h1 : p.val = 1
      · simp [h1]
      · simp only [h0, h1, if_false]
        have e2 : (p.val + 8 - 2) % 8 = p.val - 2 := by omega
        have e1 : (p.val + 8 - 1) % 8 = p.val - 1 := by omega
        simp only [e2, e1]
  · rw [dif_neg h]
    refine (pay7_apply _ _ _ _ _).trans ?_
    rw [prod_eq, prod_eq, prod_eq, if_neg (show ¬p.val = 0 by omega), if_neg (show ¬p.val = 1 by omega), if_neg (show ¬p.val = 0 by omega)]
    have e0 : 8 + (p.val - 8) = p.val := by omega
    have e2 : (p.val + 512 - 2) % 512 = p.val - 2 := by omega
    have e1 : (p.val + 512 - 1) % 512 = p.val - 1 := by omega
    simp only [e0, e2, e1]

/-- The gated sum of the branches, read at an element. -/
theorem pay1_apply (y : FVec Ideal S512x1024 .bf16) (wa : Vec Ideal S1024x1024 .bf16) (b : FVec Ideal S512x1024 .bf16) (wb : Vec Ideal S1024x1024 .bf16) (d : FVec Ideal S512x1024 .bf16) (wc : Vec Ideal S1024x1024 .bf16)
    (g0 g1 g2 : FVec Ideal S512x1024 .bf16) (p : Fin 512) (q : Fin 1024) : k0_pay1 (F := Ideal) y wa b wb d wc g0 g1 g2 (ix2 p q)
      = (g0 (ix2 p q) : EReal) * (∑ k : Fin 1024, (y (ix2 p k) : EReal) * wa (ix2 k q)) + g1 (ix2 p q) * (∑ k : Fin 1024, (b (ix2 p k) : EReal) * wb (ix2 k q)) + g2 (ix2 p q) * (∑ k : Fin 1024, (d (ix2 p k) : EReal) * wc (ix2 k q)) := by
  pointwise [k0_pay1]

/-- The block a step stores, as the payloads over its blocks. -/
def store (x0 : Vec Ideal S512x3072 .bf16) (w : Vec Ideal S3x1024 .f32) (x2 x3 : Vec Ideal S512x1024 .bf16) (wa wb wc : Vec Ideal S1024x1024 .bf16) (x7 : Vec Ideal S512x3072 .bf16)
    (c1 c0 : Vec Ideal S1x1024 .f32) : FVec Ideal S512x1024 .bf16 :=
  k0_pay1 (F := Ideal) (k0_pay10 (F := Ideal) w (k0_pay7 (cols 1024 (by decide) x0) (cols 2048 (by decide) x0) w) (k0_pay8 (cols 1024 (by decide) x0) (cols 2048 (by decide) x0)) (iota .tc S8x1 32 [0] iota_S8x1_d0_w32) c1 c0 (cols 0 (by decide) x0))
    wa x2 wb x3 wc (cols 0 (by decide) x7) (cols 1024 (by decide) x7) (cols 2048 (by decide) x7)

/-- The stored block, read at an element. -/
theorem store_apply (x0 : Vec Ideal S512x3072 .bf16) (w : Vec Ideal S3x1024 .f32) (x2 x3 : Vec Ideal S512x1024 .bf16) (wa wb wc : Vec Ideal S1024x1024 .bf16) (x7 : Vec Ideal S512x3072 .bf16)
    (c1 c0 : Vec Ideal S1x1024 .f32) (p : Fin 512) (q : Fin 1024) :
    store x0 w x2 x3 wa wb wc x7 c1 c0 (ix2 p q) = tile x0 w x2 x3 wa wb wc x7 (fun k => c0 (ix2 0 k)) (fun k => c1 (ix2 0 k)) p q := by
  refine (pay1_apply _ _ _ _ _ _ _ _ _ p q).trans ?_
  unfold tile
  refine congrArg₂ (· + ·) (congrArg₂ (· + ·) (congrArg₂ (· * ·) (congrArg (fun z => x7 (ix2 p z)) (Fin.ext (Nat.zero_add _))) (Finset.sum_congr rfl fun k _ => ?_)) rfl) rfl
  exact congrArg (· * _) (pay10_apply x0 w c1 c0 p k)

/-! ## The three cases of the body -/

/-- The zero offsets. -/
theorem hz : (![0, 0] : Fin 2 → Nat) = fun _ => 0 := funext fun a => by fin_cases a <;> rfl

/-- A load of a row of the carry after its zeros are stored. -/
theorem zero_row (v : View sig .tc .vmem S8x1024 .f32) (o : ℕ) (ho : o < 8) (inb inb') (z : Vec Ideal S8x1024 .f32) :
    v.readCov (Val := Elt Ideal) [⟨Rect.unit (s := S8x1024) ![0, 0] S8x1024.size inb', z⟩] (Rect.unit (s := S8x1024) ![o, 0] S1x1024.size inb).toLoadRect = row o ho z := by
  rw [View.readCov_eq_canon', View.canon_unit_zero (S := S8x1024) hz]
  exact ld_row z o ho inb

/-- The two rows a step leaves in the carry. -/
theorem carry_row (v : View sig .tc .vmem S8x1024 .f32) (j : v.ty.Contents (Elt Ideal)) (inb) (w : Vec Ideal S2x1024 .f32) (L : List (View.Piece (Elt Ideal) S8x1024 .f32)) (p : Fin 2) (k : Fin 1024) :
    v.read (Elt Ideal) (v.writes (Elt Ideal) j (⟨Rect.unit (s := S8x1024) ![0, 0] S2x1024.size inb, w⟩ :: L)) (ix2 ⟨p.val, by omega⟩ k) = w (ix2 p k) :=
  View.read_writes_cons_rows_of_mem (d := ![8, 1024]) v j inb w L (ix2 (⟨p.val, lt_trans p.isLt (by decide)⟩ : Fin 8) k) (ix2 p k) rfl (Nat.zero_add _).symm rfl

section Step

variable (c : Dev nD) (i : grid0.Coords) (a2 : Memref sig .tc .vmem S512x3072 .bf16) (h2 : a2.IsWhole) (a3 : Memref sig .tc .vmem S3x1024 .f32) (h3 : a3.IsWhole) (a4 : Memref sig .tc .vmem S512x1024 .bf16) (h4 : a4.IsWhole)
   (a5 : Memref sig .tc .vmem S512x1024 .bf16) (h5 : a5.IsWhole) (a6 : Memref sig .tc .vmem S1024x1024 .f32) (h6 : a6.IsWhole) (a7 : Memref sig .tc .vmem S1024x1024 .f32) (h7 : a7.IsWhole)
   (a8 : Memref sig .tc .vmem S1024x1024 .f32) (h8 : a8.IsWhole) (a9 : Memref sig .tc .vmem S512x3072 .bf16) (h9 : a9.IsWhole) (a10 : Memref sig .tc .vmem S512x1024 .bf16) (h10 : a10.IsWhole)
   (a11 : Memref sig .tc .vmem S1024x1024 .bf16) (h11 : a11.IsWhole) (a12 : Memref sig .tc .vmem S1024x1024 .bf16) (h12 : a12.IsWhole) (a13 : Memref sig .tc .vmem S1024x1024 .bf16) (h13 : a13.IsWhole)
   (a14 : Memref sig .tc .vmem S8x1024 .f32) (h14 : a14.IsWhole)
  (x0 : Vec Ideal S512x3072 .bf16) (x1 : Vec Ideal S3x1024 .f32) (x2 : Vec Ideal S512x1024 .bf16) (x3 : Vec Ideal S512x1024 .bf16) (x4 x5 x6 : Vec Ideal S1024x1024 .f32) (x7 : Vec Ideal S512x3072 .bf16)
  (s0 s1 s2 : Vec Ideal S1024x1024 .bf16) (s3 : Vec Ideal S8x1024 .f32)

/-- What the first step of a column tile stores. -/
theorem out_A (hc : cond0_0 i) (hc1 : cond0_1 i) : out0_A_8 (F := Ideal) c i a2 h2 a3 h3 a4 h4 a5 h5 a6 h6 a7 h7 a8 h8 a9 h9 a10 h10 a11 h11 a12 h12 a13 h13 a14 h14 hc hc1 x0 x1 x2 x3 x4 x5 x6 x7 = store x0 x1 x2 x3 (k0_pay2 x4) (k0_pay3 x5) (k0_pay4 x6) x7 (row 1 (by decide) (k0_pay5 (F := Ideal))) (row 0 (by decide) (k0_pay5 (F := Ideal))) := by
  unfold out0_A_8 kernelRun0_A
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  rw [View.read_writes_junk_eq_canon, View.canon_unit_zero hz]
  rfl

/-- The carry after the first step of a column tile. -/
theorem carry_A (hc : cond0_0 i) (hc1 : cond0_1 i) (p : Fin 2) (k : Fin 1024) : sout0_A_3 (F := Ideal) c i a2 h2 a3 h3 a4 h4 a5 h5 a6 h6 a7 h7 a8 h8 a9 h9 a10 h10 a11 h11 a12 h12 a13 h13 a14 h14 hc hc1 x0 x1 x2 x3 x4 x5 x6 x7 (ix2 ⟨p.val, by omega⟩ k) = prod x0 (510 + p.val) k := by
  unfold sout0_A_3 kernelRun0_A
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  exact (carry_row _ _ _ _ _ p k).trans ((pay9_apply _ p k).trans (prod_eq x0 ⟨510 + p.val, by omega⟩ k))

/-- What a step inside a sequence stores. -/
theorem out_B (hc : ¬cond0_0 i) (hc1 : ¬cond0_1 i) : out0_B_8 (F := Ideal) c i a2 h2 a3 h3 a4 h4 a5 h5 a6 h6 a7 h7 a8 h8 a9 h9 a10 h10 a11 h11 a12 h12 a13 h13 a14 h14 hc hc1 x0 x1 x2 x3 x4 x5 x6 x7 s0 s1 s2 s3 = store x0 x1 x2 x3 s0 s1 s2 x7 (row 1 (by decide) s3) (row 0 (by decide) s3) := by
  unfold out0_B_8 kernelRun0_B
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  rw [View.read_writes_junk_eq_canon, View.canon_unit_zero hz]
  rfl

/-- The carry after a step inside a sequence. -/
theorem carry_B (hc : ¬cond0_0 i) (hc1 : ¬cond0_1 i) (p : Fin 2) (k : Fin 1024) : sout0_B_3 (F := Ideal) c i a2 h2 a3 h3 a4 h4 a5 h5 a6 h6 a7 h7 a8 h8 a9 h9 a10 h10 a11 h11 a12 h12 a13 h13 a14 h14 hc hc1 x0 x1 x2 x3 x4 x5 x6 x7 s0 s1 s2 s3 (ix2 ⟨p.val, by omega⟩ k) = prod x0 (510 + p.val) k := by
  unfold sout0_B_3 kernelRun0_B
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  exact (carry_row _ _ _ _ _ p k).trans ((pay9_apply _ p k).trans (prod_eq x0 ⟨510 + p.val, by omega⟩ k))

/-- What the first step of the second sequence stores. -/
theorem out_C (hc : ¬cond0_0 i) (hc1 : cond0_1 i) : out0_C_8 (F := Ideal) c i a2 h2 a3 h3 a4 h4 a5 h5 a6 h6 a7 h7 a8 h8 a9 h9 a10 h10 a11 h11 a12 h12 a13 h13 a14 h14 hc hc1 x0 x1 x2 x3 x4 x5 x6 x7 s0 s1 s2 = store x0 x1 x2 x3 s0 s1 s2 x7 (row 1 (by decide) (k0_pay5 (F := Ideal))) (row 0 (by decide) (k0_pay5 (F := Ideal))) := by
  unfold out0_C_8 kernelRun0_C
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  rw [View.read_writes_junk_eq_canon, View.canon_unit_zero hz]
  rfl

/-- The carry after the first step of the second sequence. -/
theorem carry_C (hc : ¬cond0_0 i) (hc1 : cond0_1 i) (p : Fin 2) (k : Fin 1024) : sout0_C_3 (F := Ideal) c i a2 h2 a3 h3 a4 h4 a5 h5 a6 h6 a7 h7 a8 h8 a9 h9 a10 h10 a11 h11 a12 h12 a13 h13 a14 h14 hc hc1 x0 x1 x2 x3 x4 x5 x6 x7 s0 s1 s2 (ix2 ⟨p.val, by omega⟩ k) = prod x0 (510 + p.val) k := by
  unfold sout0_C_3 kernelRun0_C
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  exact (carry_row _ _ _ _ _ p k).trans ((pay9_apply _ p k).trans (prod_eq x0 ⟨510 + p.val, by omega⟩ k))

/-- The first step of a column tile rounds the weights of branch 0. -/
theorem sc_A0 (hc : cond0_0 i) (hc1 : cond0_1 i) : sout0_A_0 (F := Ideal) c i a2 h2 a3 h3 a4 h4 a5 h5 a6 h6 a7 h7 a8 h8 a9 h9 a10 h10 a11 h11 a12 h12 a13 h13 a14 h14 hc hc1 x0 x1 x2 x3 x4 x5 x6 x7 = k0_pay2 x4 := by
  unfold sout0_A_0 kernelRun0_A
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  rw [View.read_writes_junk_eq_canon, View.canon_unit_zero hz]

/-- The first step of a column tile rounds the weights of branch 1. -/
theorem sc_A1 (hc : cond0_0 i) (hc1 : cond0_1 i) : sout0_A_1 (F := Ideal) c i a2 h2 a3 h3 a4 h4 a5 h5 a6 h6 a7 h7 a8 h8 a9 h9 a10 h10 a11 h11 a12 h12 a13 h13 a14 h14 hc hc1 x0 x1 x2 x3 x4 x5 x6 x7 = k0_pay3 x5 := by
  unfold sout0_A_1 kernelRun0_A
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  rw [View.read_writes_junk_eq_canon, View.canon_unit_zero hz]

/-- The first step of a column tile rounds the weights of branch 2. -/
theorem sc_A2 (hc : cond0_0 i) (hc1 : cond0_1 i) : sout0_A_2 (F := Ideal) c i a2 h2 a3 h3 a4 h4 a5 h5 a6 h6 a7 h7 a8 h8 a9 h9 a10 h10 a11 h11 a12 h12 a13 h13 a14 h14 hc hc1 x0 x1 x2 x3 x4 x5 x6 x7 = k0_pay4 x6 := by
  unfold sout0_A_2 kernelRun0_A
  dsimp only
  sl_unfold_words
  simp only [View.readAt_eq_ld, h2.read_unread, h3.read_unread, h4.read_unread, h5.read_unread, h6.read_unread, h7.read_unread, h8.read_unread, h9.read_unread, h11.read_unread, h12.read_unread, h13.read_unread, h14.read_unread, View.ld_unit_zero (S := S1024x1024) hz, View.ld_unit_zero (S := S512x1024) hz, View.ld_unit_zero (S := S3x1024) hz,
    View.readCov_unit_zero (S := S1024x1024) _ hz, ld_cols _ 0 (by decide), ld_cols _ 1024 (by decide), ld_cols _ 2048 (by decide), ld_row _ 0 (by decide), ld_row _ 1 (by decide), zero_row _ 0 (by decide), zero_row _ 1 (by decide)]
  rw [View.read_writes_junk_eq_canon, View.canon_unit_zero hz]

end Step

/-! ## The arguments and the result in terms of them -/

variable (m : (ℓ : Loc nD τ sig) → Buf (Elt Ideal) ℓ)

/-- The projected activations. -/
abbrev argP (c : Dev nD) : FVec Ideal S8192x13312 .bf16 := m ((c.tc : Thread nD τ).loc main_arg0)
/-- The convolution's taps. -/
abbrev argT (c : Dev nD) : FVec Ideal S3x1024 .f32 := m ((c.tc : Thread nD τ).loc main_arg1)
/-- The forgetting attention's output. -/
abbrev argF (c : Dev nD) : FVec Ideal S2x4096x1024 .bf16 := m ((c.tc : Thread nD τ).loc main_arg2)
/-- The memory attention's output. -/
abbrev argM (c : Dev nD) : FVec Ideal S2x4096x1024 .bf16 := m ((c.tc : Thread nD τ).loc main_arg3)
/-- The convolution branch's output weights. -/
abbrev argWA (c : Dev nD) : FVec Ideal S1024x2048 .f32 := m ((c.tc : Thread nD τ).loc main_arg4)
/-- The forgetting attention's output weights. -/
abbrev argWB (c : Dev nD) : FVec Ideal S1024x2048 .f32 := m ((c.tc : Thread nD τ).loc main_arg5)
/-- The memory attention's output weights. -/
abbrev argWC (c : Dev nD) : FVec Ideal S1024x2048 .f32 := m ((c.tc : Thread nD τ).loc main_arg6)

/-- A row in range. -/
abbrev rowF (n : ℕ) : Fin 8192 := ⟨n % 8192, Nat.mod_lt _ (by decide)⟩
/-- A column of the result in range. -/
abbrev colF (n : ℕ) : Fin 2048 := ⟨n % 2048, Nat.mod_lt _ (by decide)⟩
/-- A column of the projected activations in range. -/
abbrev colP (n : ℕ) : Fin 13312 := ⟨n % 13312, Nat.mod_lt _ (by decide)⟩
/-- The sequence of a row. -/
abbrev seqF (n : ℕ) : Fin 2 := ⟨n / 4096 % 2, Nat.mod_lt _ (by decide)⟩
/-- The place of a row in its sequence. -/
abbrev posF (n : ℕ) : Fin 4096 := ⟨n % 4096, Nat.mod_lt _ (by decide)⟩

/-- The product the convolution mixes, at row `r`. -/
def up (c : Dev nD) (r : ℕ) (k : Fin 1024) : EReal :=
  (argP m c (ix2 (rowF r) (colP (7168 + k.val))) : EReal) * argP m c (ix2 (rowF r) (colP (8192 + k.val)))

/-- The causal convolution at row `r`, with zeros before each sequence. -/
def causal (c : Dev nD) (r : ℕ) (k : Fin 1024) : EReal :=
  (argT m c (ix2 0 k) : EReal) * (if r % 4096 < 2 then 0 else up m c (r - 2) k) + argT m c (ix2 1 k) * (if r % 4096 < 1 then 0 else up m c (r - 1) k) + argT m c (ix2 2 k) * up m c r k

/-- The gate of branch `b` at row `r` and column `q`. -/
def gate (c : Dev nD) (b r q : ℕ) : EReal := argP m c (ix2 (rowF r) (colP (q / 1024 * 3072 + (b * 1024 + q % 1024))))

/-- The merged branches at row `r` and column `q`. -/
def merged (c : Dev nD) (r q : ℕ) : EReal :=
  gate m c 0 r q * (∑ k : Fin 1024, ((argP m c (ix2 (rowF r) (colP (6144 + k.val))) : EReal) * causal m c r k) * argWA m c (ix2 k (colF q)))
    + gate m c 1 r q * (∑ k : Fin 1024, (argF m c (ix3 (seqF r) (posF r) k) : EReal) * argWB m c (ix2 k (colF q)))
    + gate m c 2 r q * (∑ k : Fin 1024, (argM m c (ix3 (seqF r) (posF r) k) : EReal) * argWC m c (ix2 k (colF q)))

/-- The reshaped output of the forgetting attention, read at an element. -/
theorem V_f (c : Dev nD) (r : Fin 8192) (k : Fin 1024) : V m c main_v0 (ix2 r k) = argF m c (ix3 ⟨r.val / 4096, by omega⟩ ⟨r.val % 4096, by omega⟩ k) := by
  entry_read
  pointwise

/-- The reshaped output of the memory attention, read at an element. -/
theorem V_m (c : Dev nD) (r : Fin 8192) (k : Fin 1024) : V m c main_v1 (ix2 r k) = argM m c (ix3 ⟨r.val / 4096, by omega⟩ ⟨r.val % 4096, by omega⟩ k) := by
  entry_read
  pointwise

/-! ## The blocks -/

/-- Which block of each array every grid point holds. -/
theorem idx : ∀ t : Fin cfg0.N, win0_0.index t = ![t.val % 16, 2] ∧ win0_1.index t = ![0, 0] ∧ win0_2.index t = ![t.val % 16, 0]
    ∧ win0_3.index t = ![t.val % 16, 0] ∧ win0_4.index t = ![0, t.val / 16] ∧ win0_5.index t = ![0, t.val / 16] ∧ win0_6.index t = ![0, t.val / 16]
    ∧ win0_7.index t = ![t.val % 16, t.val / 16] ∧ win0_8.index t = ![t.val % 16, t.val / 16] :=
  (by decide +kernel : ∀ t : Fin grid0.N, win0_0.index t = ![t.val % 16, 2] ∧ win0_1.index t = ![0, 0] ∧ win0_2.index t = ![t.val % 16, 0]
    ∧ win0_3.index t = ![t.val % 16, 0] ∧ win0_4.index t = ![0, t.val / 16] ∧ win0_5.index t = ![0, t.val / 16] ∧ win0_6.index t = ![0, t.val / 16]
    ∧ win0_7.index t = ![t.val % 16, t.val / 16] ∧ win0_8.index t = ![t.val % 16, t.val / 16])

/-- The block of the convolution's three parts at a point. -/
theorem blk0 (c : Dev nD) (t : Fin cfg0.N) (p : Fin 512) (l : Fin 3072) : X0_0 m c t (ix2 p l) = argP m c (ix2 (rowF (t.val % 16 * 512 + p.val)) (colP (6144 + l.val))) := by
  have e := (idx t).1
  refine (dif_pos (moved0_0 t (ix2 p l))).trans ?_
  unfold iblk; rw [View.read_apply]
  refine (congrFun (V_main_arg0 m c) _).trans (congrArg (argP m c) (funext fun a => Fin.ext ?_))
  fin_cases a
  · show win0_0.index t 0 * 512 + 1 * p.val = (t.val % 16 * 512 + p.val) % 8192
    rw [e]; show t.val % 16 * 512 + _ = _; omega
  · show win0_0.index t 1 * 3072 + 1 * l.val = (6144 + l.val) % 13312
    rw [e]; show 2 * 3072 + _ = _; omega

/-- The block of the taps, the whole of them at every point. -/
theorem blk1 (c : Dev nD) (t : Fin cfg0.N) (o : Fin 3) (k : Fin 1024) : iblk m c 1 t (ix2 o k) = argT m c (ix2 o k) := by
  have e := (idx t).2.1
  unfold iblk; rw [View.read_apply]
  refine (congrFun (V_main_arg1 m c) _).trans (congrArg (argT m c) (funext fun a => Fin.ext ?_))
  fin_cases a
  · show win0_1.index t 0 * 3 + 1 * o.val = o.val
    rw [e]; show 0 * 3 + _ = _; omega
  · show win0_1.index t 1 * 1024 + 1 * k.val = k.val
    rw [e]; show 0 * 1024 + _ = _; omega

/-- The block of the forgetting attention's output at a point. -/
theorem blk2 (c : Dev nD) (t : Fin cfg0.N) (p : Fin 512) (k : Fin 1024) : iblk m c 2 t (ix2 p k)
    = argF m c (ix3 (seqF (t.val % 16 * 512 + p.val)) (posF (t.val % 16 * 512 + p.val)) k) := by
  have e := (idx t).2.2.1
  unfold iblk; rw [View.read_apply]
  refine (congrArg (V m c main_v0) (funext fun a => Fin.ext ?_)).trans ((V_f m c ⟨t.val % 16 * 512 + p.val, by omega⟩ k).trans
    (congrArg (fun z => argF m c (ix3 z _ k)) (Fin.ext (Nat.mod_eq_of_lt (show (t.val % 16 * 512 + p.val) / 4096 < 2 by omega)).symm)))
  fin_cases a
  · show win0_2.index t 0 * 512 + 1 * p.val = t.val % 16 * 512 + p.val
    rw [e]; show t.val % 16 * 512 + _ = _; omega
  · show win0_2.index t 1 * 1024 + 1 * k.val = k.val
    rw [e]; show 0 * 1024 + _ = _; omega

/-- The block of the memory attention's output at a point. -/
theorem blk3 (c : Dev nD) (t : Fin cfg0.N) (p : Fin 512) (k : Fin 1024) : iblk m c 3 t (ix2 p k)
    = argM m c (ix3 (seqF (t.val % 16 * 512 + p.val)) (posF (t.val % 16 * 512 + p.val)) k) := by
  have e := (idx t).2.2.2.1
  unfold iblk; rw [View.read_apply]
  refine (congrArg (V m c main_v1) (funext fun a => Fin.ext ?_)).trans ((V_m m c ⟨t.val % 16 * 512 + p.val, by omega⟩ k).trans
    (congrArg (fun z => argM m c (ix3 z _ k)) (Fin.ext (Nat.mod_eq_of_lt (show (t.val % 16 * 512 + p.val) / 4096 < 2 by omega)).symm)))
  fin_cases a
  · show win0_3.index t 0 * 512 + 1 * p.val = t.val % 16 * 512 + p.val
    rw [e]; show t.val % 16 * 512 + _ = _; omega
  · show win0_3.index t 1 * 1024 + 1 * k.val = k.val
    rw [e]; show 0 * 1024 + _ = _; omega

/-- The block of the first branch's weights at a point. -/
theorem blk4 (c : Dev nD) (t : Fin cfg0.N) (k q : Fin 1024) : iblk m c 4 t (ix2 k q) = argWA m c (ix2 k (colF (t.val / 16 * 1024 + q.val))) := by
  have e := (idx t).2.2.2.2.1
  have hN : t.val < 32 := lt_of_lt_of_eq t.isLt (show cfg0.N = 32 from N_0)
  unfold iblk; rw [View.read_apply]
  refine (congrFun (V_main_arg4 m c) _).trans (congrArg (argWA m c) (funext fun a => Fin.ext ?_))
  fin_cases a
  · show win0_4.index t 0 * 1024 + 1 * k.val = k.val
    rw [e]; show 0 * 1024 + _ = _; omega
  · show win0_4.index t 1 * 1024 + 1 * q.val = (t.val / 16 * 1024 + q.val) % 2048
    rw [e]; show t.val / 16 * 1024 + _ = _; omega

/-- The block of the second branch's weights at a point. -/
theorem blk5 (c : Dev nD) (t : Fin cfg0.N) (k q : Fin 1024) : iblk m c 5 t (ix2 k q) = argWB m c (ix2 k (colF (t.val / 16 * 1024 + q.val))) := by
  have e := (idx t).2.2.2.2.2.1
  have hN : t.val < 32 := lt_of_lt_of_eq t.isLt (show cfg0.N = 32 from N_0)
  unfold iblk; rw [View.read_apply]
  refine (congrFun (V_main_arg5 m c) _).trans (congrArg (argWB m c) (funext fun a => Fin.ext ?_))
  fin_cases a
  · show win0_5.index t 0 * 1024 + 1 * k.val = k.val
    rw [e]; show 0 * 1024 + _ = _; omega
  · show win0_5.index t 1 * 1024 + 1 * q.val = (t.val / 16 * 1024 + q.val) % 2048
    rw [e]; show t.val / 16 * 1024 + _ = _; omega

/-- The block of the third branch's weights at a point. -/
theorem blk6 (c : Dev nD) (t : Fin cfg0.N) (k q : Fin 1024) : iblk m c 6 t (ix2 k q) = argWC m c (ix2 k (colF (t.val / 16 * 1024 + q.val))) := by
  have e := (idx t).2.2.2.2.2.2.1
  have hN : t.val < 32 := lt_of_lt_of_eq t.isLt (show cfg0.N = 32 from N_0)
  unfold iblk; rw [View.read_apply]
  refine (congrFun (V_main_arg6 m c) _).trans (congrArg (argWC m c) (funext fun a => Fin.ext ?_))
  fin_cases a
  · show win0_6.index t 0 * 1024 + 1 * k.val = k.val
    rw [e]; show 0 * 1024 + _ = _; omega
  · show win0_6.index t 1 * 1024 + 1 * q.val = (t.val / 16 * 1024 + q.val) % 2048
    rw [e]; show t.val / 16 * 1024 + _ = _; omega

/-- The block of the gates at a point. -/
theorem blk7 (c : Dev nD) (t : Fin cfg0.N) (p : Fin 512) (l : Fin 3072) : X0_7 m c t (ix2 p l) = argP m c (ix2 (rowF (t.val % 16 * 512 + p.val)) (colP (t.val / 16 * 3072 + l.val))) := by
  have e := (idx t).2.2.2.2.2.2.2.1
  have hN : t.val < 32 := lt_of_lt_of_eq t.isLt (show cfg0.N = 32 from N_0)
  refine (dif_pos (moved0_7 t (ix2 p l))).trans ?_
  unfold iblk; rw [View.read_apply]
  refine (congrFun (V_main_arg0 m c) _).trans (congrArg (argP m c) (funext fun a => Fin.ext ?_))
  fin_cases a
  · show win0_7.index t 0 * 512 + 1 * p.val = (t.val % 16 * 512 + p.val) % 8192
    rw [e]; show t.val % 16 * 512 + _ = _; omega
  · show win0_7.index t 1 * 3072 + 1 * l.val = (t.val / 16 * 3072 + l.val) % 13312
    rw [e]; show t.val / 16 * 3072 + _ = _; omega

/-- A block's product is the rows' product. -/
theorem prod_up (c : Dev nD) (t : Fin cfg0.N) (p : ℕ) (hp : p < 512) (k : Fin 1024) : prod (X0_0 m c t) p k = up m c (t.val % 16 * 512 + p) k := by
  have e : p % 512 = p := Nat.mod_eq_of_lt hp
  have e1 : 6144 + (1024 + k.val) = 7168 + k.val := by omega
  have e2 : 6144 + (2048 + k.val) = 8192 + k.val := by omega
  unfold prod up
  rw [blk0, blk0]
  simp only [e, e1, e2]

/-- A block's convolution is the rows' convolution, when the two rows before the block are right. -/
theorem conv_causal (c : Dev nD) (t : Fin cfg0.N) (e2 e1 : Fin 1024 → EReal)
    (h2 : ∀ k, e2 k = if t.val % 16 * 512 % 4096 = 0 then 0 else up m c (t.val % 16 * 512 - 2) k)
    (h1 : ∀ k, e1 k = if t.val % 16 * 512 % 4096 = 0 then 0 else up m c (t.val % 16 * 512 - 1) k) (p : Fin 512) (k : Fin 1024) :
    conv (X0_0 m c t) (iblk m c 1 t) e2 e1 p.val k = causal m c (t.val % 16 * 512 + p.val) k := by
  unfold conv causal
  rw [blk1, blk1, blk1, h1, h2, prod_up m c t p.val p.isLt, prod_up m c t (p.val - 2) (by omega), prod_up m c t (p.val - 1) (by omega)]
  refine congrArg₂ (· + ·) (congrArg₂ (· + ·) (congrArg (_ * ·) ?_) (congrArg (_ * ·) ?_)) rfl
  · by_cases h0 : p.val = 0
    · rw [if_pos h0, h0]
      by_cases hr : t.val % 16 * 512 % 4096 = 0
      · rw [if_pos hr, if_pos (show (t.val % 16 * 512 + 0) % 4096 < 2 by omega)]
      · rw [if_neg hr, if_neg (show ¬(t.val % 16 * 512 + 0) % 4096 < 2 by omega)]
        rfl
    · rw [if_neg h0]
      by_cases h1 : p.val = 1
      · rw [if_pos h1, h1]
        by_cases hr : t.val % 16 * 512 % 4096 = 0
        · rw [if_pos hr, if_pos (show (t.val % 16 * 512 + 1) % 4096 < 2 by omega)]
        · rw [if_neg hr, if_neg (show ¬(t.val % 16 * 512 + 1) % 4096 < 2 by omega)]
          exact congrArg (fun z => up m c z k) (by omega)
      · rw [if_neg h1, if_neg (show ¬(t.val % 16 * 512 + p.val) % 4096 < 2 by omega)]
        exact congrArg (fun z => up m c z k) (by omega)
  · by_cases h0 : p.val = 0
    · rw [if_pos h0, h0]
      by_cases hr : t.val % 16 * 512 % 4096 = 0
      · rw [if_pos hr, if_pos (show (t.val % 16 * 512 + 0) % 4096 < 1 by omega)]
      · rw [if_neg hr, if_neg (show ¬(t.val % 16 * 512 + 0) % 4096 < 1 by omega)]
        rfl
    · rw [if_neg h0, if_neg (show ¬(t.val % 16 * 512 + p.val) % 4096 < 1 by omega)]
      exact congrArg (fun z => up m c z k) (by omega)

/-- A gate's element of a block is the row's gate. -/
theorem gate_eq (c : Dev nD) (t : Fin cfg0.N) (b : ℕ) (p : Fin 512) (q : Fin 1024) (h : b * 1024 + q.val < 3072) :
    X0_7 m c t (ix2 p ⟨b * 1024 + q.val, h⟩) = gate m c b (t.val % 16 * 512 + p.val) (t.val / 16 * 1024 + q.val) := by
  refine (blk7 m c t p _).trans ?_
  unfold gate
  refine congrArg (fun z => argP m c (ix2 (rowF (t.val % 16 * 512 + p.val)) (colP z))) ?_
  show t.val / 16 * 3072 + (b * 1024 + q.val) = (t.val / 16 * 1024 + q.val) / 1024 * 3072 + (b * 1024 + (t.val / 16 * 1024 + q.val) % 1024)
  have e1 : (t.val / 16 * 1024 + q.val) / 1024 = t.val / 16 := by omega
  have e2 : (t.val / 16 * 1024 + q.val) % 1024 = q.val := by omega
  rw [e1, e2]

/-- A block's result is the merged branches', when the weights and the two rows before the block are right. -/
theorem tile_merged (c : Dev nD) (t : Fin cfg0.N) (wa wb wc : Vec Ideal S1024x1024 .bf16) (e2 e1 : Fin 1024 → EReal)
    (ha : ∀ k q : Fin 1024, wa (ix2 k q) = argWA m c (ix2 k (colF (t.val / 16 * 1024 + q.val))))
    (hb : ∀ k q : Fin 1024, wb (ix2 k q) = argWB m c (ix2 k (colF (t.val / 16 * 1024 + q.val))))
    (hc : ∀ k q : Fin 1024, wc (ix2 k q) = argWC m c (ix2 k (colF (t.val / 16 * 1024 + q.val))))
    (h2 : ∀ k, e2 k = if t.val % 16 * 512 % 4096 = 0 then 0 else up m c (t.val % 16 * 512 - 2) k)
    (h1 : ∀ k, e1 k = if t.val % 16 * 512 % 4096 = 0 then 0 else up m c (t.val % 16 * 512 - 1) k) (p : Fin 512) (q : Fin 1024) :
    tile (X0_0 m c t) (iblk m c 1 t) (iblk m c 2 t) (iblk m c 3 t) wa wb wc (X0_7 m c t) e2 e1 p q = merged m c (t.val % 16 * 512 + p.val) (t.val / 16 * 1024 + q.val) := by
  unfold tile merged
  refine congrArg₂ (· + ·) (congrArg₂ (· + ·) (congrArg₂ (· * ·) ?_ (Finset.sum_congr rfl fun k _ => ?_)) (congrArg₂ (· * ·) ?_ (Finset.sum_congr rfl fun k _ => ?_)))
    (congrArg₂ (· * ·) ?_ (Finset.sum_congr rfl fun k _ => ?_))
  · refine (congrArg (fun z => X0_7 m c t (ix2 p z)) (Fin.ext ?_)).trans (gate_eq m c t 0 p q (by omega))
    show q.val = 0 * 1024 + q.val
    omega
  · exact congrArg₂ (· * ·) (congrArg₂ (· * ·) (blk0 m c t p _) (conv_causal m c t e2 e1 h2 h1 p k)) (ha k q)
  · exact gate_eq m c t 1 p q (by omega)
  · exact congrArg₂ (· * ·) (blk2 m c t p k) (hb k q)
  · exact gate_eq m c t 2 p q (by omega)
  · exact congrArg₂ (· * ·) (blk3 m c t p k) (hc k q)

/-! ## The buffers after every point -/

/-- What the buffers hold after the first point of a column tile. -/
theorem outs_A (c : Dev nD) (t : Fin cfg0.N) (h : t.val % 16 = 0) : ∃ r : Vec Ideal S8x1024 .f32,
    outsAt0 m c t.val t.isLt = (store (X0_0 m c t) (iblk m c 1 t) (iblk m c 2 t) (iblk m c 3 t) (k0_pay2 (iblk m c 4 t)) (k0_pay3 (iblk m c 5 t)) (k0_pay4 (iblk m c 6 t)) (X0_7 m c t)
      (row 1 (by decide) (k0_pay5 (F := Ideal))) (row 0 (by decide) (k0_pay5 (F := Ideal))), k0_pay2 (iblk m c 4 t), k0_pay3 (iblk m c 5 t), k0_pay4 (iblk m c 6 t), r)
      ∧ ∀ (p : Fin 2) (k : Fin 1024), r (ix2 ⟨p.val, by omega⟩ k) = prod (X0_0 m c t) (510 + p.val) k :=
  ⟨_, (outsAt0_A m c t h (by omega)).trans (congrArg₂ Prod.mk (out_A ..) (congrArg₂ Prod.mk (sc_A0 ..) (congrArg₂ Prod.mk (sc_A1 ..) (congrArg₂ Prod.mk (sc_A2 ..) rfl)))),
    fun p k => carry_A c _ _ _ _ _ _ _ _ _ _ _ _ _ _ _ _ _ _ _ _ _ _ _ _ _ _ _ _ _ _ _ _ _ _ _ _ _ p k⟩

/-- What the buffers hold after the first point of the second sequence. -/
theorem outs_C (c : Dev nD) (t : Fin cfg0.N) (h : ¬t.val % 16 = 0) (h' : t.val % 8 = 0) (s0 s1 s2 : Vec Ideal S1024x1024 .bf16)
    (h0 : (outsAt0 m c (t.val - 1) (Nat.lt_of_le_of_lt (Nat.sub_le _ _) t.isLt)).2.1 = s0) (h1 : (outsAt0 m c (t.val - 1) (Nat.lt_of_le_of_lt (Nat.sub_le _ _) t.isLt)).2.2.1 = s1)
    (h2 : (outsAt0 m c (t.val - 1) (Nat.lt_of_le_of_lt (Nat.sub_le _ _) t.isLt)).2.2.2.1 = s2) : ∃ r : Vec Ideal S8x1024 .f32,
    outsAt0 m c t.val t.isLt = (store (X0_0 m c t) (iblk m c 1 t) (iblk m c 2 t) (iblk m c 3 t) s0 s1 s2 (X0_7 m c t)
      (row 1 (by decide) (k0_pay5 (F := Ideal))) (row 0 (by decide) (k0_pay5 (F := Ideal))), s0, s1, s2, r)
      ∧ ∀ (p : Fin 2) (k : Fin 1024), r (ix2 ⟨p.val, by omega⟩ k) = prod (X0_0 m c t) (510 + p.val) k := by
  subst h0 h1 h2
  exact ⟨_, (outsAt0_C m c t h h').trans (congrArg₂ Prod.mk (out_C ..) rfl),
    fun p k => carry_C c _ _ _ _ _ _ _ _ _ _ _ _ _ _ _ _ _ _ _ _ _ _ _ _ _ _ _ _ _ _ _ _ _ _ _ _ _ _ _ _ p k⟩

/-- What the buffers hold after a point inside a sequence. -/
theorem outs_B (c : Dev nD) (t : Fin cfg0.N) (h : ¬t.val % 16 = 0) (h' : ¬t.val % 8 = 0) (s0 s1 s2 : Vec Ideal S1024x1024 .bf16) (s3 : Vec Ideal S8x1024 .f32)
    (h0 : (outsAt0 m c (t.val - 1) (Nat.lt_of_le_of_lt (Nat.sub_le _ _) t.isLt)).2.1 = s0) (h1 : (outsAt0 m c (t.val - 1) (Nat.lt_of_le_of_lt (Nat.sub_le _ _) t.isLt)).2.2.1 = s1)
    (h2 : (outsAt0 m c (t.val - 1) (Nat.lt_of_le_of_lt (Nat.sub_le _ _) t.isLt)).2.2.2.1 = s2) (h3 : (outsAt0 m c (t.val - 1) (Nat.lt_of_le_of_lt (Nat.sub_le _ _) t.isLt)).2.2.2.2 = s3) :
    ∃ r : Vec Ideal S8x1024 .f32,
    outsAt0 m c t.val t.isLt = (store (X0_0 m c t) (iblk m c 1 t) (iblk m c 2 t) (iblk m c 3 t) s0 s1 s2 (X0_7 m c t)
      (row 1 (by decide) s3) (row 0 (by decide) s3), s0, s1, s2, r)
      ∧ ∀ (p : Fin 2) (k : Fin 1024), r (ix2 ⟨p.val, by omega⟩ k) = prod (X0_0 m c t) (510 + p.val) k := by
  subst h0 h1 h2 h3
  exact ⟨_, (outsAt0_B m c t h h').trans (congrArg₂ Prod.mk (out_B ..) rfl),
    fun p k => carry_B c _ _ _ _ _ _ _ _ _ _ _ _ _ _ _ _ _ _ _ _ _ _ _ _ _ _ _ _ _ _ _ _ _ _ _ _ _ _ _ _ _ p k⟩

/-- What holds after point `n`: the result's block is right, the scratch buffers hold the column tile's weights and the carry the block's last two rows of the product. -/
def Right (c : Dev nD) (n : ℕ) (o : Vec Ideal S512x1024 .bf16 × Vec Ideal S1024x1024 .bf16 × Vec Ideal S1024x1024 .bf16 × Vec Ideal S1024x1024 .bf16 × Vec Ideal S8x1024 .f32) : Prop :=
  (∀ (p : Fin 512) (q : Fin 1024), o.1 (ix2 p q) = merged m c (n % 16 * 512 + p.val) (n / 16 * 1024 + q.val))
    ∧ (∀ k q : Fin 1024, o.2.1 (ix2 k q) = argWA m c (ix2 k (colF (n / 16 * 1024 + q.val))))
    ∧ (∀ k q : Fin 1024, o.2.2.1 (ix2 k q) = argWB m c (ix2 k (colF (n / 16 * 1024 + q.val))))
    ∧ (∀ k q : Fin 1024, o.2.2.2.1 (ix2 k q) = argWC m c (ix2 k (colF (n / 16 * 1024 + q.val))))
    ∧ ∀ (p : Fin 2) (k : Fin 1024), o.2.2.2.2 (ix2 ⟨p.val, by omega⟩ k) = up m c (n % 16 * 512 + (510 + p.val)) k

/-- A step that finds the right weights and rows leaves them right. -/
theorem right_of (c : Dev nD) (t : Fin cfg0.N) (wa wb wc : Vec Ideal S1024x1024 .bf16) (c1 c0 : Vec Ideal S1x1024 .f32) (r : Vec Ideal S8x1024 .f32)
    (ha : ∀ k q : Fin 1024, wa (ix2 k q) = argWA m c (ix2 k (colF (t.val / 16 * 1024 + q.val))))
    (hb : ∀ k q : Fin 1024, wb (ix2 k q) = argWB m c (ix2 k (colF (t.val / 16 * 1024 + q.val))))
    (hc : ∀ k q : Fin 1024, wc (ix2 k q) = argWC m c (ix2 k (colF (t.val / 16 * 1024 + q.val))))
    (h2 : ∀ k, c0 (ix2 0 k) = if t.val % 16 * 512 % 4096 = 0 then (0 : EReal) else up m c (t.val % 16 * 512 - 2) k)
    (h1 : ∀ k, c1 (ix2 0 k) = if t.val % 16 * 512 % 4096 = 0 then (0 : EReal) else up m c (t.val % 16 * 512 - 1) k)
    (hr : ∀ (p : Fin 2) (k : Fin 1024), r (ix2 ⟨p.val, by omega⟩ k) = prod (X0_0 m c t) (510 + p.val) k) :
    Right m c t.val (store (X0_0 m c t) (iblk m c 1 t) (iblk m c 2 t) (iblk m c 3 t) wa wb wc (X0_7 m c t) c1 c0, wa, wb, wc, r) :=
  ⟨fun p q => (store_apply _ _ _ _ _ _ _ _ _ _ p q).trans (tile_merged m c t wa wb wc _ _ ha hb hc h2 h1 p q), ha, hb, hc,
    fun p k => (hr p k).trans (prod_up m c t (510 + p.val) (by omega) k)⟩

/-- The zero rows before a sequence. -/
theorem zeros (o : ℕ) (ho : o < 8) (k : Fin 1024) : row o ho (k0_pay5 (F := Ideal)) (ix2 0 k) = (0 : EReal) := pay5_apply ⟨o, ho⟩ k

/-- After every point all is right. -/
theorem right (c : Dev nD) (n : ℕ) : ∀ h : n < cfg0.N, Right m c n (outsAt0 m c n h) := by
  induction n with
  | zero =>
    intro h
    obtain ⟨r, e, hr⟩ := outs_A m c ⟨0, h⟩ (Nat.zero_mod _)
    rw [show outsAt0 m c 0 h = _ from e]
    exact right_of m c ⟨0, h⟩ _ _ _ _ _ r (fun k q => (pay2_apply _ k q).trans (blk4 m c _ k q)) (fun k q => (pay3_apply _ k q).trans (blk5 m c _ k q))
      (fun k q => (pay4_apply _ k q).trans (blk6 m c _ k q)) (fun k => (zeros ..).trans (if_pos rfl).symm) (fun k => (zeros ..).trans (if_pos rfl).symm) hr
  | succ n ih =>
    intro h
    obtain ⟨-, ia, ib, ic, ir⟩ := ih (Nat.lt_of_succ_lt h)
    have hN : n + 1 < 32 := lt_of_lt_of_eq h (show cfg0.N = 32 from N_0)
    by_cases h16 : (n + 1) % 16 = 0
    · obtain ⟨r, e, hr⟩ := outs_A m c ⟨n + 1, h⟩ h16
      have hz : (n + 1) % 16 * 512 % 4096 = 0 := by omega
      rw [show outsAt0 m c (n + 1) h = _ from e]
      exact right_of m c ⟨n + 1, h⟩ _ _ _ _ _ r (fun k q => (pay2_apply _ k q).trans (blk4 m c _ k q)) (fun k q => (pay3_apply _ k q).trans (blk5 m c _ k q))
        (fun k q => (pay4_apply _ k q).trans (blk6 m c _ k q)) (fun k => (zeros ..).trans (if_pos hz).symm) (fun k => (zeros ..).trans (if_pos hz).symm) hr
    · have hd : n / 16 = (n + 1) / 16 := by omega
      rw [hd] at ia ib ic
      by_cases h8 : (n + 1) % 8 = 0
      · obtain ⟨r, e, hr⟩ := outs_C m c ⟨n + 1, h⟩ h16 h8 _ _ _ rfl rfl rfl
        have hz : (n + 1) % 16 * 512 % 4096 = 0 := by omega
        rw [show outsAt0 m c (n + 1) h = _ from e]
        exact right_of m c ⟨n + 1, h⟩ _ _ _ _ _ r ia ib ic (fun k => (zeros ..).trans (if_pos hz).symm) (fun k => (zeros ..).trans (if_pos hz).symm) hr
      · obtain ⟨r, e, hr⟩ := outs_B m c ⟨n + 1, h⟩ h16 h8 _ _ _ _ rfl rfl rfl rfl
        have hz : ¬(n + 1) % 16 * 512 % 4096 = 0 := by omega
        rw [show outsAt0 m c (n + 1) h = _ from e]
        refine right_of m c ⟨n + 1, h⟩ _ _ _ _ _ r ia ib ic (fun k => ((ir 0 k).trans (congrArg (fun z => up m c z k) ?_)).trans (if_neg hz).symm)
          (fun k => ((ir 1 k).trans (congrArg (fun z => up m c z k) ?_)).trans (if_neg hz).symm) hr
        · show n % 16 * 512 + (510 + 0) = (n + 1) % 16 * 512 - 2
          omega
        · show n % 16 * 512 + (510 + 1) = (n + 1) % 16 * 512 - 1
          omega

/-- The result's array at the end. -/
theorem out8 (c : Dev nD) : (dats m 0 c).arrAt 8 cfg0.N = fun i : S8192x2048.Idx => merged m c (i 0).val (i 1).val := by
  refine (dats m 0 c).arrAt_eq_of_covers 8 _ (by decide +kernel) fun t hf y => ?_
  have e := (idx t).2.2.2.2.2.2.2.2
  obtain ⟨p, q, rfl⟩ : ∃ (p : Fin 512) (q : Fin 1024), y = ix2 p q := ⟨y 0, y 1, by idx_vars y⟩
  blk_simp [e]
  rw [after0_8]
  exact (right m c t.val t.isLt).1 p q

end Cert.Kernel4Ideal.Hand

namespace Cert.Reference4Ideal.Hand

open Cert.Reference4Ideal Cert.Reference4Ideal.Gen
open Idealize.ShloMosaic Idealize.ShloMosaic.TcCoe Idealize.ShloMosaic.Tactic
open Cert.Kernel4Ideal.Hand (up causal gate merged argP argT argF argM argWA argWB argWC rowF colF colP seqF posF)

/-- The projected activations by sequences. -/
def seqs (p : FVec Ideal S8192x13312 .bf16) : FVec Ideal S2x4096x13312 .f32 :=
  extf .f32 (shapeCast _ p shapeCasts_S8192x13312_S2x4096x13312) bitsLt_bf16_f32

/-- The gates by branches. -/
def gates (p : FVec Ideal S8192x13312 .bf16) : FVec Ideal S2x4096x3x2048 .f32 :=
  shapeCast _ (transpose S2x4096x3x2x1024 [0, 1, 3, 2, 4] (shapeCast _ (extractStridedSlice S2x4096x6144 ![0, 0, 0] (seqs p) slices_S2x4096x13312_S2x4096x6144_0_0_0)
    shapeCasts_S2x4096x6144_S2x4096x2x3x1024) transposes_S2x4096x2x3x1024_S2x4096x3x2x1024_0_1_3_2_4) shapeCasts_S2x4096x3x2x1024_S2x4096x3x2048

/-- The convolution's three parts. -/
def parts (p : FVec Ideal S8192x13312 .bf16) : FVec Ideal S2x4096x3072 .f32 :=
  extractStridedSlice S2x4096x3072 ![0, 0, 6144] (seqs p) slices_S2x4096x13312_S2x4096x3072_0_0_6144

/-- The product the convolution mixes, with two zero rows before each sequence. -/
def padded (p : FVec Ideal S8192x13312 .bf16) : FVec Ideal S2x4098x1024 .f32 :=
  pad S2x4098x1024 ![0, 2, 0] ![0, 0, 0] ![0, 0, 0] (mulf (extractStridedSlice S2x4096x1024 ![0, 0, 1024] (parts p) slices_S2x4096x3072_S2x4096x1024_0_0_1024)
    (extractStridedSlice S2x4096x1024 ![0, 0, 2048] (parts p) slices_S2x4096x3072_S2x4096x1024_0_0_2048)) (sitofp (F := Ideal) .f32 (constantI S_ 32 0#32)) pads_S2x4096x1024_S2x4098x1024_000_200_000 h_S_

/-- The gated convolution. -/
def mixed (p : FVec Ideal S8192x13312 .bf16) (w : FVec Ideal S3x1024 .f32) : FVec Ideal S2x4096x1024 .f32 :=
  mulf (extractStridedSlice S2x4096x1024 ![0, 0, 0] (parts p) slices_S2x4096x3072_S2x4096x1024_0_0_0) (addf (addf
    (mulf (broadcastInDim S2x4096x1024 ![0, 1, 2] bcast_S1x1x1024_S2x4096x1024_0_1_2 (broadcastInDim S1x1x1024 ![2] bcast_S1024_S1x1x1024_2 (shapeCast _ (extractStridedSlice S1x1024 ![0, 0] w slices_S3x1024_S1x1024_0_0) shapeCasts_S1x1024_S1024)))
      (extractStridedSlice S2x4096x1024 ![0, 0, 0] (padded p) slices_S2x4098x1024_S2x4096x1024_0_0_0))
    (mulf (broadcastInDim S2x4096x1024 ![0, 1, 2] bcast_S1x1x1024_S2x4096x1024_0_1_2 (broadcastInDim S1x1x1024 ![2] bcast_S1024_S1x1x1024_2 (shapeCast _ (extractStridedSlice S1x1024 ![1, 0] w slices_S3x1024_S1x1024_1_0) shapeCasts_S1x1024_S1024)))
      (extractStridedSlice S2x4096x1024 ![0, 1, 0] (padded p) slices_S2x4098x1024_S2x4096x1024_0_1_0)))
    (mulf (broadcastInDim S2x4096x1024 ![0, 1, 2] bcast_S1x1x1024_S2x4096x1024_0_1_2 (broadcastInDim S1x1x1024 ![2] bcast_S1024_S1x1x1024_2 (shapeCast _ (extractStridedSlice S1x1024 ![2, 0] w slices_S3x1024_S1x1024_2_0) shapeCasts_S1x1024_S1024)))
      (extractStridedSlice S2x4096x1024 ![0, 2, 0] (padded p) slices_S2x4098x1024_S2x4096x1024_0_2_0)))

/-- A branch's output times its gate. -/
def gated (g : FVec Ideal S2x4096x1x2048 .f32) (y : FVec Ideal S2x4096x1024 .f32) (w : FVec Ideal S1024x2048 .f32) : FVec Ideal S2x4096x2048 .f32 :=
  mulf (shapeCast _ g shapeCasts_S2x4096x1x2048_S2x4096x2048) (Host.dotGeneral dot_S2x4096x1024_S1024x2048_S2x4096x2048_2_0_01_1_n_n none y w)

/-- The reference's result. -/
def result (p : FVec Ideal S8192x13312 .bf16) (w : FVec Ideal S3x1024 .f32) (f y : FVec Ideal S2x4096x1024 .bf16) (wa wb wc : FVec Ideal S1024x2048 .f32) : FVec Ideal S8192x2048 .bf16 :=
  truncf .bf16 (shapeCast _ (addf (addf (gated (extractStridedSlice S2x4096x1x2048 ![0, 0, 0, 0] (gates p) slices_S2x4096x3x2048_S2x4096x1x2048_0_0_0_0) (mixed p w) wa)
      (gated (extractStridedSlice S2x4096x1x2048 ![0, 0, 1, 0] (gates p) slices_S2x4096x3x2048_S2x4096x1x2048_0_0_1_0) (extf .f32 f bitsLt_bf16_f32) wb))
      (gated (extractStridedSlice S2x4096x1x2048 ![0, 0, 2, 0] (gates p) slices_S2x4096x3x2048_S2x4096x1x2048_0_0_2_0) (extf .f32 y bitsLt_bf16_f32) wc))
    shapeCasts_S2x4096x2048_S8192x2048) bitsLt_bf16_f32

/-- The run leaves this result. -/
theorem res_eq (m : (ℓ : Loc nD τ sig) → Buf (Elt Ideal) ℓ) (c : Dev nD) :
    Cert.Reference4Ideal.Value.res_out0 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-- The activations by sequences, read at an element. -/
theorem seqs_apply (p : FVec Ideal S8192x13312 .bf16) (b : Fin 2) (s : Fin 4096) (q : Fin 13312) : seqs p (ix3 b s q) = p (ix2 ⟨b.val * 4096 + s.val, by omega⟩ q) := by
  pointwise [seqs]

/-- The parts, read at an element. -/
theorem parts_apply (p : FVec Ideal S8192x13312 .bf16) (b : Fin 2) (s : Fin 4096) (q : Fin 3072) : parts p (ix3 b s q) = seqs p (ix3 b s ⟨6144 + q.val, by omega⟩) := by
  pointwise [parts]

/-- The gates, read at an element. -/
theorem gates_apply (p : FVec Ideal S8192x13312 .bf16) (b : Fin 2) (s : Fin 4096) (o : Fin 3) (q : Fin 2048) :
    gates p (ix4 b s o q) = seqs p (ix3 b s ⟨q.val / 1024 * 3072 + (o.val * 1024 + q.val % 1024), by omega⟩) := by
  pointwise [gates]
  exact congrArg (fun z => seqs p (ix3 b s z)) (Fin.ext (Nat.add_assoc _ _ _))

/-- The integer zero as a float is zero. -/
theorem sitofp_zero : (FloatOps.sitofp (F := Ideal) FTy.f32 0#32 : EReal) = 0 := by
  show (((0#32 : BitVec 32).toInt : ℝ) : EReal) = 0
  simp

/-- The padded product, read at an element. -/
theorem padded_apply (p : FVec Ideal S8192x13312 .bf16) (b : Fin 2) (s : Fin 4098) (k : Fin 1024) :
    padded p (ix3 b s k) = if h : 2 ≤ s.val then (seqs p (ix3 b ⟨s.val - 2, by omega⟩ ⟨7168 + k.val, by omega⟩) : EReal) * seqs p (ix3 b ⟨s.val - 2, by omega⟩ ⟨8192 + k.val, by omega⟩) else 0 := by
  pointwise [padded]
  by_cases h : 2 ≤ s.val
  · rw [dif_pos h, dif_pos ⟨h, by omega⟩, parts_apply, parts_apply]
    exact congrArg₂ (fun y z => (seqs p (ix3 b _ y) : EReal) * seqs p (ix3 b _ z)) (Fin.ext (Nat.add_assoc 6144 1024 _).symm) (Fin.ext (Nat.add_assoc 6144 2048 _).symm)
  · rw [dif_neg h, dif_neg (fun h' => h h'.1)]
    exact sitofp_zero

/-- The gated convolution, read at an element. -/
theorem mixed_apply (p : FVec Ideal S8192x13312 .bf16) (w : FVec Ideal S3x1024 .f32) (b : Fin 2) (s : Fin 4096) (k : Fin 1024) :
    mixed p w (ix3 b s k) = (seqs p (ix3 b s ⟨6144 + k.val, by omega⟩) : EReal) * ((w (ix2 0 k) : EReal) * padded p (ix3 b ⟨s.val, by omega⟩ k)
      + w (ix2 1 k) * padded p (ix3 b ⟨1 + s.val, by omega⟩ k) + w (ix2 2 k) * padded p (ix3 b ⟨2 + s.val, by omega⟩ k)) := by
  pointwise [mixed]
  exact congrArg (fun z : EReal => z * _) (parts_apply p b s ⟨k.val, by omega⟩)

/-- A branch, read at an element. -/
theorem gated_apply (g : FVec Ideal S2x4096x1x2048 .f32) (y : FVec Ideal S2x4096x1024 .f32) (w : FVec Ideal S1024x2048 .f32) (b : Fin 2) (s : Fin 4096) (q : Fin 2048) :
    gated g y w (ix3 b s q) = (g (ix4 b s 0 q) : EReal) * ∑ k : Fin 1024, (y (ix3 b s k) : EReal) * w (ix2 k q) := by
  pointwise [gated]

/-- The result, read at an element. -/
theorem result_apply (p : FVec Ideal S8192x13312 .bf16) (w : FVec Ideal S3x1024 .f32) (f y : FVec Ideal S2x4096x1024 .bf16) (wa wb wc : FVec Ideal S1024x2048 .f32) (r : Fin 8192) (q : Fin 2048) :
    result p w f y wa wb wc (ix2 r q)
      = (gates p (ix4 ⟨r.val / 4096, by omega⟩ ⟨r.val % 4096, by omega⟩ 0 q) : EReal) * (∑ k : Fin 1024, (mixed p w (ix3 ⟨r.val / 4096, by omega⟩ ⟨r.val % 4096, by omega⟩ k) : EReal) * wa (ix2 k q))
        + (gates p (ix4 ⟨r.val / 4096, by omega⟩ ⟨r.val % 4096, by omega⟩ 1 q) : EReal) * (∑ k : Fin 1024, (f (ix3 ⟨r.val / 4096, by omega⟩ ⟨r.val % 4096, by omega⟩ k) : EReal) * wb (ix2 k q))
        + (gates p (ix4 ⟨r.val / 4096, by omega⟩ ⟨r.val % 4096, by omega⟩ 2 q) : EReal) * (∑ k : Fin 1024, (y (ix3 ⟨r.val / 4096, by omega⟩ ⟨r.val % 4096, by omega⟩ k) : EReal) * wc (ix2 k q)) := by
  pointwise [result]
  rw [gated_apply, gated_apply, gated_apply]
  refine congrArg₂ (· + ·) (congrArg₂ (· + ·) (congrArg (· * _) ?_) (congrArg₂ (· * ·) ?_ ?_)) (congrArg₂ (· * ·) ?_ ?_) <;> pointwise

/-- The reference's result is the merged branches. -/
theorem result_eq (m : (ℓ : Loc Cert.Kernel4Ideal.nD Cert.Kernel4Ideal.τ Cert.Kernel4Ideal.sig) → Buf (Elt Ideal) ℓ) (c : Dev Cert.Kernel4Ideal.nD) :
    result (argP m c) (argT m c) (argF m c) (argM m c) (argWA m c) (argWB m c) (argWC m c) = fun i : S8192x2048.Idx => merged m c (i 0).val (i 1).val := by
  funext i
  obtain ⟨r, q, rfl⟩ : ∃ (r : Fin 8192) (q : Fin 2048), i = ix2 r q := ⟨i 0, i 1, by idx_vars i⟩
  refine (result_apply _ _ _ _ _ _ _ r q).trans ?_
  show _ = merged m c r.val q.val
  have hg : ∀ o : Fin 3, (gates (argP m c) (ix4 ⟨r.val / 4096, by omega⟩ ⟨r.val % 4096, by omega⟩ o q) : EReal) = gate m c o.val r.val q.val := fun o => by
    rw [gates_apply, seqs_apply]
    exact congrArg₂ (fun y z => argP m c (ix2 y z)) (Fin.ext (by show r.val / 4096 * 4096 + r.val % 4096 = r.val % 8192; omega))
      (Fin.ext (by show q.val / 1024 * 3072 + (o.val * 1024 + q.val % 1024) = (q.val / 1024 * 3072 + (o.val * 1024 + q.val % 1024)) % 13312; omega))
  have hs : ∀ (b : Fin 2) (s : Fin 4096) (z : Fin 13312) (n l : ℕ) (hn : b.val * 4096 + s.val = n % 8192) (hl : z.val = l % 13312),
      (seqs (argP m c) (ix3 b s z) : EReal) = argP m c (ix2 (rowF n) (colP l)) := fun b s z n l hn hl =>
    (seqs_apply _ b s z).trans (congrArg₂ (fun y z => argP m c (ix2 y z)) (Fin.ext hn) (Fin.ext hl))
  have hp : ∀ (s : Fin 4098) (n j : ℕ) (k : Fin 1024) (hj : s.val = r.val % 4096 + 2 - j) (hj2 : j ≤ 2) (hn : n = r.val - j),
      (padded (argP m c) (ix3 ⟨r.val / 4096, by omega⟩ s k) : EReal) = if r.val % 4096 < j then 0 else up m c n k := fun s n j k hj hj2 hn => by
    rw [padded_apply]
    by_cases h : r.val % 4096 < j
    · rw [if_pos h, dif_neg (by omega)]
    · rw [if_neg h, dif_pos (by omega)]
      refine congrArg₂ (· * ·) (hs _ _ _ n (7168 + k.val) ?_ ?_) (hs _ _ _ n (8192 + k.val) ?_ ?_)
      · show r.val / 4096 * 4096 + (s.val - 2) = n % 8192
        omega
      · show 7168 + k.val = (7168 + k.val) % 13312
        omega
      · show r.val / 4096 * 4096 + (s.val - 2) = n % 8192
        omega
      · show 8192 + k.val = (8192 + k.val) % 13312
        omega
  have hm : ∀ k : Fin 1024, (mixed (argP m c) (argT m c) (ix3 ⟨r.val / 4096, by omega⟩ ⟨r.val % 4096, by omega⟩ k) : EReal)
      = (argP m c (ix2 (rowF r.val) (colP (6144 + k.val))) : EReal) * causal m c r.val k := fun k => by
    refine (mixed_apply _ _ _ _ k).trans (congrArg₂ (· * ·) (hs _ _ _ r.val (6144 + k.val) ?_ ?_) (congrArg₂ (· + ·) (congrArg₂ (· + ·) (congrArg (_ * ·) (hp _ _ 2 k ?_ (by omega) rfl))
      (congrArg (_ * ·) (hp _ _ 1 k ?_ (by omega) rfl))) (congrArg (_ * ·) ((hp _ r.val 0 k ?_ (by omega) rfl).trans (if_neg (Nat.not_lt_zero _))))))
    · show r.val / 4096 * 4096 + r.val % 4096 = r.val % 8192
      omega
    · show 6144 + k.val = (6144 + k.val) % 13312
      omega
    · show r.val % 4096 = r.val % 4096 + 2 - 2
      omega
    · show 1 + r.val % 4096 = r.val % 4096 + 2 - 1
      omega
    · show 2 + r.val % 4096 = r.val % 4096 + 2 - 0
      omega
  have hq : (q : Fin 2048) = colF q.val := Fin.ext (Nat.mod_eq_of_lt q.isLt).symm
  have hb : (⟨r.val / 4096, by omega⟩ : Fin 2) = seqF r.val := Fin.ext (Nat.mod_eq_of_lt (show r.val / 4096 < 2 by omega)).symm
  unfold merged
  refine congrArg₂ (· + ·) (congrArg₂ (· + ·) (congrArg₂ (· * ·) (hg 0) (Finset.sum_congr rfl fun k _ => congrArg₂ (· * ·) (hm k) (congrArg (fun z => argWA m c (ix2 k z)) hq)))
    (congrArg₂ (· * ·) (hg 1) (Finset.sum_congr rfl fun k _ => congrArg₂ (· * ·) (congrArg (fun z => argF m c (ix3 z _ k)) hb) (congrArg (fun z => argWB m c (ix2 k z)) hq))))
    (congrArg₂ (· * ·) (hg 2) (Finset.sum_congr rfl fun k _ => congrArg₂ (· * ·) (congrArg (fun z => argM m c (ix3 z _ k)) hb) (congrArg (fun z => argWC m c (ix2 k z)) hq)))

end Cert.Reference4Ideal.Hand

end
-- ==== Proof.Norm.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Pipeline (Dat Cfg Window)

/-! ## What one grid step leaves -/

/-- The zero offsets. -/
theorem hz : (![0, 0] : Fin 2 → Nat) = fun _ => 0 := funext fun a => by fin_cases a <;> rfl

/-- The norm of a row of numbers, each scaled by its gain. -/
def normed (z g : Fin 2048 → EReal) (k : Fin 2048) : EReal :=
  z k * Ideal.rsqrt (Ideal.div (∑ l : Fin 2048, z l * z l) (Ideal.ofBits .f32 0x45000000#32) + Ideal.ofBits .f32 0x358637BD#32) * g k

/-- The norm of 256 rows, read at an element. -/
theorem pay9_apply (x : Vec Ideal S1x256x2048 .f32) (g : Vec Ideal S1x2048 .f32) (p : Fin 256) (k : Fin 2048) :
    k0_pay9 (F := Ideal) x g (ix3 0 p k) = normed (fun k => x (ix3 0 p k)) (fun k => g (ix2 0 k)) k := by
  unfold normed
  pointwise [k0_pay9, k0_pay8]

/-- The norm of every row of a block. -/
def block (x0 : Vec Ideal S1x1024x2048 .f32) (x1 : Vec Ideal S1x2048 .f32) : Vec Ideal S1x1024x2048 .bf16 := fun z =>
  normed (fun k => x0 (ix3 0 (z 1) k)) (fun k => x1 (ix2 0 k)) (z 2)

/-- Each store of 256 rows is its part of the block. -/
theorem piece (x0 : Vec Ideal S1x1024x2048 .f32) (x1 : Vec Ideal S1x2048 .f32) (h : Fin 4) (i0 : ∀ a, (![0, h.val * 256, 0] : Fin 3 → ℕ) a + S1x256x2048.size a ≤ S1x1024x2048.size a)
    (y : S1x256x2048.Idx) :
    k0_pay9 (F := Ideal) (View.ld x0 (Rect.unit (s := S1x1024x2048) ![0, h.val * 256, 0] S1x256x2048.size i0)) x1 y
      = block x0 x1 ((Rect.unit (s := S1x1024x2048) ![0, h.val * 256, 0] S1x256x2048.size i0).emb y) := by
  obtain ⟨p, k, rfl⟩ : ∃ (p : Fin 256) (k : Fin 2048), y = ix3 0 p k := ⟨y 1, y 2, by idx_vars y; obtain rfl : y0 = 0 := Subsingleton.elim _ _; rfl⟩
  refine (pay9_apply _ _ p k).trans ?_
  have e1 : (Rect.unit (s := S1x1024x2048) ![0, h.val * 256, 0] S1x256x2048.size i0).emb (ix3 0 p k) 1 = (⟨h.val * 256 + p.val, by omega⟩ : Fin 1024) :=
    Fin.ext (by show h.val * 256 + 1 * p.val = h.val * 256 + p.val; omega)
  have e2 : (Rect.unit (s := S1x1024x2048) ![0, h.val * 256, 0] S1x256x2048.size i0).emb (ix3 0 p k) 2 = k := Fin.ext (by show 0 + 1 * k.val = k.val; omega)
  unfold block
  rw [e1, e2]
  refine congr (congr (congrArg normed (funext fun l => ?_)) rfl) rfl
  refine congrArg x0 (funext fun a => Fin.ext ?_)
  fin_cases a
  · rfl
  · show h.val * 256 + 1 * p.val = h.val * 256 + p.val
    omega
  · show 0 + 1 * l.val = l.val
    omega

section Step

variable (c : Dev nD) (i : grid0.Coords) (a2 : Memref sig .tc .vmem S1x1024x2048 .f32) (h2 : a2.IsWhole) (a3 : Memref sig .tc .vmem S1x2048 .f32) (h3 : a3.IsWhole)
  (a4 : Memref sig .tc .vmem S8x2048 .f32) (h4 : a4.IsWhole) (a5 : Memref sig .tc .vmem S1x128 .f32) (h5 : a5.IsWhole) (a6 : Memref sig .tc .vmem S128x1024 .bf16) (h6 : a6.IsWhole)
  (a7 : Memref sig .tc .vmem S1x1024x2048 .bf16) (h7 : a7.IsWhole) (a8 : Memref sig .tc .vmem S1x1024x128 .bf16) (h8 : a8.IsWhole)
  (a9 : Memref sig .tc .vmem S1x1024x1024 .bf16) (h9 : a9.IsWhole) (a10 : Memref sig .tc .vmem S8x128 .f32) (h10 : a10.IsWhole)
  (x0 : Vec Ideal S1x1024x2048 .f32) (x1 : Vec Ideal S1x2048 .f32) (x2 : Vec Ideal S8x2048 .f32) (x3 : Vec Ideal S1x128 .f32) (x4 : Vec Ideal S128x1024 .bf16) (s : Vec Ideal S8x128 .f32)

/-- A sequence's first step leaves the norm of its rows. -/
theorem out_A (hc : cond0_0 i) : out0_A_5 (F := Ideal) c i a2 h2 a3 h3 a4 h4 a5 h5 a6 h6 a7 h7 a8 h8 a9 h9 a10 h10 hc x0 x1 x2 x3 x4 = block x0 x1 := by
  unfold out0_A_5
  rw [View.read_writes_junk_eq_canon]
  funext y
  refine View.canon_apply_of_pieces (block x0 x1) _ ?_ y (cover0_A_5 (F := Ideal) c i a2 h2 a3 h3 a4 h4 a5 h5 a6 h6 a7 h7 a8 h8 a9 h9 a10 h10 hc x0 x1 x2 x3 x4 y)
  unfold kernelRun0_A
  dsimp only
  sl_unfold_words
  simp only [View.readAt_eq_ld, h2.read_unread, h3.read_unread, View.ld_unit_zero (S := S1x2048) hz]
  intro q hq x
  simp only [List.mem_cons, List.not_mem_nil, or_false] at hq
  rcases hq with rfl | rfl | rfl | rfl
  · exact piece x0 x1 3 _ x
  · exact piece x0 x1 2 _ x
  · exact piece x0 x1 1 _ x
  · exact piece x0 x1 0 _ x

/-- A later step too. -/
theorem out_B (hc : ¬cond0_0 i) : out0_B_5 (F := Ideal) c i a2 h2 a3 h3 a4 h4 a5 h5 a6 h6 a7 h7 a8 h8 a9 h9 a10 h10 hc x0 x1 x2 x3 x4 s = block x0 x1 := by
  unfold out0_B_5
  rw [View.read_writes_junk_eq_canon]
  funext y
  refine View.canon_apply_of_pieces (block x0 x1) _ ?_ y (cover0_B_5 (F := Ideal) c i a2 h2 a3 h3 a4 h4 a5 h5 a6 h6 a7 h7 a8 h8 a9 h9 a10 h10 hc x0 x1 x2 x3 x4 s y)
  unfold kernelRun0_B
  dsimp only
  sl_unfold_words
  simp only [View.readAt_eq_ld, h2.read_unread, h3.read_unread, View.ld_unit_zero (S := S1x2048) hz]
  intro q hq x
  simp only [List.mem_cons, List.not_mem_nil, or_false] at hq
  rcases hq with rfl | rfl | rfl | rfl
  · exact piece x0 x1 3 _ x
  · exact piece x0 x1 2 _ x
  · exact piece x0 x1 1 _ x
  · exact piece x0 x1 0 _ x

end Step

/-! ## The arguments and the result in terms of them -/

variable (m : (ℓ : Loc nD τ sig) → Buf (Elt Ideal) ℓ)

/-- The residual stream. -/
abbrev argX (c : Dev nD) : FVec Ideal S2x4096x2048 .f32 := m ((c.tc : Thread nD τ).loc main_arg0)
/-- The gains of its norm. -/
abbrev argG (c : Dev nD) : FVec Ideal S2048 .f32 := m ((c.tc : Thread nD τ).loc main_arg1)

/-- The norm of the residual stream at sequence `b`, place `s` and column `k`. -/
def stream (X : FVec Ideal S2x4096x2048 .f32) (G : FVec Ideal S2048 .f32) (b : Fin 2) (s : Fin 4096) (k : Fin 2048) : EReal :=
  normed (fun k => X (ix3 b s k)) (fun k => G (ix1 k)) k

/-- The gains as a row, read at an element. -/
theorem V_g (c : Dev nD) (k : Fin 2048) : V m c main_v2 (ix2 0 k) = argG m c (ix1 k) := by
  simp only [V, List.flatten_cons, List.flatten_nil, List.append_nil, hostOps0, hostOps0_1, hostOps0_2, List.cons_append, List.nil_append]
  entry_read
  pointwise

/-- Which block of each array every grid point holds. -/
theorem idx : ∀ t : Fin cfg0.N, win0_0.index t = ![t.val / 4, t.val % 4, 0] ∧ win0_1.index t = ![0, 0] ∧ win0_5.index t = ![t.val / 4, t.val % 4, 0] :=
  (by decide +kernel : ∀ t : Fin grid0.N, win0_0.index t = ![t.val / 4, t.val % 4, 0] ∧ win0_1.index t = ![0, 0] ∧ win0_5.index t = ![t.val / 4, t.val % 4, 0])

/-- There are eight points. -/
theorem lt8 (t : Fin cfg0.N) : t.val < 8 := lt_of_lt_of_eq t.isLt (show cfg0.N = 8 from N_0)

/-- The block of the residual stream at a point. -/
theorem blk0 (c : Dev nD) (t : Fin cfg0.N) (p : Fin 1024) (l : Fin 2048) :
    iblk m c 0 t (ix3 0 p l) = argX m c (ix3 ⟨t.val / 4, by have := lt8 t; omega⟩ ⟨t.val % 4 * 1024 + p.val, by omega⟩ l) := by
  have e := (idx t).1
  unfold iblk; rw [View.read_apply]
  refine (congrFun (V_main_arg0 m c) _).trans (congrArg (argX m c) (funext fun a => Fin.ext ?_))
  fin_cases a
  · show win0_0.index t 0 * 1 + 1 * 0 = t.val / 4
    rw [e]; show t.val / 4 * 1 + _ = _; omega
  · show win0_0.index t 1 * 1024 + 1 * p.val = t.val % 4 * 1024 + p.val
    rw [e]; show t.val % 4 * 1024 + _ = _; omega
  · show win0_0.index t 2 * 2048 + 1 * l.val = l.val
    rw [e]; show 0 * 2048 + _ = _; omega

/-- The block of gains at a point. -/
theorem blk1 (c : Dev nD) (t : Fin cfg0.N) (k : Fin 2048) : iblk m c 1 t (ix2 0 k) = argG m c (ix1 k) := by
  have e := (idx t).2.1
  unfold iblk; rw [View.read_apply]
  refine (congrArg (V m c main_v2) (funext fun a => Fin.ext ?_)).trans (V_g m c k)
  fin_cases a
  · show win0_1.index t 0 * 1 + 1 * 0 = 0
    rw [e]; rfl
  · show win0_1.index t 1 * 2048 + 1 * k.val = k.val
    rw [e]; show 0 * 2048 + _ = _; omega

/-- After every point the result's block is the norm of its rows. -/
theorem after_eq (c : Dev nD) (t : Fin cfg0.N) : (outsAt0 m c t.val t.isLt).1 = block (iblk m c 0 t) (iblk m c 1 t) := by
  by_cases h0 : t.val % 4 = 0
  · rw [outsAt0_A m c t h0]
    dsimp only
    rw [out_A]
  · rw [outsAt0_B m c t h0]
    dsimp only
    rw [out_B]

/-- The result's block after a point, read at an element. -/
theorem step_eq (c : Dev nD) (t : Fin cfg0.N) (p : Fin 1024) (k : Fin 2048) : (outsAt0 m c t.val t.isLt).1 (ix3 0 p k)
    = stream (argX m c) (argG m c) ⟨t.val / 4, by have := lt8 t; omega⟩ ⟨t.val % 4 * 1024 + p.val, by omega⟩ k := by
  refine (congrFun (after_eq m c t) _).trans ?_
  show normed (fun k => iblk m c 0 t (ix3 0 p k)) (fun k => iblk m c 1 t (ix2 0 k)) k = _
  unfold stream
  simp only [blk0, blk1]

/-- The result's array at the end. -/
theorem out5 (c : Dev nD) : (dats m 0 c).arrAt 5 cfg0.N = fun i : S2x4096x2048.Idx => stream (argX m c) (argG m c) (i 0) (i 1) (i 2) := by
  refine (dats m 0 c).arrAt_eq_of_covers 5 _ (by decide +kernel) fun t hf y => ?_
  have e := (idx t).2.2
  obtain ⟨p, q, rfl⟩ : ∃ (p : Fin 1024) (q : Fin 2048), y = ix3 0 p q := ⟨y 1, y 2, by idx_vars y; obtain rfl : y0 = 0 := Subsingleton.elim _ _; rfl⟩
  blk_simp [e]
  rw [after0_5]
  refine (step_eq m c t p q).trans ?_
  have e0 : (win0_5.blk t).view.emb (ix3 0 p q) 0 = (⟨t.val / 4, by have := lt8 t; omega⟩ : Fin 2) := Fin.ext (by
    show win0_5.index t 0 * 1 + 1 * 0 = t.val / 4
    rw [e]; show t.val / 4 * 1 + _ = _; omega)
  have e1 : (win0_5.blk t).view.emb (ix3 0 p q) 1 = (⟨t.val % 4 * 1024 + p.val, by omega⟩ : Fin 4096) := Fin.ext (by
    show win0_5.index t 1 * 1024 + 1 * p.val = t.val % 4 * 1024 + p.val
    rw [e]; show t.val % 4 * 1024 + _ = _; omega)
  have e2 : (win0_5.blk t).view.emb (ix3 0 p q) 2 = (q : Fin 2048) := Fin.ext (by
    show win0_5.index t 2 * 2048 + 1 * q.val = q.val
    rw [e]; show 0 * 2048 + _ = _; omega)
  rw [e0, e1, e2]

end Cert.Kernel7Ideal.Hand

namespace Cert.Reference7Ideal.Hand

open Cert.Reference7Ideal Cert.Reference7Ideal.Gen
open Idealize.ShloMosaic Idealize.ShloMosaic.TcCoe Idealize.ShloMosaic.Tactic
open Cert.Kernel7Ideal.Hand (stream)

/-- The reference's norm. -/
def result (x : FVec Ideal S2x4096x2048 .f32) (g : FVec Ideal S2048 .f32) : FVec Ideal S2x4096x2048 .bf16 :=
  truncf .bf16 (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1
    (Host.reduceAdd (mulf x x) (constant S_ .f32 0x00000000#32) reducesTo_S2x4096x2048_S2x4096_d2 h_S_)) (broadcastInDim S2x4096x1 ![] bcast_S_S2x4096x1 (constant S_ .f32 0x45000000#32)))
    (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))) bitsLt_bf16_f32

/-- The reference's norm, read at an element. -/
theorem result_apply (x : FVec Ideal S2x4096x2048 .f32) (g : FVec Ideal S2048 .f32) (b : Fin 2) (s : Fin 4096) (k : Fin 2048) : result x g (ix3 b s k) = stream x g b s k := by
  unfold stream Cert.Kernel7Ideal.Hand.normed
  pointwise [result]

/-- The reference's norm is the kernel's. -/
theorem result_eq (x : FVec Ideal S2x4096x2048 .f32) (g : FVec Ideal S2048 .f32) : result x g = fun i => stream x g (i 0) (i 1) (i 2) := by
  funext i
  obtain ⟨b, s, k, rfl⟩ : ∃ (b : Fin 2) (s : Fin 4096) (k : Fin 2048), i = ix3 b s k := ⟨i 0, i 1, i 2, by idx_vars i⟩
  exact result_apply x g b s k

end Cert.Reference7Ideal.Hand

end
-- ==== Proof.MemKv.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Pipeline (Dat Cfg Window)

/-! ## The norms and the projection -/

/-- The zero offsets. -/
theorem hz : (![0, 0] : Fin 2 → Nat) = fun _ => 0 := funext fun a => by fin_cases a <;> rfl

/-- The norm of a row of numbers, each scaled by its gain. -/
def normed (z g : Fin 2048 → EReal) (k : Fin 2048) : EReal :=
  z k * Ideal.rsqrt (Ideal.div (∑ l : Fin 2048, z l * z l) (Ideal.ofBits .f32 0x45000000#32) + Ideal.ofBits .f32 0x358637BD#32) * g k

/-- The norm of one head's numbers, scaled by a gain. -/
def headNormed (z : Fin 256 → EReal) (g : EReal) (d : Fin 256) : EReal :=
  z d * Ideal.rsqrt (Ideal.div (∑ l : Fin 256, z l * z l) (Ideal.ofBits .f32 0x43800000#32) + Ideal.ofBits .f32 0x358637BD#32) * g

/-- The projection's block, read at an element. -/
theorem pay1_apply (x0 : Vec Ideal S512x2048 .f32) (x1 : Vec Ideal S1x2048 .f32) (x2 : Vec Ideal S2048x1024 .f32) (p : Fin 512) (q : Fin 1024) :
    k0_pay1 (F := Ideal) x0 x1 x2 (ix2 p q) = ∑ k : Fin 2048, normed (fun k => x0 (ix2 p k)) (fun k => x1 (ix2 0 k)) k * x2 (ix2 k q) := by
  unfold normed
  pointwise [k0_pay1]

/-- One head's normed columns, which begin at column `o`. -/
def head (o : ℕ) (ha : S512x1024.Slices ![0, o] S512x256) (hg : S1x1024.Slices ![0, o] S1x256) (a : FVec Ideal S512x1024 .f32) (g : FVec Ideal S1x1024 .f32) : FVec Ideal S512x256 .bf16 :=
  have z : FVec Ideal S512x256 .f32 := extractStridedSlice S512x256 ![0, o] a ha
  truncf .bf16 (mulf (mulf z (broadcastTo S512x256 (rsqrt (addf (divf (shapeCast S512x1 (multiReduction .add [1] S512 (mulf z z) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256))
    (broadcastTo S512x256 (extractStridedSlice S1x256 ![0, o] (shapeCast S1x1024 g shapeCasts_S1x1024_S1x1024) hg) broadcasts_S1x256_S512x256)) bitsLt_bf16_f32

/-- A head's columns, read at an element. -/
theorem head_apply (o : ℕ) (ho : o + 256 ≤ 1024) (ha : S512x1024.Slices ![0, o] S512x256) (hg : S1x1024.Slices ![0, o] S1x256) (a : FVec Ideal S512x1024 .f32) (g : FVec Ideal S1x1024 .f32)
    (p : Fin 512) (d : Fin 256) : head o ha hg a g (ix2 p d) = headNormed (fun d => a (ix2 p ⟨o + d.val, by omega⟩)) (g (ix2 0 ⟨o + d.val, by omega⟩)) d := by
  unfold headNormed
  pointwise [head]

/-! ## What each grid step leaves -/

section Step

variable (c : Dev nD) (i : grid0.Coords) (a1 : Memref sig .tc .vmem S512x2048 .f32) (h1 : a1.IsWhole) (a2 : Memref sig .tc .vmem S1x2048 .f32) (h2 : a2.IsWhole)
  (a3 : Memref sig .tc .vmem S2048x1024 .f32) (h3 : a3.IsWhole) (a4 : Memref sig .tc .vmem S1x1024 .f32) (h4 : a4.IsWhole)
  (a5 : Memref sig .tc .vmem S512x1024 .bf16) (h5 : a5.IsWhole)
  (x0 : Vec Ideal S512x2048 .f32) (x1 : Vec Ideal S1x2048 .f32) (x2 : Vec Ideal S2048x1024 .f32) (x3 : Vec Ideal S1x1024 .f32)

/-- The second step leaves the projection. -/
theorem out_B (hc0 : ¬cond0_0 i) (hc1 : cond0_1 i) : out0_B_4 (F := Ideal) c i a1 h1 a2 h2 a3 h3 a4 h4 a5 h5 hc0 hc1 x0 x1 x2 x3 = k0_pay4 x0 x1 x2 := by
  unfold out0_B_4 kernelRun0_B
  dsimp only
  sl_unfold_words
  simp only [View.readAt_eq_ld, h1.read_unread, h2.read_unread, h3.read_unread, View.ld_unit_zero (S := S512x2048) hz, View.ld_unit_zero (S := S1x2048) hz, View.ld_unit_zero (S := S2048x1024) hz]
  rw [View.read_writes_junk_eq_canon, View.canon_unit_zero hz]

/-- The first step's stores. -/
theorem pieces_A (hc0 : cond0_0 i) (hc1 : ¬cond0_1 i) : (kernelRun0_A (F := Ideal) c i a1 h1 a2 h2 a3 h3 a4 h4 a5 h5 hc0 hc1 x0 x1 x2 x3).1
    = [⟨Rect.unit (s := S512x1024) ![0, 768] S512x256.size inb_S512x1024_S512x256_0_768, head 768 slices_S512x1024_o0_768_S512x256 slices_S1x1024_o0_768_S1x256 (k0_pay1 x0 x1 x2) x3⟩,
      ⟨Rect.unit (s := S512x1024) ![0, 512] S512x256.size inb_S512x1024_S512x256_0_512, head 512 slices_S512x1024_o0_512_S512x256 slices_S1x1024_o0_512_S1x256 (k0_pay1 x0 x1 x2) x3⟩,
      ⟨Rect.unit (s := S512x1024) ![0, 256] S512x256.size inb_S512x1024_S512x256_0_256, head 256 slices_S512x1024_o0_256_S512x256 slices_S1x1024_o0_256_S1x256 (k0_pay1 x0 x1 x2) x3⟩,
      ⟨Rect.unit (s := S512x1024) ![0, 0] S512x256.size inb_S512x1024_S512x256_0_0, head 0 slices_S512x1024_o0_0_S512x256 slices_S1x1024_o0_0_S1x256 (k0_pay1 x0 x1 x2) x3⟩] := by
  unfold kernelRun0_A
  dsimp only
  sl_unfold_words
  simp only [View.readAt_eq_ld, h1.read_unread, h2.read_unread, h3.read_unread, h4.read_unread, View.ld_unit_zero (S := S512x2048) hz, View.ld_unit_zero (S := S1x2048) hz, View.ld_unit_zero (S := S2048x1024) hz,
    View.ld_unit_zero (S := S1x1024) hz]
  rfl

end Step

/-- A block's numbers, normed by heads, at an element. -/
def heads (a : Vec Ideal S512x1024 .f32) (g : Vec Ideal S1x1024 .f32) (p : Fin 512) (q : Fin 1024) : EReal :=
  headNormed (fun d => a (ix2 p ⟨q.val / 256 * 256 + d.val, by omega⟩)) (g (ix2 0 q)) ⟨q.val % 256, by omega⟩

/-- A block of numbers, normed by heads. -/
def byHeads (a : Vec Ideal S512x1024 .f32) (g : Vec Ideal S1x1024 .f32) : Vec Ideal S512x1024 .bf16 := fun z => heads a g (z 0) (z 1)

/-- Each head's store is its part of the block. -/
theorem piece (a : Vec Ideal S512x1024 .f32) (g : Vec Ideal S1x1024 .f32) (h : Fin 4) (i0 : ∀ b, (![0, h.val * 256] : Fin 2 → ℕ) b + S512x256.size b ≤ S512x1024.size b)
    (ha : S512x1024.Slices ![0, h.val * 256] S512x256) (hg : S1x1024.Slices ![0, h.val * 256] S1x256) (y : S512x256.Idx) :
    head (h.val * 256) ha hg a g y = byHeads a g ((Rect.unit (s := S512x1024) ![0, h.val * 256] S512x256.size i0).emb y) := by
  obtain ⟨p, d, rfl⟩ : ∃ (p : Fin 512) (d : Fin 256), y = ix2 p d := ⟨y 0, y 1, by idx_vars y⟩
  have e : (Rect.unit (s := S512x1024) ![0, h.val * 256] S512x256.size i0).emb (ix2 p d) = ix2 p (⟨h.val * 256 + d.val, by omega⟩ : Fin 1024) := funext fun b => Fin.ext (by
    fin_cases b
    · show 0 + 1 * p.val = p.val
      omega
    · show h.val * 256 + 1 * d.val = h.val * 256 + d.val
      omega)
  rw [e]
  refine (head_apply _ (by omega) _ _ _ _ p d).trans ?_
  show _ = heads a g p ⟨h.val * 256 + d.val, _⟩
  unfold heads
  refine congr (congrFun (congrArg headNormed (funext fun d' => congrArg (fun z => a (ix2 p z)) (Fin.ext ?_))) _) (Fin.ext ?_)
  · show h.val * 256 + d'.val = (h.val * 256 + d.val) / 256 * 256 + d'.val
    omega
  · show d.val = (h.val * 256 + d.val) % 256
    omega

/-- The first step leaves the projection, normed by heads. -/
theorem out_A (c : Dev nD) (i : grid0.Coords) (a1 : Memref sig .tc .vmem S512x2048 .f32) (h1 : a1.IsWhole) (a2 : Memref sig .tc .vmem S1x2048 .f32) (h2 : a2.IsWhole)
    (a3 : Memref sig .tc .vmem S2048x1024 .f32) (h3 : a3.IsWhole) (a4 : Memref sig .tc .vmem S1x1024 .f32) (h4 : a4.IsWhole) (a5 : Memref sig .tc .vmem S512x1024 .bf16) (h5 : a5.IsWhole)
    (x0 : Vec Ideal S512x2048 .f32) (x1 : Vec Ideal S1x2048 .f32) (x2 : Vec Ideal S2048x1024 .f32) (x3 : Vec Ideal S1x1024 .f32) (hc0 : cond0_0 i) (hc1 : ¬cond0_1 i) (y : S512x1024.Idx) :
    out0_A_4 (F := Ideal) c i a1 h1 a2 h2 a3 h3 a4 h4 a5 h5 hc0 hc1 x0 x1 x2 x3 y = byHeads (k0_pay1 x0 x1 x2) x3 y := by
  unfold out0_A_4
  rw [View.read_writes_junk_eq_canon]
  refine View.canon_apply_of_pieces (byHeads (k0_pay1 x0 x1 x2) x3) _ ?_ _ (cover0_A_4 _ _ _ _ _ _ _ _ _ _ _ _ _ _ _ _ _ _ _)
  intro q hq x
  rw [pieces_A] at hq
  simp only [List.mem_cons, List.not_mem_nil, or_false] at hq
  rcases hq with rfl | rfl | rfl | rfl
  · exact piece _ x3 3 inb_S512x1024_S512x256_0_768 slices_S512x1024_o0_768_S512x256 slices_S1x1024_o0_768_S1x256 x
  · exact piece _ x3 2 inb_S512x1024_S512x256_0_512 slices_S512x1024_o0_512_S512x256 slices_S1x1024_o0_512_S1x256 x
  · exact piece _ x3 1 inb_S512x1024_S512x256_0_256 slices_S512x1024_o0_256_S512x256 slices_S1x1024_o0_256_S1x256 x
  · exact piece _ x3 0 inb_S512x1024_S512x256_0_0 slices_S512x1024_o0_0_S512x256 slices_S1x1024_o0_0_S1x256 x

/-! ## The arguments and the result in terms of them -/

variable (m : (ℓ : Loc nD τ sig) → Buf (Elt Ideal) ℓ)

/-- The memory. -/
abbrev argX (c : Dev nD) : FVec Ideal S2x256x2048 .f32 := m ((c.tc : Thread nD τ).loc main_arg0)
/-- The gains of the memory's norm. -/
abbrev argG (c : Dev nD) : FVec Ideal S2048 .f32 := m ((c.tc : Thread nD τ).loc main_arg1)
/-- The weights of the keys and values. -/
abbrev argW (c : Dev nD) : FVec Ideal S2048x2048 .f32 := m ((c.tc : Thread nD τ).loc main_arg2)
/-- The gains of the keys' norm. -/
abbrev argK (c : Dev nD) : FVec Ideal S256 .f32 := m ((c.tc : Thread nD τ).loc main_arg3)

/-- The projection of the normed memory at row `r` and column `q`. -/
def proj (X : FVec Ideal S2x256x2048 .f32) (G : FVec Ideal S2048 .f32) (W : FVec Ideal S2048x2048 .f32) (r : Fin 512) (q : Fin 2048) : EReal :=
  ∑ k : Fin 2048, normed (fun k => X (ix3 ⟨r.val / 256, by omega⟩ ⟨r.val % 256, by omega⟩ k)) (fun k => G (ix1 k)) k * W (ix2 k q)

/-- The keys, normed by heads, and beside them the values. -/
def keysValues (X : FVec Ideal S2x256x2048 .f32) (G : FVec Ideal S2048 .f32) (W : FVec Ideal S2048x2048 .f32) (K : FVec Ideal S256 .f32) (r : Fin 512) (q : Fin 2048) : EReal :=
  if q.val < 1024 then headNormed (fun d => proj X G W r ⟨q.val / 256 * 256 + d.val, by omega⟩) (K (ix1 ⟨q.val % 256, by omega⟩)) ⟨q.val % 256, by omega⟩ else proj X G W r q

/-- The memory by rows, read at an element. -/
theorem V_x (c : Dev nD) (r : Fin 512) (k : Fin 2048) : V m c main_v0 (ix2 r k) = argX m c (ix3 ⟨r.val / 256, by omega⟩ ⟨r.val % 256, by omega⟩ k) := by
  entry_read
  pointwise

/-- The gains as a row, read at an element. -/
theorem V_g (c : Dev nD) (k : Fin 2048) : V m c main_v1 (ix2 0 k) = argG m c (ix1 k) := by
  entry_read
  pointwise

/-- The keys' gains, once for every head, read at an element. -/
theorem V_k (c : Dev nD) (q : Fin 1024) : V m c main_v5 (ix2 0 q) = argK m c (ix1 ⟨q.val % 256, by omega⟩) := by
  entry_read
  pointwise

/-- Which block of each array every grid point holds. -/
theorem idx : ∀ t : Fin cfg0.N, win0_0.index t = ![0, 0] ∧ win0_1.index t = ![0, 0] ∧ win0_2.index t = ![0, t.val] ∧ win0_3.index t = ![0, 0] ∧ win0_4.index t = ![0, t.val] :=
  (by decide +kernel : ∀ t : Fin grid0.N, win0_0.index t = ![0, 0] ∧ win0_1.index t = ![0, 0] ∧ win0_2.index t = ![0, t.val] ∧ win0_3.index t = ![0, 0] ∧ win0_4.index t = ![0, t.val])

/-- There are two points. -/
theorem lt2 (t : Fin cfg0.N) : t.val < 2 := lt_of_lt_of_eq t.isLt (show cfg0.N = 2 from N_0)

/-- The block of the memory, the whole of it at every point. -/
theorem blk0 (c : Dev nD) (t : Fin cfg0.N) (p : Fin 512) (k : Fin 2048) : iblk m c 0 t (ix2 p k) = argX m c (ix3 ⟨p.val / 256, by omega⟩ ⟨p.val % 256, by omega⟩ k) := by
  have e := (idx t).1
  unfold iblk; rw [View.read_apply]
  refine (congrArg (V m c main_v0) (funext fun a => Fin.ext ?_)).trans (V_x m c p k)
  fin_cases a
  · show win0_0.index t 0 * 512 + 1 * p.val = p.val
    rw [e]; show 0 * 512 + _ = _; omega
  · show win0_0.index t 1 * 2048 + 1 * k.val = k.val
    rw [e]; show 0 * 2048 + _ = _; omega

/-- The block of the gains, the whole of them at every point. -/
theorem blk1 (c : Dev nD) (t : Fin cfg0.N) (k : Fin 2048) : iblk m c 1 t (ix2 0 k) = argG m c (ix1 k) := by
  have e := (idx t).2.1
  unfold iblk; rw [View.read_apply]
  refine (congrArg (V m c main_v1) (funext fun a => Fin.ext ?_)).trans (V_g m c k)
  fin_cases a
  · show win0_1.index t 0 * 1 + 1 * 0 = 0
    rw [e]; rfl
  · show win0_1.index t 1 * 2048 + 1 * k.val = k.val
    rw [e]; show 0 * 2048 + _ = _; omega

/-- The block of the weights at a point. -/
theorem blk2 (c : Dev nD) (t : Fin cfg0.N) (k : Fin 2048) (q : Fin 1024) : iblk m c 2 t (ix2 k q) = argW m c (ix2 k ⟨t.val * 1024 + q.val, by have := lt2 t; omega⟩) := by
  have e := (idx t).2.2.1
  unfold iblk; rw [View.read_apply]
  refine (congrFun (V_main_arg2 m c) _).trans (congrArg (argW m c) (funext fun a => Fin.ext ?_))
  fin_cases a
  · show win0_2.index t 0 * 2048 + 1 * k.val = k.val
    rw [e]; show 0 * 2048 + _ = _; omega
  · show win0_2.index t 1 * 1024 + 1 * q.val = t.val * 1024 + q.val
    rw [e]; show t.val * 1024 + _ = _; omega

/-- The block of the keys' gains, the whole of them at every point. -/
theorem blk3 (c : Dev nD) (t : Fin cfg0.N) (q : Fin 1024) : iblk m c 3 t (ix2 0 q) = argK m c (ix1 ⟨q.val % 256, by omega⟩) := by
  have e := (idx t).2.2.2.1
  unfold iblk; rw [View.read_apply]
  refine (congrArg (V m c main_v5) (funext fun a => Fin.ext ?_)).trans (V_k m c q)
  fin_cases a
  · show win0_3.index t 0 * 1 + 1 * 0 = 0
    rw [e]; rfl
  · show win0_3.index t 1 * 1024 + 1 * q.val = q.val
    rw [e]; show 0 * 1024 + _ = _; omega

/-- A point's projection. -/
theorem proj_eq (c : Dev nD) (t : Fin cfg0.N) (p : Fin 512) (q : Fin 1024) : k0_pay1 (F := Ideal) (iblk m c 0 t) (iblk m c 1 t) (iblk m c 2 t) (ix2 p q)
    = proj (argX m c) (argG m c) (argW m c) p ⟨t.val * 1024 + q.val, by have := lt2 t; omega⟩ := by
  refine (pay1_apply _ _ _ p q).trans ?_
  unfold proj
  simp only [blk0, blk1, blk2]

/-- The values' block keeps the projection. -/
theorem pay4_apply (x0 : Vec Ideal S512x2048 .f32) (x1 : Vec Ideal S1x2048 .f32) (x2 : Vec Ideal S2048x1024 .f32) (y : S512x1024.Idx) :
    k0_pay4 (F := Ideal) x0 x1 x2 y = k0_pay1 (F := Ideal) x0 x1 x2 y := rfl

/-- What each point leaves. -/
theorem step_eq (c : Dev nD) (t : Fin cfg0.N) (p : Fin 512) (q : Fin 1024) : outsAt0 m c t.val t.isLt (ix2 p q)
    = keysValues (argX m c) (argG m c) (argW m c) (argK m c) p ⟨t.val * 1024 + q.val, by have := lt2 t; omega⟩ := by
  have h2 := lt2 t
  unfold keysValues
  by_cases h : t.val % 2 = 0
  · have ht : t.val = 0 := by omega
    rw [if_pos (show t.val * 1024 + q.val < 1024 by omega)]
    refine (congrFun (outsAt0_A m c t h (by omega)) _).trans ((out_A ..).trans ?_)
    show heads (k0_pay1 (F := Ideal) (iblk m c 0 t) (iblk m c 1 t) (iblk m c 2 t)) (iblk m c 3 t) p q = _
    unfold heads
    refine congr (congr (congrArg headNormed (funext fun d => (proj_eq m c t p _).trans (congrArg (proj _ _ _ p) (Fin.ext ?_)))) ((blk3 m c t q).trans (congrArg (fun z => argK m c (ix1 z)) (Fin.ext ?_)))) (Fin.ext ?_)
    · show t.val * 1024 + (q.val / 256 * 256 + d.val) = (t.val * 1024 + q.val) / 256 * 256 + d.val
      omega
    · show q.val % 256 = (t.val * 1024 + q.val) % 256
      omega
    · show q.val % 256 = (t.val * 1024 + q.val) % 256
      omega
  · rw [if_neg (show ¬t.val * 1024 + q.val < 1024 by omega)]
    exact (congrFun (outsAt0_B m c t h (by omega)) _).trans ((congrFun (out_B ..) _).trans ((pay4_apply ..).trans (proj_eq m c t p q)))

/-- The result's array at the end. -/
theorem out4 (c : Dev nD) : (dats m 0 c).arrAt 4 cfg0.N = fun i : S512x2048.Idx => keysValues (argX m c) (argG m c) (argW m c) (argK m c) (i 0) (i 1) := by
  refine (dats m 0 c).arrAt_eq_of_covers 4 _ (by decide +kernel) fun t hf y => ?_
  have e := (idx t).2.2.2.2
  obtain ⟨p, q, rfl⟩ : ∃ (p : Fin 512) (q : Fin 1024), y = ix2 p q := ⟨y 0, y 1, by idx_vars y⟩
  blk_simp [e]
  rw [after0_4]
  refine (step_eq m c t p q).trans ?_
  have e0 : (win0_4.blk t).view.emb (ix2 p q) 0 = (p : Fin 512) := Fin.ext (by
    show win0_4.index t 0 * 512 + 1 * p.val = p.val
    rw [e]; show 0 * 512 + _ = _; omega)
  have e1 : (win0_4.blk t).view.emb (ix2 p q) 1 = (⟨t.val * 1024 + q.val, by have := lt2 t; omega⟩ : Fin 2048) := Fin.ext (by
    show win0_4.index t 1 * 1024 + 1 * q.val = t.val * 1024 + q.val
    rw [e]; show t.val * 1024 + _ = _; omega)
  rw [e0, e1]

end Cert.Kernel5Ideal.Hand

namespace Cert.Reference5Ideal.Hand

open Cert.Reference5Ideal Cert.Reference5Ideal.Gen
open Idealize.ShloMosaic Idealize.ShloMosaic.TcCoe Idealize.ShloMosaic.Tactic
open Cert.Kernel5Ideal.Hand (proj keysValues headNormed)

/-- The normed memory. -/
def normed (x : FVec Ideal S2x256x2048 .f32) (g : FVec Ideal S2048 .f32) : FVec Ideal S2x256x2048 .f32 :=
  mulf (mulf x (broadcastInDim S2x256x2048 ![0, 1, 2] bcast_S2x256x1_S2x256x2048_0_1_2 (Host.rsqrt (addf (Host.divf (broadcastInDim S2x256x1 ![0, 1] bcast_S2x256_S2x256x1_0_1
    (Host.reduceAdd (mulf x x) (constant S_ .f32 0x00000000#32) reducesTo_S2x256x2048_S2x256_d2 h_S_)) (broadcastInDim S2x256x1 ![] bcast_S_S2x256x1 (constant S_ .f32 0x45000000#32)))
    (broadcastInDim S2x256x1 ![] bcast_S_S2x256x1 (constant S_ .f32 0x358637BD#32))))))
    (broadcastInDim S2x256x2048 ![0, 1, 2] bcast_S1x1x2048_S2x256x2048_0_1_2 (broadcastInDim S1x1x2048 ![2] bcast_S2048_S1x1x2048_2 g))

/-- The projection. -/
def projected (x : FVec Ideal S2x256x2048 .f32) (g : FVec Ideal S2048 .f32) (w : FVec Ideal S2048x2048 .f32) : FVec Ideal S2x256x2048 .f32 :=
  Host.dotGeneral dot_S2x256x2048_S2048x2048_S2x256x2048_2_0_01_1_n_n none (normed x g) w

/-- The projection's first half by heads. -/
def halves (z : FVec Ideal S2x256x2048 .f32) : FVec Ideal S2x256x4x256 .f32 :=
  shapeCast _ (extractStridedSlice S2x256x1024 ![0, 0, 0] z slices_S2x256x2048_S2x256x1024_0_0_0) shapeCasts_S2x256x1024_S2x256x4x256

/-- The keys, normed by heads. -/
def keys (a : FVec Ideal S2x256x4x256 .f32) (k : FVec Ideal S256 .f32) : FVec Ideal S2x256x4x256 .f32 :=
  mulf (mulf a (broadcastInDim S2x256x4x256 ![0, 1, 2, 3] bcast_S2x256x4x1_S2x256x4x256_0_1_2_3 (Host.rsqrt (addf (Host.divf (broadcastInDim S2x256x4x1 ![0, 1, 2] bcast_S2x256x4_S2x256x4x1_0_1_2
    (Host.reduceAdd (mulf a a) (constant S_ .f32 0x00000000#32) reducesTo_S2x256x4x256_S2x256x4_d3 h_S_)) (broadcastInDim S2x256x4x1 ![] bcast_S_S2x256x4x1 (constant S_ .f32 0x43800000#32)))
    (broadcastInDim S2x256x4x1 ![] bcast_S_S2x256x4x1 (constant S_ .f32 0x358637BD#32))))))
    (broadcastInDim S2x256x4x256 ![0, 1, 2, 3] bcast_S1x1x1x256_S2x256x4x256_0_1_2_3 (broadcastInDim S1x1x1x256 ![3] bcast_S256_S1x1x1x256_3 k))

/-- The keys beside the values. -/
def joined (z : FVec Ideal S2x256x2048 .f32) (k : FVec Ideal S256 .f32) : FVec Ideal S2x256x2048 .f32 :=
  concatenate S2x256x2048 2 [⟨S2x256x1024, (shapeCast _ (keys (halves z) k) shapeCasts_S2x256x4x256_S2x256x1024 : FVec Ideal S2x256x1024 .f32)⟩,
    ⟨S2x256x1024, (extractStridedSlice S2x256x1024 ![0, 0, 1024] z slices_S2x256x2048_S2x256x1024_0_0_1024 : FVec Ideal S2x256x1024 .f32)⟩] concatenates_S2x256x1024_S2x256x1024_S2x256x2048_d2

/-- The reference's result. -/
def result (x : FVec Ideal S2x256x2048 .f32) (g : FVec Ideal S2048 .f32) (w : FVec Ideal S2048x2048 .f32) (k : FVec Ideal S256 .f32) : FVec Ideal S512x2048 .bf16 :=
  truncf .bf16 (shapeCast _ (joined (projected x g w) k) shapeCasts_S2x256x2048_S512x2048) bitsLt_bf16_f32

/-- The run's result is the reference's. -/
theorem res_eq (m : (ℓ : Loc nD τ sig) → Buf (Elt Ideal) ℓ) (c : Dev nD) :
    Cert.Reference5Ideal.Value.res_out0 (F := Ideal) m c = result (m ((c.tc : Thread nD τ).loc main_arg0)) (m ((c.tc : Thread nD τ).loc main_arg1)) (m ((c.tc : Thread nD τ).loc main_arg2))
      (m ((c.tc : Thread nD τ).loc main_arg3)) := rfl

/-- The normed memory, read at an element. -/
theorem normed_apply (x : FVec Ideal S2x256x2048 .f32) (g : FVec Ideal S2048 .f32) (b : Fin 2) (s : Fin 256) (k : Fin 2048) :
    normed x g (ix3 b s k) = Cert.Kernel5Ideal.Hand.normed (fun k => x (ix3 b s k)) (fun k => g (ix1 k)) k := by
  unfold Cert.Kernel5Ideal.Hand.normed
  pointwise [normed]

/-- The projection, read at an element. -/
theorem projected_apply (x : FVec Ideal S2x256x2048 .f32) (g : FVec Ideal S2048 .f32) (w : FVec Ideal S2048x2048 .f32) (b : Fin 2) (s : Fin 256) (q : Fin 2048) :
    projected x g w (ix3 b s q) = ∑ k : Fin 2048, (normed x g (ix3 b s k) : EReal) * w (ix2 k q) := by
  pointwise [projected]

/-- The first half by heads, read at an element. -/
theorem halves_apply (z : FVec Ideal S2x256x2048 .f32) (b : Fin 2) (s : Fin 256) (h : Fin 4) (d : Fin 256) : halves z (ix4 b s h d) = z (ix3 b s ⟨h.val * 256 + d.val, by omega⟩) := by
  pointwise [halves]

/-- The keys, read at an element. -/
theorem keys_apply (a : FVec Ideal S2x256x4x256 .f32) (k : FVec Ideal S256 .f32) (b : Fin 2) (s : Fin 256) (h : Fin 4) (d : Fin 256) :
    keys a k (ix4 b s h d) = headNormed (fun d => a (ix4 b s h d)) (k (ix1 d)) d := by
  unfold headNormed
  pointwise [keys]

/-- The keys beside the values, read at a key's element. -/
theorem joined_left (z : FVec Ideal S2x256x2048 .f32) (k : FVec Ideal S256 .f32) (b : Fin 2) (s : Fin 256) (q : Fin 1024) :
    joined z k (ix3 b s ⟨q.val, by omega⟩) = keys (halves z) k (ix4 b s ⟨q.val / 256, by omega⟩ ⟨q.val % 256, by omega⟩) := by
  unfold joined
  rw [concatenate_pair_apply_left (t := S2x256x2048) (s₁ := S2x256x1024) 2 _ _ _ (ix3 b s ⟨q.val, by omega⟩) rfl (ix3 b s q) (fun a => by fin_cases a <;> rfl)]
  pointwise

/-- The same at a value's element. -/
theorem joined_right (z : FVec Ideal S2x256x2048 .f32) (k : FVec Ideal S256 .f32) (b : Fin 2) (s : Fin 256) (q : Fin 1024) :
    joined z k (ix3 b s ⟨1024 + q.val, by omega⟩) = z (ix3 b s ⟨1024 + q.val, by omega⟩) := by
  unfold joined
  rw [concatenate_pair_apply_right (t := S2x256x2048) (s₁ := S2x256x1024) (s₂ := S2x256x1024) 2 _ _ _ (ix3 b s ⟨1024 + q.val, by omega⟩) rfl rfl (ix3 b s q)
    (fun a ha => by fin_cases a <;> first | exact absurd rfl ha | rfl) (show q.val + 1024 = 1024 + q.val by omega)]
  pointwise

/-- The result, read at an element. -/
theorem result_apply (x : FVec Ideal S2x256x2048 .f32) (g : FVec Ideal S2048 .f32) (w : FVec Ideal S2048x2048 .f32) (k : FVec Ideal S256 .f32) (r : Fin 512) (q : Fin 2048) :
    result x g w k (ix2 r q) = joined (projected x g w) k (ix3 ⟨r.val / 256, by omega⟩ ⟨r.val % 256, by omega⟩ q) := by
  pointwise [result]

/-- The projection is the kernel's. -/
theorem projected_eq (x : FVec Ideal S2x256x2048 .f32) (g : FVec Ideal S2048 .f32) (w : FVec Ideal S2048x2048 .f32) (r : Fin 512) (q : Fin 2048) :
    projected x g w (ix3 ⟨r.val / 256, by omega⟩ ⟨r.val % 256, by omega⟩ q) = proj x g w r q := by
  unfold proj
  rw [projected_apply]
  simp only [normed_apply]

/-- The reference's result is the kernel's. -/
theorem result_eq (x : FVec Ideal S2x256x2048 .f32) (g : FVec Ideal S2048 .f32) (w : FVec Ideal S2048x2048 .f32) (k : FVec Ideal S256 .f32) :
    result x g w k = fun i : S512x2048.Idx => keysValues x g w k (i 0) (i 1) := by
  funext i
  obtain ⟨r, q, rfl⟩ : ∃ (r : Fin 512) (q : Fin 2048), i = ix2 r q := ⟨i 0, i 1, by idx_vars i⟩
  refine (result_apply x g w k r q).trans ?_
  show _ = keysValues x g w k r q
  unfold keysValues
  by_cases h : q.val < 1024
  · rw [if_pos h]
    refine (joined_left _ k _ _ ⟨q.val, h⟩).trans ((keys_apply ..).trans ?_)
    simp only [halves_apply, projected_eq]
  · rw [if_neg h]
    have e : q = ⟨1024 + (⟨q.val - 1024, by omega⟩ : Fin 1024).val, by show 1024 + (q.val - 1024) < 2048; omega⟩ := Fin.ext (by show q.val = 1024 + (q.val - 1024); omega)
    rw [e]
    exact (joined_right _ k _ _ _).trans (projected_eq x g w r _)

end Cert.Reference5Ideal.Hand

end
-- ==== Proof.MemAttn.lean ====
module

public import proofs.«01_k».proof.Pre_finite_scores
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.ShloMosaic.Pipeline (Dat Cfg Window)

/-! ## The attention of one query -/

/-- The scores of a query against the keys. -/
def scores (q : Fin 256 → EReal) (k : Fin 256 → Fin 256 → EReal) (x : Fin 256) : EReal := ∑ d : Fin 256, q d * k x d

/-- A score's exponential, after the greatest score is taken off. -/
def soft (s : Fin 256 → EReal) (x : Fin 256) : EReal := Ideal.exp (s x - Finset.univ.fold max ⊥ s)

/-- The weighted values over the weights' sum. -/
def attend (q : Fin 256 → EReal) (k v : Fin 256 → Fin 256 → EReal) (d : Fin 256) : EReal :=
  Ideal.div (∑ x : Fin 256, soft (scores q k) x * v x d) (∑ x : Fin 256, soft (scores q k) x)

/-- The weights' sum is taken out of the sum of weighted values when it isn't zero. -/
theorem div_sum (p v : Fin 256 → EReal) (hp : ∀ x, 0 ≤ p x) (hl : ∑ x, p x ≠ 0) :
    Ideal.div (∑ x, p x * v x) (∑ x, p x) = ∑ x, v x * Ideal.div (p x) (∑ x, p x) := by
  have hs : ∀ s : Finset (Fin 256), (∑ x ∈ s, p x * v x) * (∑ x, p x)⁻¹ = ∑ x ∈ s, v x * (p x * (∑ x, p x)⁻¹) := fun s => by
    induction s using Finset.induction_on with
    | empty => simp
    | insert a s ha ih =>
      rw [Finset.sum_insert ha, Finset.sum_insert ha, EReal.right_distrib_of_nonneg_of_ne_top (EReal.inv_nonneg_of_nonneg (Finset.sum_nonneg fun x _ => hp x)) ?_, ih,
        mul_comm (p a) (v a), mul_assoc]
      exact (EReal.inv_lt_top _).ne
  simp only [Ideal.div, if_neg hl]
  exact hs Finset.univ

/-- A fold of maxima from the least element is the supremum. -/
theorem fold_eq_sup (s : Fin 256 → EReal) : Finset.univ.fold max ⊥ s = Finset.univ.sup s := rfl

/-- An exponential isn't negative. -/
theorem exp_nonneg (x : EReal) : 0 ≤ Ideal.exp x := by
  induction x using EReal.rec with
  | bot => exact le_refl _
  | top => exact le_top
  | coe r => exact EReal.coe_nonneg.mpr (Real.exp_pos r).le

/-- With finite scores the weights' sum isn't zero: the greatest score's weight is one. -/
theorem soft_sum_ne_zero (s : Fin 256 → EReal) (h : ∀ x, s x ≠ ⊤ ∧ s x ≠ ⊥) : ∑ x, soft s x ≠ 0 := by
  obtain ⟨x, -, hx⟩ := Finset.exists_mem_eq_sup Finset.univ ⟨(0 : Fin 256), Finset.mem_univ _⟩ s
  have h1 : soft s x = 1 := by
    unfold soft
    rw [fold_eq_sup, hx, EReal.sub_self (h x).1 (h x).2]
    show ((Real.exp 0 : ℝ) : EReal) = 1
    rw [Real.exp_zero]
    rfl
  intro h0
  have h2 := (Finset.sum_eq_zero_iff_of_nonneg fun x _ => exp_nonneg _).mp h0 x (Finset.mem_univ x)
  exact zero_ne_one (h2.symm.trans h1)

/-- A sum of products of finite numbers is finite. -/
theorem scores_finite (q : Fin 256 → EReal) (k : Fin 256 → Fin 256 → EReal) (hq : ∀ d, q d ≠ ⊤ ∧ q d ≠ ⊥) (hk : ∀ x d, k x d ≠ ⊤ ∧ k x d ≠ ⊥) (x : Fin 256) :
    scores q k x ≠ ⊤ ∧ scores q k x ≠ ⊥ := by
  unfold scores
  refine Finset.sum_induction _ (fun z : EReal => z ≠ ⊤ ∧ z ≠ ⊥) (fun a b ha hb => ?_) ⟨EReal.coe_ne_top 0, EReal.coe_ne_bot 0⟩ fun d _ => ?_
  · lift a to ℝ using ha
    lift b to ℝ using hb
    rw [← EReal.coe_add]
    exact ⟨EReal.coe_ne_top _, EReal.coe_ne_bot _⟩
  · have hq := hq d
    have hk := hk x d
    generalize q d = a at hq ⊢
    generalize k x d = b at hk ⊢
    lift a to ℝ using hq
    lift b to ℝ using hk
    rw [← EReal.coe_mul]
    exact ⟨EReal.coe_ne_top _, EReal.coe_ne_bot _⟩

/-! ## What one grid step leaves -/

/-- The word of minus infinity. -/
theorem word_bot : Ideal.ofBits .f32 4286578688#32 = ⊥ := by simp [Ideal.ofBits, Ideal.ieee]

/-- A head's result, read at an element. -/
theorem pay2_apply (q : Vec Ideal S1x1024x256 .bf16) (k v : Vec Ideal S1x256x256 .bf16) (p : Fin 1024) (d : Fin 256) :
    k0_pay2 q k v (ix3 0 p d) = attend (fun d => q (ix3 0 p d)) (fun x d => k (ix3 0 x d)) (fun x d => v (ix3 0 x d)) d := by
  unfold attend soft scores
  pointwise [k0_pay2]
  rw [word_bot]

/-- The heads of a block. -/
def heads (x0 : Vec Ideal S1x1024x1024 .bf16) (x1 : Vec Ideal S1x256x2048 .bf16) (p e : Fin 1024) : EReal :=
  attend (fun d => x0 (ix3 0 p ⟨e.val / 256 * 256 + d.val, by omega⟩)) (fun x d => x1 (ix3 0 x ⟨e.val / 256 * 256 + d.val, by omega⟩))
    (fun x d => x1 (ix3 0 x ⟨1024 + (e.val / 256 * 256 + d.val), by omega⟩)) ⟨e.val % 256, by omega⟩

/-- The heads, as a block. -/
def block (x0 : Vec Ideal S1x1024x1024 .bf16) (x1 : Vec Ideal S1x256x2048 .bf16) : Vec Ideal S1x1024x1024 .bf16 := fun z => heads x0 x1 (z 1) (z 2)

/-- Each head's store is its part of the block. -/
theorem piece (x0 : Vec Ideal S1x1024x1024 .bf16) (x1 : Vec Ideal S1x256x2048 .bf16) (h : Fin 4) (i0 : ∀ a, (![0, 0, h.val * 256] : Fin 3 → ℕ) a + S1x1024x256.size a ≤ S1x1024x1024.size a)
    (i1 : ∀ a, (![0, 0, h.val * 256] : Fin 3 → ℕ) a + S1x256x256.size a ≤ S1x256x2048.size a) (i2 : ∀ a, (![0, 0, 1024 + h.val * 256] : Fin 3 → ℕ) a + S1x256x256.size a ≤ S1x256x2048.size a)
    (y : S1x1024x256.Idx) :
    k0_pay2 (View.ld x0 (Rect.unit (s := S1x1024x1024) ![0, 0, h.val * 256] S1x1024x256.size i0)) (View.ld x1 (Rect.unit (s := S1x256x2048) ![0, 0, h.val * 256] S1x256x256.size i1))
      (View.ld x1 (Rect.unit (s := S1x256x2048) ![0, 0, 1024 + h.val * 256] S1x256x256.size i2)) y
      = block x0 x1 ((Rect.unit (s := S1x1024x1024) ![0, 0, h.val * 256] S1x1024x256.size i0).emb y) := by
  obtain ⟨p, d, rfl⟩ : ∃ (p : Fin 1024) (d : Fin 256), y = ix3 0 p d := ⟨y 1, y 2, by idx_vars y; obtain rfl : y0 = 0 := Subsingleton.elim _ _; rfl⟩
  refine (pay2_apply _ _ _ p d).trans ?_
  show _ = heads x0 x1 ((Rect.unit (s := S1x1024x1024) ![0, 0, h.val * 256] S1x1024x256.size i0).emb (ix3 0 p d) 1)
    ((Rect.unit (s := S1x1024x1024) ![0, 0, h.val * 256] S1x1024x256.size i0).emb (ix3 0 p d) 2)
  have e1 : (Rect.unit (s := S1x1024x1024) ![0, 0, h.val * 256] S1x1024x256.size i0).emb (ix3 0 p d) 1 = p := Fin.ext (by show 0 + 1 * p.val = p.val; omega)
  have e2 : (Rect.unit (s := S1x1024x1024) ![0, 0, h.val * 256] S1x1024x256.size i0).emb (ix3 0 p d) 2 = (⟨h.val * 256 + d.val, by omega⟩ : Fin 1024) :=
    Fin.ext (by show h.val * 256 + 1 * d.val = h.val * 256 + d.val; omega)
  rw [e1, e2]
  have ed : (h.val * 256 + d.val) / 256 = h.val := by omega
  unfold heads
  refine congr (congr (congr (congrArg attend (funext fun d' => ?_)) (funext fun x => funext fun d' => ?_)) (funext fun x => funext fun d' => ?_)) (Fin.ext ?_)
  · refine congrArg x0 (funext fun a => Fin.ext ?_)
    fin_cases a
    · rfl
    · show 0 + 1 * p.val = p.val
      omega
    · show h.val * 256 + 1 * d'.val = (h.val * 256 + d.val) / 256 * 256 + d'.val
      rw [ed]; omega
  · refine congrArg x1 (funext fun a => Fin.ext ?_)
    fin_cases a
    · rfl
    · show 0 + 1 * x.val = x.val
      omega
    · show h.val * 256 + 1 * d'.val = (h.val * 256 + d.val) / 256 * 256 + d'.val
      rw [ed]; omega
  · refine congrArg x1 (funext fun a => Fin.ext ?_)
    fin_cases a
    · rfl
    · show 0 + 1 * x.val = x.val
      omega
    · show 1024 + h.val * 256 + 1 * d'.val = 1024 + ((h.val * 256 + d.val) / 256 * 256 + d'.val)
      rw [ed]; omega
  · show d.val = (h.val * 256 + d.val) % 256
    omega

/-- What a step leaves. -/
theorem out_eq (x0 : Vec Ideal S1x1024x1024 .bf16) (x1 : Vec Ideal S1x256x2048 .bf16) (p e : Fin 1024) : out0_2 x0 x1 (ix3 0 p e) = heads x0 x1 p e := by
  unfold out0_2
  refine View.canon_apply_of_pieces (block x0 x1) _ ?_ _ (cover0_2 _ _ _ _ _)
  intro q hq x
  simp only [List.mem_cons, List.not_mem_nil, or_false] at hq
  rcases hq with rfl | rfl | rfl | rfl
  · exact piece x0 x1 3 _ _ _ x
  · exact piece x0 x1 2 _ _ _ x
  · exact piece x0 x1 1 _ _ _ x
  · exact piece x0 x1 0 _ _ _ x

/-! ## The arguments and the result in terms of them -/

variable (m : (ℓ : Loc nD τ sig) → Buf (Elt Ideal) ℓ)

/-- The projected activations. -/
abbrev argP (c : Dev nD) : FVec Ideal S2x4096x13312 .bf16 := m ((c.tc : Thread nD τ).loc main_arg0)
/-- The memory's keys and values. -/
abbrev argK (c : Dev nD) : FVec Ideal S512x2048 .bf16 := m ((c.tc : Thread nD τ).loc main_arg1)

/-- The attention to the memory at sequence `b`, place `s` and column `e`, of any activations and any keys and values. -/
def attended (P : FVec Ideal S2x4096x13312 .bf16) (K : FVec Ideal S512x2048 .bf16) (b : Fin 2) (s : Fin 4096) (e : Fin 1024) : EReal :=
  attend (fun d => P (ix3 b s ⟨12288 + (e.val / 256 * 256 + d.val), by omega⟩)) (fun x d => K (ix2 ⟨b.val * 256 + x.val, by omega⟩ ⟨e.val / 256 * 256 + d.val, by omega⟩))
    (fun x d => K (ix2 ⟨b.val * 256 + x.val, by omega⟩ ⟨1024 + (e.val / 256 * 256 + d.val), by omega⟩)) ⟨e.val % 256, by omega⟩

/-- The keys and values by sequences, read at an element. -/
theorem V_k (c : Dev nD) (b : Fin 2) (x : Fin 256) (k : Fin 2048) : V m c main_v0 (ix3 b x k) = argK m c (ix2 ⟨b.val * 256 + x.val, by omega⟩ k) := by
  entry_read
  pointwise

/-- Which block of each array every grid point holds. -/
theorem idx : ∀ t : Fin cfg0.N, win0_0.index t = ![t.val / 4, t.val % 4, 12] ∧ win0_1.index t = ![t.val / 4, 0, 0] ∧ win0_2.index t = ![t.val / 4, t.val % 4, 0] :=
  (by decide +kernel : ∀ t : Fin grid0.N, win0_0.index t = ![t.val / 4, t.val % 4, 12] ∧ win0_1.index t = ![t.val / 4, 0, 0] ∧ win0_2.index t = ![t.val / 4, t.val % 4, 0])

/-- There are eight points. -/
theorem lt8 (t : Fin cfg0.N) : t.val < 8 := lt_of_lt_of_eq t.isLt (show cfg0.N = 8 from N_0)

/-- The block of queries at a point. -/
theorem blk0 (c : Dev nD) (t : Fin cfg0.N) (p l : Fin 1024) :
    iblk m c 0 t (ix3 0 p l) = argP m c (ix3 ⟨t.val / 4, by have := lt8 t; omega⟩ ⟨t.val % 4 * 1024 + p.val, by omega⟩ ⟨12288 + l.val, by omega⟩) := by
  have e := (idx t).1
  unfold iblk; rw [View.read_apply]
  refine (congrFun (V_main_arg0 m c) _).trans (congrArg (argP m c) (funext fun a => Fin.ext ?_))
  fin_cases a
  · show win0_0.index t 0 * 1 + 1 * 0 = t.val / 4
    rw [e]; show t.val / 4 * 1 + _ = _; omega
  · show win0_0.index t 1 * 1024 + 1 * p.val = t.val % 4 * 1024 + p.val
    rw [e]; show t.val % 4 * 1024 + _ = _; omega
  · show win0_0.index t 2 * 1024 + 1 * l.val = 12288 + l.val
    rw [e]; show 12 * 1024 + _ = _; omega

/-- The block of keys and values at a point. -/
theorem blk1 (c : Dev nD) (t : Fin cfg0.N) (x : Fin 256) (k : Fin 2048) :
    iblk m c 1 t (ix3 0 x k) = argK m c (ix2 ⟨t.val / 4 * 256 + x.val, by have := lt8 t; omega⟩ k) := by
  have e := (idx t).2.1
  unfold iblk; rw [View.read_apply]
  refine (congrArg (V m c main_v0) (funext fun a => Fin.ext ?_)).trans (V_k m c ⟨t.val / 4, by have := lt8 t; omega⟩ x k)
  fin_cases a
  · show win0_1.index t 0 * 1 + 1 * 0 = t.val / 4
    rw [e]; show t.val / 4 * 1 + _ = _; omega
  · show win0_1.index t 1 * 256 + 1 * x.val = x.val
    rw [e]; show 0 * 256 + _ = _; omega
  · show win0_1.index t 2 * 2048 + 1 * k.val = k.val
    rw [e]; show 0 * 2048 + _ = _; omega

/-- A step leaves the attention of its rows. -/
theorem step_eq (c : Dev nD) (t : Fin cfg0.N) (p e : Fin 1024) : out0_2 (iblk m c 0 t) (iblk m c 1 t) (ix3 0 p e)
    = attended (argP m c) (argK m c) ⟨t.val / 4, by have := lt8 t; omega⟩ ⟨t.val % 4 * 1024 + p.val, by omega⟩ e := by
  refine (out_eq _ _ p e).trans ?_
  unfold heads attended
  simp only [blk0, blk1]

/-- The result's array at the end. -/
theorem out2 (c : Dev nD) : (dats m 0 c).arrAt 2 cfg0.N = fun i : S2x4096x1024.Idx => attended (argP m c) (argK m c) (i 0) (i 1) (i 2) := by
  refine (dats m 0 c).arrAt_eq_of_covers 2 _ (by decide +kernel) fun t hf y => ?_
  have e := (idx t).2.2
  obtain ⟨p, q, rfl⟩ : ∃ (p q : Fin 1024), y = ix3 0 p q := ⟨y 1, y 2, by idx_vars y; obtain rfl : y0 = 0 := Subsingleton.elim _ _; rfl⟩
  blk_simp [e]
  rw [after0_2]
  refine (step_eq m c t p q).trans ?_
  have e0 : (win0_2.blk t).view.emb (ix3 0 p q) 0 = (⟨t.val / 4, by have := lt8 t; omega⟩ : Fin 2) := Fin.ext (by
    show win0_2.index t 0 * 1 + 1 * 0 = t.val / 4
    rw [e]; show t.val / 4 * 1 + _ = _; omega)
  have e1 : (win0_2.blk t).view.emb (ix3 0 p q) 1 = (⟨t.val % 4 * 1024 + p.val, by omega⟩ : Fin 4096) := Fin.ext (by
    show win0_2.index t 1 * 1024 + 1 * p.val = t.val % 4 * 1024 + p.val
    rw [e]; show t.val % 4 * 1024 + _ = _; omega)
  have e2 : (win0_2.blk t).view.emb (ix3 0 p q) 2 = (q : Fin 1024) := Fin.ext (by
    show win0_2.index t 2 * 1024 + 1 * q.val = q.val
    rw [e]; show 0 * 1024 + _ = _; omega)
  rw [e0, e1, e2]

end Cert.Kernel6Ideal.Hand

namespace Cert.Reference6Ideal.Hand

open Cert.Reference6Ideal Cert.Reference6Ideal.Gen
open Idealize.ShloMosaic Idealize.ShloMosaic.TcCoe Idealize.ShloMosaic.Tactic
open Cert.Kernel6Ideal.Hand (argP argK attended attend soft scores word_bot div_sum exp_nonneg soft_sum_ne_zero scores_finite)

/-- The queries by heads. -/
def queries (p : FVec Ideal S2x4096x13312 .bf16) : FVec Ideal S2x4096x4x256 .f32 :=
  shapeCast _ (extf .f32 (extractStridedSlice S2x4096x1024 ![0, 0, 12288] p slices_S2x4096x13312_S2x4096x1024_0_0_12288) bitsLt_bf16_f32) shapeCasts_S2x4096x1024_S2x4096x4x256

/-- The keys by heads. -/
def keys (k : FVec Ideal S512x2048 .bf16) : FVec Ideal S2x256x4x256 .f32 :=
  shapeCast _ (extractStridedSlice S2x256x1024 ![0, 0, 0] (shapeCast _ (extf .f32 k bitsLt_bf16_f32) shapeCasts_S512x2048_S2x256x2048) slices_S2x256x2048_S2x256x1024_0_0_0) shapeCasts_S2x256x1024_S2x256x4x256

/-- The values by heads. -/
def values (k : FVec Ideal S512x2048 .bf16) : FVec Ideal S2x256x4x256 .f32 :=
  shapeCast _ (extractStridedSlice S2x256x1024 ![0, 0, 1024] (shapeCast _ (extf .f32 k bitsLt_bf16_f32) shapeCasts_S512x2048_S2x256x2048) slices_S2x256x2048_S2x256x1024_0_0_1024) shapeCasts_S2x256x1024_S2x256x4x256

/-- The scores. -/
def logits (p : FVec Ideal S2x4096x13312 .bf16) (k : FVec Ideal S512x2048 .bf16) : FVec Ideal S2x4x4096x256 .f32 :=
  Host.dotGeneral dot_S2x4096x4x256_S2x256x4x256_S2x4x4096x256_3_3_1_1_02_02 none (queries p) (keys k)

/-- The greatest score of every query. -/
def tops (l : FVec Ideal S2x4x4096x256 .f32) : FVec Ideal S2x4x4096 .f32 :=
  Host.reduce FloatOps.maximumf l (constant S_ .f32 0xFF800000#32) reducesTo_S2x4x4096x256_S2x4x4096_d3 h_S_

/-- The exponentials of the scores less some number of every query. -/
def weights (l : FVec Ideal S2x4x4096x256 .f32) (g : FVec Ideal S2x4x4096 .f32) : FVec Ideal S2x4x4096x256 .f32 :=
  Host.exp (subf l (broadcastInDim S2x4x4096x256 ![0, 1, 2, 3] bcast_S2x4x4096x1_S2x4x4096x256_0_1_2_3 (broadcastInDim S2x4x4096x1 ![0, 1, 2] bcast_S2x4x4096_S2x4x4096x1_0_1_2
    (maximumf (broadcastInDim S2x4x4096 ![] bcast_S_S2x4x4096 (constant S_ .f32 0xFF800000#32)) g))))

/-- The weights, each over their sum. -/
def normal (w : FVec Ideal S2x4x4096x256 .f32) : FVec Ideal S2x4x4096x256 .f32 :=
  Host.divf w (broadcastInDim S2x4x4096x256 ![0, 1, 2, 3] bcast_S2x4x4096x1_S2x4x4096x256_0_1_2_3 (broadcastInDim S2x4x4096x1 ![0, 1, 2] bcast_S2x4x4096_S2x4x4096x1_0_1_2
    (Host.reduceAdd w (constant S_ .f32 0x00000000#32) reducesTo_S2x4x4096x256_S2x4x4096_d3 h_S_)))

/-- The reference's result. -/
def result (p : FVec Ideal S2x4096x13312 .bf16) (k : FVec Ideal S512x2048 .bf16) : FVec Ideal S2x4096x1024 .bf16 :=
  truncf .bf16 (shapeCast _ (transpose S2x4096x4x256 [0, 3, 1, 2] (Host.dotGeneral dot_S2x256x4x256_S2x4x4096x256_S2x4x256x4096_1_3_3_2_02_01 none (values k) (normal (weights (logits p k) (tops (logits p k)))))
    transposes_S2x4x256x4096_S2x4096x4x256_0_3_1_2) shapeCasts_S2x4096x4x256_S2x4096x1024) bitsLt_bf16_f32

/-- The queries, read at an element. -/
theorem queries_apply (p : FVec Ideal S2x4096x13312 .bf16) (b : Fin 2) (s : Fin 4096) (h : Fin 4) (d : Fin 256) : queries p (ix4 b s h d) = p (ix3 b s ⟨12288 + (h.val * 256 + d.val), by omega⟩) := by
  pointwise [queries]

/-- The keys, read at an element. -/
theorem keys_apply (k : FVec Ideal S512x2048 .bf16) (b : Fin 2) (x : Fin 256) (h : Fin 4) (d : Fin 256) : keys k (ix4 b x h d) = k (ix2 ⟨b.val * 256 + x.val, by omega⟩ ⟨h.val * 256 + d.val, by omega⟩) := by
  pointwise [keys]

/-- The values, read at an element. -/
theorem values_apply (k : FVec Ideal S512x2048 .bf16) (b : Fin 2) (x : Fin 256) (h : Fin 4) (d : Fin 256) :
    values k (ix4 b x h d) = k (ix2 ⟨b.val * 256 + x.val, by omega⟩ ⟨1024 + (h.val * 256 + d.val), by omega⟩) := by
  pointwise [values]

/-- The scores, read at an element. -/
theorem logits_apply (p : FVec Ideal S2x4096x13312 .bf16) (k : FVec Ideal S512x2048 .bf16) (b : Fin 2) (h : Fin 4) (s : Fin 4096) (x : Fin 256) :
    logits p k (ix4 b h s x) = scores (fun d => queries p (ix4 b s h d)) (fun x d => keys k (ix4 b x h d)) x := by
  unfold scores
  pointwise [logits]

/-- A maximum over the last of four axes, read at an element. -/
theorem top_apply {n0 n1 n2 n3 : ℕ} (l : FVec Ideal ⟨4, ![n0, n1, n2, n3]⟩ .f32) (h : (⟨4, ![n0, n1, n2, n3]⟩ : Shape).ReducesTo [3] ⟨3, ![n0, n1, n2]⟩) (hu : 0 < S_.numel)
    (a : Fin n0) (b : Fin n1) (c : Fin n2) :
    Host.reduce FloatOps.maximumf l (constant S_ .f32 0xFF800000#32) h hu (ix3 a b c) = Finset.univ.fold max (⊥ : EReal) fun x : Fin n3 => l (ix4 a b c x) := by
  rw [← word_bot]
  refine (Host.reduce_eq_fold _ l _ h hu _).trans ?_
  exact h.fold_fiber_r4_a3 _ _ _ _

/-- The greatest score, read at an element. -/
theorem tops_apply (l : FVec Ideal S2x4x4096x256 .f32) (b : Fin 2) (h : Fin 4) (s : Fin 4096) :
    tops l (ix3 b h s) = Finset.univ.fold max (⊥ : EReal) fun x : Fin 256 => l (ix4 b h s x) := top_apply l _ _ b h s

/-- The exponentials, read at an element. -/
theorem weights_apply (l : FVec Ideal S2x4x4096x256 .f32) (g : FVec Ideal S2x4x4096 .f32) (b : Fin 2) (h : Fin 4) (s : Fin 4096) (x : Fin 256) :
    weights l g (ix4 b h s x) = Ideal.exp (l (ix4 b h s x) - g (ix3 b h s)) := by
  pointwise [weights]
  rw [word_bot, bot_sup_eq]

/-- The normalised weights, read at an element. -/
theorem normal_apply (w : FVec Ideal S2x4x4096x256 .f32) (b : Fin 2) (h : Fin 4) (s : Fin 4096) (x : Fin 256) :
    normal w (ix4 b h s x) = Ideal.div (w (ix4 b h s x)) (∑ x : Fin 256, (w (ix4 b h s x) : EReal)) := by
  pointwise [normal]

/-- The result, read at an element. -/
theorem result_apply (p : FVec Ideal S2x4096x13312 .bf16) (k : FVec Ideal S512x2048 .bf16) (b : Fin 2) (s : Fin 4096) (e : Fin 1024) :
    result p k (ix3 b s e) = ∑ x : Fin 256, (values k (ix4 b x ⟨e.val / 256, by omega⟩ ⟨e.val % 256, by omega⟩) : EReal) * normal (weights (logits p k) (tops (logits p k))) (ix4 b ⟨e.val / 256, by omega⟩ s x) := by
  pointwise [result]

/-- The side conditions of the precondition. -/
theorem pre_facts : Cert.Pre_finite_scores.Facts where
  slices_S2x4096x13312_S2x4096x1024_0_0_12288 := by decide
  shapeCasts_S2x4096x1024_S8192x1024 := by decide
  slices_S512x2048_S512x1024_0_0 := by decide
  concatenates_S8192x1024_S512x1024_S8704x1024_d0 := by decide
  bitsLt_bf16_f32 := by decide
  bcast_S_S8704x1024 := by decide

/-- A number whose size is below infinity is finite. -/
theorem finite_of_lt (v : FVec Ideal Cert.Pre_finite_scores.S8704x1024 .bf16) (hb : FTy.bits .bf16 < FTy.bits .f32) (hc : S_.BroadcastsInDim Cert.Pre_finite_scores.S8704x1024 (![] : Fin 0 → Fin Cert.Pre_finite_scores.S8704x1024.rank)) (i : Cert.Pre_finite_scores.S8704x1024.Idx)
    (h : cmpf .olt (Host.absf (extf .f32 v hb)) (broadcastInDim Cert.Pre_finite_scores.S8704x1024 ![] hc (constant S_ .f32 2139095040#32)) i = 1#1) : v i ≠ (⊤ : EReal) ∧ v i ≠ (⊥ : EReal) := by
  have h1 : Ideal.cmp .olt (max (v i : EReal) (-(v i : EReal))) (Ideal.ofBits .f32 2139095040#32) = 1#1 := h
  have h2 : Ideal.ofBits .f32 2139095040#32 = ⊤ := by simp [Ideal.ofBits, Ideal.ieee]
  rw [h2] at h1
  constructor
  · intro e
    rw [e] at h1
    exact absurd h1 (by simp [Ideal.cmp])
  · intro e
    rw [e] at h1
    exact absurd h1 (by simp [Ideal.cmp])

/-- What the precondition says of a query's element. -/
theorem pre_q [Cert.Pre_finite_scores.Facts] (p : FVec Ideal S2x4096x13312 .bf16) (k : FVec Ideal S512x2048 .bf16) (h : Cert.Pre_finite_scores.fn (F := Ideal) p k = fun _ => 1#1)
    (b : Fin 2) (s : Fin 4096) (e : Fin 1024) : p (ix3 b s ⟨12288 + e.val, by omega⟩) ≠ (⊤ : EReal) ∧ p (ix3 b s ⟨12288 + e.val, by omega⟩) ≠ (⊥ : EReal) := by
  have h1 := finite_of_lt _ _ _ _ (congrFun h (ix2 ⟨b.val * 4096 + s.val, by omega⟩ e))
  dsimp only at h1
  rw [concatenate_pair_apply_left (t := Cert.Pre_finite_scores.S8704x1024) (s₁ := Cert.Pre_finite_scores.S8192x1024) 0 _ _ _ _ rfl (ix2 ⟨b.val * 4096 + s.val, by omega⟩ e) (fun a => by fin_cases a <;> rfl)] at h1
  refine Eq.mp (congrArg (fun z : EReal => z ≠ ⊤ ∧ z ≠ ⊥) ?_) h1
  pointwise

/-- What the precondition says of a key's element. -/
theorem pre_k [Cert.Pre_finite_scores.Facts] (p : FVec Ideal S2x4096x13312 .bf16) (k : FVec Ideal S512x2048 .bf16) (h : Cert.Pre_finite_scores.fn (F := Ideal) p k = fun _ => 1#1)
    (x : Fin 512) (e : Fin 1024) : k (ix2 x ⟨e.val, by omega⟩) ≠ (⊤ : EReal) ∧ k (ix2 x ⟨e.val, by omega⟩) ≠ (⊥ : EReal) := by
  have h1 := finite_of_lt _ _ _ _ (congrFun h (ix2 ⟨8192 + x.val, by omega⟩ e))
  dsimp only at h1
  rw [concatenate_pair_apply_right (t := Cert.Pre_finite_scores.S8704x1024) (s₁ := Cert.Pre_finite_scores.S8192x1024) (s₂ := Cert.Pre_finite_scores.S512x1024) 0 _ _ _ (ix2 ⟨8192 + x.val, by omega⟩ e) rfl rfl (ix2 x e)
    (fun a ha => by fin_cases a <;> first | exact absurd rfl ha | rfl) (show x.val + 8192 = 8192 + x.val by omega)] at h1
  refine Eq.mp (congrArg (fun z : EReal => z ≠ ⊤ ∧ z ≠ ⊥) ?_) h1
  pointwise

/-- Under the precondition the reference's result is the attention to the memory. -/
theorem result_eq [Cert.Pre_finite_scores.Facts] (p : FVec Ideal S2x4096x13312 .bf16) (k : FVec Ideal S512x2048 .bf16) (h : Cert.Pre_finite_scores.fn (F := Ideal) p k = fun _ => 1#1) :
    result p k = fun i : S2x4096x1024.Idx => attended p k (i 0) (i 1) (i 2) := by
  funext i
  obtain ⟨b, s, e, rfl⟩ : ∃ (b : Fin 2) (s : Fin 4096) (e : Fin 1024), i = ix3 b s e := ⟨i 0, i 1, i 2, by idx_vars i⟩
  refine (result_apply p k b s e).trans ?_
  show _ = attended p k b s e
  unfold attended attend
  refine Eq.trans ?_ (div_sum _ _ (fun x => exp_nonneg _) (soft_sum_ne_zero _ (scores_finite _ _ (fun d => pre_q p k h b s ⟨e.val / 256 * 256 + d.val, by omega⟩)
    fun x d => pre_k p k h ⟨b.val * 256 + x.val, by omega⟩ ⟨e.val / 256 * 256 + d.val, by omega⟩))).symm
  refine Finset.sum_congr rfl fun x _ => ?_
  rw [values_apply, normal_apply]
  simp only [weights_apply, tops_apply, logits_apply, queries_apply, keys_apply]

end Cert.Reference6Ideal.Hand

end
-- ==== Proof.lean ====
/- The claims about each call: the frames of the three programs, that the idealised kernel preserves the kernel,
   and that it computes the reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.Mlp
public import proofs.«01_k».proof.Proof.OutProj
public import proofs.«01_k».proof.Proof.Merge
public import proofs.«01_k».proof.Proof.Gen.Kernel7.Frame
public import proofs.«01_k».proof.Proof.Gen.Kernel7Ideal.Value
public import proofs.«01_k».proof.Proof.Gen.Reference7Ideal.Run
public import proofs.«01_k».proof.Proof.Norm
public import proofs.«01_k».proof.Proof.MemKv
public import proofs.«01_k».proof.Proof.MemAttn
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Init

@[expose] public section

noncomputable section

namespace Cert.Proof

open Idealize.ShloMosaic Idealize.ShloMosaic.Tactic Idealize.SL.Sem

/-- The kernel's body and its idealisation's are one text: at equal labels they are equal programs. -/
theorem defs₀_same : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | ⟨0, _⟩, (t, s) => rfl

/-- So are the programs with their pipeline. -/
theorem defs_same : @Cert.Kernel.defs Bits _ _ = @Cert.KernelIdeal.defs Bits _ _ :=
  congrArg (Pipeline.defs (Cert.Kernel.pcfgs (F := Bits))) defs₀_same

/-- The kernel, on floats, ends with its arguments unchanged and its counters at zero. -/
theorem frame_kernel : Cert.quiescent_Kernel := fun m ρ _ => by
  rw [defs_same]
  exact Cert.KernelIdeal.Hand.frame (F := Bits) m ρ

/-- The idealised kernel ends with its arguments unchanged and its counters at zero. -/
theorem frame_ideal : Cert.quiescent_KernelIdeal := fun m ρ _ => Cert.KernelIdeal.Hand.frame m ρ

/-- The idealised reference ends with its arguments unchanged and its counters at zero. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

open Cert.KernelIdeal.Hand (proj gain want argH argW argQ argK argM dats) in
/-- The reference's first result, read from arguments equal to the kernel's. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = argH m c)
    (h1 : m' ((c.tc : Thread Cert.ReferenceIdeal.nD Cert.ReferenceIdeal.τ).loc Cert.ReferenceIdeal.main_arg1) = argW m c)
    (h2 : m' ((c.tc : Thread Cert.ReferenceIdeal.nD Cert.ReferenceIdeal.τ).loc Cert.ReferenceIdeal.main_arg2) = argQ m c)
    (h3 : m' ((c.tc : Thread Cert.ReferenceIdeal.nD Cert.ReferenceIdeal.τ).loc Cert.ReferenceIdeal.main_arg3) = argK m c)
    (h4 : m' ((c.tc : Thread Cert.ReferenceIdeal.nD Cert.ReferenceIdeal.τ).loc Cert.ReferenceIdeal.main_arg4) = argM m c) :
    Cert.ReferenceIdeal.Value.res_main_v86 m' c = fun i : Cert.ReferenceIdeal.S8192x13312.Idx => want (proj m c) (gain m c) (i 0).val (i 1).val := by
  rw [Cert.ReferenceIdeal.Hand.res_eq, h0, h1, h2, h3, h4]
  funext i
  obtain ⟨r, e, rfl⟩ : ∃ (r : Fin 8192) (e : Fin 13312), i = ix2 r e := ⟨i 0, i 1, by idx_vars i⟩
  refine (Cert.ReferenceIdeal.Hand.joined_apply _ _ _ _ r e).trans ?_
  refine congrArg (fun P => want P (gain m c) r.val e.val) (funext fun r => funext fun n => ?_)
  exact Cert.ReferenceIdeal.Hand.prod_at _ _ r n

/-- The idealised kernel computes the idealised reference's results. -/
theorem algebraic : Cert.algebraic_KernelIdeal_ReferenceIdeal := fun m g m' g' _ hm =>
  ⟨fun c i => Cert.KernelIdeal.Hand.want (Cert.KernelIdeal.Hand.proj m c) (Cert.KernelIdeal.Hand.gain m c) (i 0).val (i 1).val,
    fun c => m ((c.tc : Thread Cert.KernelIdeal.nD Cert.KernelIdeal.τ).loc Cert.KernelIdeal.main_arg5),
    fun c => m ((c.tc : Thread Cert.KernelIdeal.nD Cert.KernelIdeal.τ).loc Cert.KernelIdeal.main_arg6),
    (θ_run Cert.KernelIdeal.defs _ _).mono (fun _ h c =>
      ⟨((h.1 c).1 5).trans (Cert.KernelIdeal.Hand.out5 m c), ((h.1 c).1 6).trans (Cert.KernelIdeal.Hand.out6 m c),
        ((h.1 c).1 7).trans (Cert.KernelIdeal.Hand.out7 m c), h.2.1 c⟩)
      (θ_run_and (Cert.KernelIdeal.Hand.run_main m g) (Cert.KernelIdeal.Hand.frame m g)),
    (θ_run Cert.ReferenceIdeal.defs _ _).mono (fun _ h c =>
      ⟨(h c).1.trans (ref_value m m' c (hm c).1 (hm c).2.1 (hm c).2.2.1 (hm c).2.2.2.1 (hm c).2.2.2.2.1),
        (h c).2.1.trans (hm c).2.2.2.2.2.1, (h c).2.2.1.trans (hm c).2.2.2.2.2.2, (h c).2.2.2⟩)
      (Cert.ReferenceIdeal.Value.run m' g')⟩

/-! ## The MLP -/

/-- The MLP, on floats, ends with its arguments unchanged and its counters at zero. -/
theorem frame_kernel2 : Cert.quiescent_Kernel2 := fun m ρ _ => Cert.Kernel2.Gen.frame m ρ

/-- So does its idealisation. -/
theorem frame_ideal2 : Cert.quiescent_Kernel2Ideal := fun m ρ _ => Cert.Kernel2Ideal.Gen.frame m ρ

/-- So does its reference. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealised MLP computes its idealised reference's result. -/
theorem algebraic2 : Cert.algebraic_Kernel2Ideal_Reference2Ideal := fun m g m' g' _ hm =>
  ⟨fun c i => Cert.Kernel2Ideal.Hand.mlp m c (i 0).val (i 1),
    (θ_run Cert.Kernel2Ideal.defs _ _).mono (fun _ h c => ⟨(h c).1.trans (Cert.Kernel2Ideal.Hand.out4 m c), (h c).2⟩)
      (Cert.Kernel2Ideal.Value.run_blocks m g),
    (θ_run Cert.Reference2Ideal.defs _ _).mono (fun _ h c =>
      ⟨(h c).1.trans ((congrFun (congr (congr (congrArg Cert.Reference2Ideal.Hand.result (hm c).1) (hm c).2.1) (hm c).2.2.1) _).trans
          ((congrArg (Cert.Reference2Ideal.Hand.result _ _ _) (hm c).2.2.2).trans (Cert.Reference2Ideal.Hand.result_eq m c))), (h c).2⟩)
      (Cert.Reference2Ideal.Value.run m' g')⟩

/-- The output projection ends, changes no argument and leaves the counters at zero. -/
theorem frame_kernel3 : Cert.quiescent_Kernel3 := fun m ρ _ => Cert.Kernel3.Gen.frame m ρ

/-- The same of the idealized output projection. -/
theorem frame_ideal3 : Cert.quiescent_Kernel3Ideal := fun m ρ _ => Cert.Kernel3Ideal.Gen.frame m ρ

/-- The same of its reference. -/
theorem frame_ref3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The idealized output projection and its reference leave the same two results. -/
theorem algebraic3 : Cert.algebraic_Kernel3Ideal_Reference3Ideal := fun m g m' g' _ hm =>
  have e := fun c => congr (congr (congrArg Cert.Reference3Ideal.Hand.stream (hm c).1) (hm c).2.1) (hm c).2.2.1
  ⟨fun c i => Cert.Kernel3Ideal.Hand.stream m c (i 0).val (i 1),
    fun c i => Cert.Kernel3Ideal.Hand.normed (Cert.Kernel3Ideal.Hand.stream m c (i 0).val) (Cert.Kernel3Ideal.Hand.argG m c (ix1 (i 1))) (i 1),
    (θ_run Cert.Kernel3Ideal.defs _ _).mono (fun _ h c =>
      ⟨(h c).1.trans (Cert.Kernel3Ideal.Hand.out4 m c), (h c).2.1.trans (Cert.Kernel3Ideal.Hand.out5 m c), (h c).2.2⟩)
      (Cert.Kernel3Ideal.Value.run_blocks m g),
    (θ_run Cert.Reference3Ideal.defs _ _).mono (fun _ h c =>
      ⟨(h c).1.trans ((e c).trans (Cert.Reference3Ideal.Hand.stream_eq m c)),
        (h c).2.1.trans ((congr (congrArg Cert.Reference3Ideal.Hand.normed (e c)) (hm c).2.2.2).trans (Cert.Reference3Ideal.Hand.normed_eq m c)), (h c).2.2⟩)
      (Cert.Reference3Ideal.Value.run m' g')⟩

/-- The gated merge ends, changes no argument and leaves the counters at zero. -/
theorem frame_kernel4 : Cert.quiescent_Kernel4 := fun m ρ _ => Cert.Kernel4.Gen.frame m ρ

/-- The same of the idealized merge. -/
theorem frame_ideal4 : Cert.quiescent_Kernel4Ideal := fun m ρ _ => Cert.Kernel4Ideal.Gen.frame m ρ

/-- The same of its reference. -/
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealized merge and its reference leave the same result. -/
theorem algebraic4 : Cert.algebraic_Kernel4Ideal_Reference4Ideal := fun m g m' g' _ hm =>
  have e := fun c => congr (congr (congr (congr (congr (congr (congrArg Cert.Reference4Ideal.Hand.result (hm c).1) (hm c).2.1) (hm c).2.2.1) (hm c).2.2.2.1)
    (hm c).2.2.2.2.1) (hm c).2.2.2.2.2.1) (hm c).2.2.2.2.2.2
  ⟨fun c i => Cert.Kernel4Ideal.Hand.merged m c (i 0).val (i 1).val,
    (θ_run Cert.Kernel4Ideal.defs _ _).mono (fun _ h c => ⟨(h c).1.trans (Cert.Kernel4Ideal.Hand.out8 m c), (h c).2⟩)
      (Cert.Kernel4Ideal.Value.run_blocks m g),
    (θ_run Cert.Reference4Ideal.defs _ _).mono (fun _ h c => ⟨(h c).1.trans ((e c).trans (Cert.Reference4Ideal.Hand.result_eq m c)), (h c).2⟩)
      (Cert.Reference4Ideal.Value.run m' g')⟩

/-- The keys' and values' call runs and leaves its arguments as they were. -/
theorem frame_kernel5 : Cert.quiescent_Kernel5 := fun m ρ _ => Cert.Kernel5.Gen.frame m ρ

/-- The same of the idealized call. -/
theorem frame_ideal5 : Cert.quiescent_Kernel5Ideal := fun m ρ _ => Cert.Kernel5Ideal.Gen.frame m ρ

/-- The same of its reference. -/
theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The idealized keys' and values' call and its reference leave the same result. -/
theorem algebraic5 : Cert.algebraic_Kernel5Ideal_Reference5Ideal := fun m g m' g' _ hm =>
  have e := fun c => congr (congr (congr (congrArg Cert.Reference5Ideal.Hand.result (hm c).1) (hm c).2.1) (hm c).2.2.1) (hm c).2.2.2
  ⟨fun c i => Cert.Kernel5Ideal.Hand.keysValues (Cert.Kernel5Ideal.Hand.argX m c) (Cert.Kernel5Ideal.Hand.argG m c) (Cert.Kernel5Ideal.Hand.argW m c) (Cert.Kernel5Ideal.Hand.argK m c) (i 0) (i 1),
    (θ_run Cert.Kernel5Ideal.defs _ _).mono (fun _ h c => ⟨(h c).1.trans (Cert.Kernel5Ideal.Hand.out4 m c), (h c).2⟩)
      (Cert.Kernel5Ideal.Value.run_blocks m g),
    (θ_run Cert.Reference5Ideal.defs _ _).mono (fun _ h c => ⟨(h c).1.trans ((e c).trans (Cert.Reference5Ideal.Hand.result_eq _ _ _ _)), (h c).2⟩)
      (Cert.Reference5Ideal.Value.run m' g')⟩

/-- The memory attention runs and leaves its arguments as they were. -/
theorem frame_kernel6 : Cert.quiescent_Kernel6 := fun m ρ _ => Cert.Kernel6.Gen.frame m ρ

/-- The same of the idealized memory attention. -/
theorem frame_ideal6 : Cert.quiescent_Kernel6Ideal := fun m ρ _ => Cert.Kernel6Ideal.Gen.frame m ρ

/-- The same of its reference. -/
theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The idealized memory attention and its reference leave the same result when the queries and the keys are finite. -/
theorem algebraic6 : Cert.algebraic_Kernel6Ideal_Reference6Ideal_pre_finite_scores (hPre_finite_scores := Cert.Reference6Ideal.Hand.pre_facts) := fun m g m' g' hp hm =>
  have e := fun c => congr (congrArg Cert.Reference6Ideal.Hand.result (hm c).1) (hm c).2
  have r := fun c => @Cert.Reference6Ideal.Hand.result_eq Cert.Reference6Ideal.Hand.pre_facts (Cert.Kernel6Ideal.Hand.argP m c) (Cert.Kernel6Ideal.Hand.argK m c) (hp c)
  ⟨fun c i => Cert.Kernel6Ideal.Hand.attended (Cert.Kernel6Ideal.Hand.argP m c) (Cert.Kernel6Ideal.Hand.argK m c) (i 0) (i 1) (i 2),
    (θ_run Cert.Kernel6Ideal.defs _ _).mono (fun _ h c => ⟨(h c).1.trans (Cert.Kernel6Ideal.Hand.out2 m c), (h c).2⟩)
      (Cert.Kernel6Ideal.Value.run_blocks m g),
    (θ_run Cert.Reference6Ideal.defs _ _).mono (fun _ h c => ⟨(h c).1.trans ((e c).trans (r c)), (h c).2⟩)
      (Cert.Reference6Ideal.Value.run m' g')⟩

/-- The first norm's call runs and leaves its arguments as they were. -/
theorem frame_kernel7 : Cert.quiescent_Kernel7 := fun m ρ _ => Cert.Kernel7.Gen.frame m ρ

/-- The same of the idealized call. -/
theorem frame_ideal7 : Cert.quiescent_Kernel7Ideal := fun m ρ _ => Cert.Kernel7Ideal.Gen.frame m ρ

/-- The same of its reference. -/
theorem frame_ref7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The idealized first norm and its reference leave the same result. -/
theorem algebraic7 : Cert.algebraic_Kernel7Ideal_Reference7Ideal := fun m g m' g' _ hm =>
  have e := fun c => congr (congrArg Cert.Reference7Ideal.Hand.result (hm c).1) (hm c).2.1
  ⟨fun c i => Cert.Kernel7Ideal.Hand.stream (Cert.Kernel7Ideal.Hand.argX m c) (Cert.Kernel7Ideal.Hand.argG m c) (i 0) (i 1) (i 2),
    (θ_run Cert.Kernel7Ideal.defs _ _).mono (fun _ h c => ⟨(h c).1.trans (Cert.Kernel7Ideal.Hand.out5 m c), (h c).2.2.2⟩)
      (Cert.Kernel7Ideal.Value.run_blocks m g),
    (θ_run Cert.Reference7Ideal.defs _ _).mono (fun _ h c => ⟨(h c).1.trans ((e c).trans (Cert.Reference7Ideal.Hand.result_eq _ _)), (h c).2⟩)
      (Cert.Reference7Ideal.Value.run m' g')⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Reference6Ideal.Hand.pre_facts,
  frame_kernel, frame_ideal, frame_ref, frame_kernel2, frame_ideal2, frame_ref2,
  frame_kernel3, frame_ideal3, frame_ref3, frame_kernel4, frame_ideal4, frame_ref4,
  frame_kernel5, frame_ideal5, frame_ref5, frame_kernel6, frame_ideal6, fun m ρ _ => frame_ideal6 m ρ trivial, frame_ref6, fun m ρ _ => frame_ref6 m ρ trivial,
  frame_kernel7, frame_ideal7, frame_ref7,
  trivial, algebraic, trivial, algebraic2, trivial, algebraic3, trivial, algebraic4, trivial, algebraic5, trivial, algebraic6, trivial, algebraic7⟩

end Cert.Proof

end
